-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_hidden_finite [hPre_hidden_finite : Cert.Pre_hidden_finite.Facts] (m : (ℓ : Loc Cert.KernelIdeal.nD Cert.KernelIdeal.τ Cert.KernelIdeal.sig) → Buf (Elt Ideal) ℓ) : Prop :=
  ∀ c : Dev Cert.KernelIdeal.nD,
    (Cert.Pre_hidden_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_hidden_finite [hPre_hidden_finite : Cert.Pre_hidden_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_hidden_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_hidden_finite [hKernelIdeal : Cert.KernelIdeal.Facts] [hPre_hidden_finite : Cert.Pre_hidden_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_hidden_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_hidden_finite [hReferenceIdeal : Cert.ReferenceIdeal.Facts] [hPre_hidden_finite : Cert.Pre_hidden_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_hidden_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def preserves_Kernel_KernelIdeal : Prop :=
  IdealRules.named_const.Statement Cert.KernelIdeal.κ "half_log2e" .f32 0x3F38AA3B#32 (((Real.log 2)⁻¹ * (1 / 2) : ℝ) : EReal)
  ∧ IdealRules.named_const.Statement Cert.KernelIdeal.κ "ln2" .f32 0x3F317218#32 ((Real.log 2 : ℝ) : EReal)
  ∧ IdealRules.named_const.Statement Cert.KernelIdeal.κ "log_v" .f32 0x413EE641#32 ((Real.log 151936 : ℝ) : EReal)

def preserves_Reference_ReferenceIdeal : Prop :=
  IdealRules.named_const.Statement Cert.ReferenceIdeal.κ "log2e" .f32 0x3FB8AA3B#32 (((Real.log 2)⁻¹ : ℝ) : EReal)
  ∧ IdealRules.named_const.Statement Cert.ReferenceIdeal.κ "ln2" .f32 0x3F317218#32 ((Real.log 2 : ℝ) : EReal)
  ∧ IdealRules.named_const.Statement Cert.ReferenceIdeal.κ "log_v" .f32 0x413EE641#32 ((Real.log 151936 : ℝ) : EReal)

def algebraic_KernelIdeal_ReferenceIdeal_pre_hidden_finite [hKernelIdeal : Cert.KernelIdeal.Facts] [hReferenceIdeal : Cert.ReferenceIdeal.Facts] [hPre_hidden_finite : Cert.Pre_hidden_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_hidden_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)) (v6 : (c : Dev Cert.KernelIdeal.nD) → Buf (Elt Ideal) ((c.tc : Thread Cert.KernelIdeal.nD Cert.KernelIdeal.τ).loc Cert.KernelIdeal.main_v4_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_v4_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hReference : Cert.Reference.Facts) (hPre_hidden_finite : Cert.Pre_hidden_finite.Facts),
    quiescent_Kernel (hKernel := hKernel)
    ∧ quiescent_KernelIdeal (hKernelIdeal := hKernelIdeal)
    ∧ quiescent_KernelIdeal_pre_hidden_finite (hKernelIdeal := hKernelIdeal) (hPre_hidden_finite := hPre_hidden_finite)
    ∧ quiescent_ReferenceIdeal (hReferenceIdeal := hReferenceIdeal)
    ∧ quiescent_ReferenceIdeal_pre_hidden_finite (hReferenceIdeal := hReferenceIdeal) (hPre_hidden_finite := hPre_hidden_finite)
    ∧ quiescent_Reference (hReference := hReference)
    ∧ preserves_Kernel_KernelIdeal
    ∧ preserves_Reference_ReferenceIdeal
    ∧ algebraic_KernelIdeal_ReferenceIdeal_pre_hidden_finite (hKernelIdeal := hKernelIdeal) (hReferenceIdeal := hReferenceIdeal) (hPre_hidden_finite := hPre_hidden_finite)
-- ==== Pre_hidden_finite.lean ====
abbrev S2x128x2048 : Shape := ⟨3, ![2, 128, 2048]⟩
abbrev S2x128x896 : Shape := ⟨3, ![2, 128, 896]⟩
abbrev S151936x2048 : Shape := ⟨2, ![151936, 2048]⟩
abbrev S151936 : Shape := ⟨1, ![151936]⟩
abbrev S151936x896 : Shape := ⟨2, ![151936, 896]⟩
abbrev S_ : Shape := ⟨0, ![]⟩

class Facts : Prop where
  bitsLt_bf16_f32 : FTy.bits .bf16 < FTy.bits .f32
  bcast_S_S2x128x2048 : S_.BroadcastsInDim S2x128x2048 (![] : Fin 0 → Fin S2x128x2048.rank)
  reducesTo_S2x128x2048_S_d0_1_2 : S2x128x2048.ReducesTo [0, 1, 2] S_
  h_S_ : 0 < S_.numel
  bcast_S_S2x128x896 : S_.BroadcastsInDim S2x128x896 (![] : Fin 0 → Fin S2x128x896.rank)
  reducesTo_S2x128x896_S_d0_1_2 : S2x128x896.ReducesTo [0, 1, 2] S_

variable [Facts]

def fn {F : FTy → Type} [FloatOps F] (main_arg0 : FVec F S2x128x2048 .bf16) (main_arg1 : FVec F S2x128x896 .bf16) (main_arg2 : FVec F S151936x2048 .fp8e4m3) (main_arg3 : FVec F S151936 .f32) (main_arg4 : FVec F S151936x896 .fp8e4m3) (main_arg5 : FVec F S151936 .f32) : IVec S_ 1 :=
  let main_v0 : FVec F S2x128x2048 .f32 := (extf .f32 · bitsLt_bf16_f32) main_arg0
  let main_v1 : FVec F S2x128x2048 .f32 := Host.absf main_v0
  let main_cst : FVec F S_ .f32 := constant S_ .f32 0x7F7F0000#32
  let main_v2 : FVec F S2x128x2048 .f32 := broadcastInDim S2x128x2048 ![] bcast_S_S2x128x2048 main_cst
  let main_v3 : IVec S2x128x2048 1 := cmpf .ole main_v1 main_v2
  let main_c : IVec S_ 1 := constantI S_ 1 1#1
  let main_v4 : IVec S_ 1 := (fun x v => Host.reduce IntOp.andi x v reducesTo_S2x128x2048_S_d0_1_2 h_S_) main_v3 main_c
  let main_v5 : FVec F S2x128x896 .f32 := (extf .f32 · bitsLt_bf16_f32) main_arg1
  let main_v6 : FVec F S2x128x896 .f32 := Host.absf main_v5
  let main_cst_0 : FVec F S_ .f32 := constant S_ .f32 0x7F7F0000#32
  let main_v7 : FVec F S2x128x896 .f32 := broadcastInDim S2x128x896 ![] bcast_S_S2x128x896 main_cst_0
  let main_v8 : IVec S2x128x896 1 := cmpf .ole main_v6 main_v7
  let main_c_1 : IVec S_ 1 := constantI S_ 1 1#1
  let main_v9 : IVec S_ 1 := (fun x v => Host.reduce IntOp.andi x v reducesTo_S2x128x896_S_d0_1_2 h_S_) main_v8 main_c_1
  let main_v10 : IVec S_ 1 := andi main_v4 main_v9
  main_v10
-- ==== Kernel.lean ====
abbrev S2x128x2048 : Shape := ⟨3, ![2, 128, 2048]⟩
abbrev S2x128x896 : Shape := ⟨3, ![2, 128, 896]⟩
abbrev S151936x2048 : Shape := ⟨2, ![151936, 2048]⟩
abbrev S151936 : Shape := ⟨1, ![151936]⟩
abbrev S151936x896 : Shape := ⟨2, ![151936, 896]⟩
abbrev S256x2048 : Shape := ⟨2, ![256, 2048]⟩
abbrev S256x896 : Shape := ⟨2, ![256, 896]⟩
abbrev S1187x128 : Shape := ⟨2, ![1187, 128]⟩
abbrev S2x128 : Shape := ⟨2, ![2, 128]⟩
abbrev S2048x2048 : Shape := ⟨2, ![2048, 2048]⟩
abbrev S2048x896 : Shape := ⟨2, ![2048, 896]⟩
abbrev S16x128 : Shape := ⟨2, ![16, 128]⟩
abbrev S5x8x256 : Shape := ⟨3, ![5, 8, 256]⟩
abbrev S2x8x256 : Shape := ⟨3, ![2, 8, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S256x128 : Shape := ⟨2, ![256, 128]⟩
abbrev S128x256 : Shape := ⟨2, ![128, 256]⟩
abbrev S1x128 : Shape := ⟨2, ![1, 128]⟩
abbrev S8x256 : Shape := ⟨2, ![8, 256]⟩
abbrev S1x8x256 : Shape := ⟨3, ![1, 8, 256]⟩
abbrev S3x8x256 : Shape := ⟨3, ![3, 8, 256]⟩
abbrev S128x16 : Shape := ⟨2, ![128, 16]⟩
abbrev S512x2048 : Shape := ⟨2, ![512, 2048]⟩
abbrev S512x256 : Shape := ⟨2, ![512, 256]⟩
abbrev S128x1 : Shape := ⟨2, ![128, 1]⟩
abbrev S512x896 : Shape := ⟨2, ![512, 896]⟩
abbrev S16x8x256 : Shape := ⟨3, ![16, 8, 256]⟩
abbrev S384x2048 : Shape := ⟨2, ![384, 2048]⟩
abbrev S384x256 : Shape := ⟨2, ![384, 256]⟩
abbrev S384x896 : Shape := ⟨2, ![384, 896]⟩
abbrev S1x1x256 : Shape := ⟨3, ![1, 1, 256]⟩

abbrev nBuf : Space → Nat
  | .hbm => 17
  | .vmem => 19
  | .smem => 0
  | _ => 0

abbrev bufTy : (tb : Table) → Fin (tcTables nBuf tb) → BufTy
  | .hbm, ⟨0, _⟩ => ⟨S2x128x2048, .bf16⟩
  | .hbm, ⟨1, _⟩ => ⟨S2x128x896, .bf16⟩
  | .hbm, ⟨2, _⟩ => ⟨S151936x2048, .fp8e4m3⟩
  | .hbm, ⟨3, _⟩ => ⟨S151936, .f32⟩
  | .hbm, ⟨4, _⟩ => ⟨S151936x896, .fp8e4m3⟩
  | .hbm, ⟨5, _⟩ => ⟨S151936, .f32⟩
  | .hbm, ⟨6, _⟩ => ⟨S256x2048, .bf16⟩
  | .hbm, ⟨7, _⟩ => ⟨S256x896, .bf16⟩
  | .hbm, ⟨8, _⟩ => ⟨S1187x128, .f32⟩
  | .hbm, ⟨9, _⟩ => ⟨S1187x128, .f32⟩
  | .hbm, ⟨10, _⟩ => ⟨S2x128, .f32⟩
  | .hbm, ⟨11, _⟩ => ⟨S2x128, .f32⟩
  | .hbm, ⟨12, _⟩ => ⟨S2x128, .f32⟩
  | .hbm, ⟨13, _⟩ => ⟨S256x2048, .fp8e4m3⟩
  | .hbm, ⟨14, _⟩ => ⟨S2x128, .f32⟩
  | .hbm, ⟨15, _⟩ => ⟨S256x896, .fp8e4m3⟩
  | .hbm, ⟨16, _⟩ => ⟨S2x128, .f32⟩
  | .local _ .vmem, ⟨0, _⟩ => ⟨S256x2048, .bf16⟩
  | .local _ .vmem, ⟨1, _⟩ => ⟨S256x896, .bf16⟩
  | .local _ .vmem, ⟨2, _⟩ => ⟨S2048x2048, .fp8e4m3⟩
  | .local _ .vmem, ⟨3, _⟩ => ⟨S2048x2048, .fp8e4m3⟩
  | .local _ .vmem, ⟨4, _⟩ => ⟨S2048x896, .fp8e4m3⟩
  | .local _ .vmem, ⟨5, _⟩ => ⟨S2048x896, .fp8e4m3⟩
  | .local _ .vmem, ⟨6, _⟩ => ⟨S16x128, .f32⟩
  | .local _ .vmem, ⟨7, _⟩ => ⟨S16x128, .f32⟩
  | .local _ .vmem, ⟨8, _⟩ => ⟨S16x128, .f32⟩
  | .local _ .vmem, ⟨9, _⟩ => ⟨S16x128, .f32⟩
  | .local _ .vmem, ⟨10, _⟩ => ⟨S2x128, .f32⟩
  | .local _ .vmem, ⟨11, _⟩ => ⟨S2x128, .f32⟩
  | .local _ .vmem, ⟨12, _⟩ => ⟨S2x128, .f32⟩
  | .local _ .vmem, ⟨13, _⟩ => ⟨S256x2048, .fp8e4m3⟩
  | .local _ .vmem, ⟨14, _⟩ => ⟨S2x128, .f32⟩
  | .local _ .vmem, ⟨15, _⟩ => ⟨S256x896, .fp8e4m3⟩
  | .local _ .vmem, ⟨16, _⟩ => ⟨S2x128, .f32⟩
  | .local _ .vmem, ⟨17, _⟩ => ⟨S5x8x256, .f32⟩
  | .local _ .vmem, ⟨18, _⟩ => ⟨S2x8x256, .f32⟩
  | _, _ => ⟨S2x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v4_6 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![75], ![false]⟩

def k0_cond3 (i : grid0.Coords) : BitVec 1 :=
  let arg0 : BitVec 32 := BitVec.ofNat 32 (i 0).val
  let c74_i32_5 : BitVec 32 := 74#32
  let v12 : BitVec 1 := Scalar.cmpi .eq arg0 c74_i32_5
  let v13 : BitVec 32 := Scalar.extui v12
  let c0_i32_6 : BitVec 32 := 0#32
  let v14 : BitVec 1 := Scalar.cmpi .ne v13 c0_i32_6
  v14

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x896 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x896 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "half_log2e" => some (((Real.log 2)⁻¹ * (1 / 2) : ℝ) : EReal)
  | "ln2" => some ((Real.log 2 : ℝ) : EReal)
  | "log_v" => some ((Real.log 151936 : ℝ) : EReal)
  | _ => none
-- ==== ReferenceIdeal.lean ====
variable {F : FTy → Type} [FloatOps F] [Named F]
def κ : String → Option EReal := fun
  | "ln2" => some ((Real.log 2 : ℝ) : EReal)
  | "log2e" => some (((Real.log 2)⁻¹ : ℝ) : EReal)
  | "log_v" => some ((Real.log 151936 : ℝ) : EReal)
  | _ => none
-- ==== Reference.lean ====
abbrev S2x128x2048 : Shape := ⟨3, ![2, 128, 2048]⟩
abbrev S2x128x896 : Shape := ⟨3, ![2, 128, 896]⟩
abbrev S151936x2048 : Shape := ⟨2, ![151936, 2048]⟩
abbrev S151936 : Shape := ⟨1, ![151936]⟩
abbrev S151936x896 : Shape := ⟨2, ![151936, 896]⟩
abbrev S2x128 : Shape := ⟨2, ![2, 128]⟩
abbrev S256x2048 : Shape := ⟨2, ![256, 2048]⟩
abbrev S256x896 : Shape := ⟨2, ![256, 896]⟩
abbrev S256 : Shape := ⟨1, ![256]⟩
abbrev S256x1 : Shape := ⟨2, ![256, 1]⟩
abbrev S256x151936 : Shape := ⟨2, ![256, 151936]⟩
abbrev S1x151936 : Shape := ⟨2, ![1, 151936]⟩

abbrev nBuf : Space → Nat
  | .hbm => 13
  | .vmem => 13
  | .smem => 0
  | _ => 0

abbrev bufTy : (tb : Table) → Fin (tcTables nBuf tb) → BufTy
  | .hbm, ⟨0, _⟩ => ⟨S2x128x2048, .bf16⟩
  | .hbm, ⟨1, _⟩ => ⟨S2x128x896, .bf16⟩
  | .hbm, ⟨2, _⟩ => ⟨S151936x2048, .fp8e4m3⟩
  | .hbm, ⟨3, _⟩ => ⟨S151936, .f32⟩
  | .hbm, ⟨4, _⟩ => ⟨S151936x896, .fp8e4m3⟩
  | .hbm, ⟨5, _⟩ => ⟨S151936, .f32⟩
  | .hbm, ⟨6, _⟩ => ⟨S2x128, .f32⟩
  | .hbm, ⟨7, _⟩ => ⟨S2x128, .f32⟩
  | .hbm, ⟨8, _⟩ => ⟨S2x128, .f32⟩
  | .hbm, ⟨9, _⟩ => ⟨S256x2048, .fp8e4m3⟩
  | .hbm, ⟨10, _⟩ => ⟨S2x128, .f32⟩
  | .hbm, ⟨11, _⟩ => ⟨S256x896, .fp8e4m3⟩
  | .hbm, ⟨12, _⟩ => ⟨S2x128, .f32⟩
  | .local _ .vmem, ⟨0, _⟩ => ⟨S2x128x2048, .bf16⟩
  | .local _ .vmem, ⟨1, _⟩ => ⟨S2x128x896, .bf16⟩
  | .local _ .vmem, ⟨2, _⟩ => ⟨S151936x2048, .fp8e4m3⟩
  | .local _ .vmem, ⟨3, _⟩ => ⟨S151936, .f32⟩
  | .local _ .vmem, ⟨4, _⟩ => ⟨S151936x896, .fp8e4m3⟩
  | .local _ .vmem, ⟨5, _⟩ => ⟨S151936, .f32⟩
  | .local _ .vmem, ⟨6, _⟩ => ⟨S2x128, .f32⟩
  | .local _ .vmem, ⟨7, _⟩ => ⟨S2x128, .f32⟩
  | .local _ .vmem, ⟨8, _⟩ => ⟨S2x128, .f32⟩
  | .local _ .vmem, ⟨9, _⟩ => ⟨S256x2048, .fp8e4m3⟩
  | .local _ .vmem, ⟨10, _⟩ => ⟨S2x128, .f32⟩
  | .local _ .vmem, ⟨11, _⟩ => ⟨S256x896, .fp8e4m3⟩
  | .local _ .vmem, ⟨12, _⟩ => ⟨S2x128, .f32⟩
  | _, _ => ⟨S2x128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S2x128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S151936x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S151936 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S151936x896 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S151936 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x2048 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x896 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Kernel.Points.lean ====
module

public import proofs.«01_k».proof.Proof.Gen.Kernel.Frame
public import proofs.«01_k».proof.Proof.Gen.Kernel.Skeleton
public import Idealize.ShloMosaic.Lib.Pipeline.TableIdle

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! What the runs of the body share: the branch conditions in closed form over the points, the staging and scratch
    memrefs at a point, and the region's invariant with the scratch named. -/

/-- The first branch's condition: the first point. -/
abbrev condA (i : grid0.Coords) : Prop := k0_cond1 i = 1#1
theorem hcondA : ∀ t : Fin cfg0.N, condA (grid0.coords t) ↔ t.val = 0 :=
  (by decide +kernel : ∀ t : Fin grid0.N, condA (grid0.coords t) ↔ t.val = 0)
/-- The second branch's condition: a full block of rows. -/
abbrev condF (i : grid0.Coords) : Prop := (Scalar.cmpi .ne (Scalar.extui (Scalar.cmpi .slt (BitVec.ofNat 32 (i 0).val) 74#32)) 0#32) = 1#1
theorem hcondF : ∀ t : Fin cfg0.N, condF (grid0.coords t) ↔ t.val < 74 :=
  (by decide +kernel : ∀ t : Fin grid0.N, condF (grid0.coords t) ↔ t.val < 74)
/-- The third branch's condition: the last point. -/
abbrev condL (i : grid0.Coords) : Prop := k0_cond3 i = 1#1
theorem hcondL : ∀ t : Fin cfg0.N, condL (grid0.coords t) ↔ t.val = 74 :=
  (by decide +kernel : ∀ t : Fin grid0.N, condL (grid0.coords t) ↔ t.val = 74)

/-- Each window's current staging memref at a point, and its wholeness. -/
abbrev ms0_0 (t : Fin cfg0.N) : Memref sig .tc .vmem S256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x896 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x2048 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x896 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x2048 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x896 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x128 .f32 := win0_12.stage (cfg0.slots t 12)
abbrev hs0_12 (t : Fin cfg0.N) : (ms0_12 t).IsWhole := hstage0_12 ((cfg0.slots t 12).cast nbuf0_12)
/-- The scratch operands: the running statistics and the token factors. -/
abbrev scM0_0 : Memref sig .tc .vmem S5x8x256 .f32 := Memref.whole cc0_scratch0
abbrev scM0_1 : Memref sig .tc .vmem S2x8x256 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.Kernel.RunA.lean ====
module

public import proofs.«01_k».proof.Proof.Kernel.Points

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 2000000 in
/-- What the body's stores leave at the first point: the quantiser stores the codes, scales and token factors, the statistics are reset, then four chunks of rows are folded in. The
    pieces written to each stored buffer are found by running the body; every other buffer is handed back as it was. -/
noncomputable def runA (c : Dev nD) (i : grid0.Coords) (arg1 : Memref sig .tc .vmem S256x2048 .bf16) (harg1 : arg1.IsWhole) (arg2 : Memref sig .tc .vmem S256x896 .bf16) (harg2 : arg2.IsWhole) (arg3 : Memref sig .tc .vmem S2048x2048 .fp8e4m3) (harg3 : arg3.IsWhole) (arg4 : Memref sig .tc .vmem S2048x896 .fp8e4m3) (harg4 : arg4.IsWhole) (arg5 : Memref sig .tc .vmem S16x128 .f32) (harg5 : arg5.IsWhole) (arg6 : Memref sig .tc .vmem S16x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S256x2048 .fp8e4m3) (harg10 : arg10.IsWhole) (arg11 : Memref sig .tc .vmem S2x128 .f32) (harg11 : arg11.IsWhole) (arg12 : Memref sig .tc .vmem S256x896 .fp8e4m3) (harg12 : arg12.IsWhole) (arg13 : Memref sig .tc .vmem S2x128 .f32) (harg13 : arg13.IsWhole) (arg14 : Memref sig .tc .vmem S5x8x256 .f32) (harg14 : arg14.IsWhole) (arg15 : Memref sig .tc .vmem S2x8x256 .f32) (harg15 : arg15.IsWhole) (hcA : condA i) (hcF : condF i) (hcL : ¬condL i)
    (x0 : Vec F S256x2048 .bf16) (x1 : Vec F S256x896 .bf16) (x2 : Vec F S2048x2048 .fp8e4m3) (x3 : Vec F S2048x896 .fp8e4m3) (x4 : Vec F S16x128 .f32) (x5 : Vec F S16x128 .f32) :
    Σ' (L9 : List (View.Piece (Elt F) S256x2048 .fp8e4m3)), Σ' (L10 : List (View.Piece (Elt F) S2x128 .f32)), Σ' (L11 : List (View.Piece (Elt F) S256x896 .fp8e4m3)), Σ' (L12 : List (View.Piece (Elt F) S2x128 .f32)), Σ' (L13 : List (View.Piece (Elt F) S5x8x256 .f32)), { L14 : List (View.Piece (Elt F) S2x8x256 .f32) //
      ∀ (xo6 : Vec F S2x128 .f32) (xo7 : Vec F S2x128 .f32) (xo8 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo6 ∗ owns (c : Thread nD τ) arg8 fullShare xo7 ∗ owns (c : Thread nD τ) arg9 fullShare xo8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo6 ∗ owns (c : Thread nD τ) arg8 fullShare xo7 ∗ owns (c : Thread nD τ) arg9 fullShare xo8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14)) -∗ K ⟨⟩))
          ⊢ wp frame (wpE (defs₀ (F := F)) Variants.none c none) E (cc0_distill_kl i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun xo6 xo7 xo8 E K => ?run⟩
  case run =>
    simp only [cc0_distill_kl_eq_skeleton]; unfold cc0_distill_kl_skel
    simp only [k0_part1_eq_skeleton, k0_part2_eq_skeleton, k0_part3_eq_skeleton, k0_part24_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hcA | sl_exact hcF | sl_exact hcL)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14

end Cert.Kernel.Hand

end
-- ==== Proof.Kernel.RunB.lean ====
module

public import proofs.«01_k».proof.Proof.Kernel.RunA

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 2000000 in
/-- What the body's stores leave at a middle point: four chunks of rows are folded into the statistics. The
    pieces written to each stored buffer are found by running the body; every other buffer is handed back as it was. -/
noncomputable def runB (c : Dev nD) (i : grid0.Coords) (arg1 : Memref sig .tc .vmem S256x2048 .bf16) (harg1 : arg1.IsWhole) (arg2 : Memref sig .tc .vmem S256x896 .bf16) (harg2 : arg2.IsWhole) (arg3 : Memref sig .tc .vmem S2048x2048 .fp8e4m3) (harg3 : arg3.IsWhole) (arg4 : Memref sig .tc .vmem S2048x896 .fp8e4m3) (harg4 : arg4.IsWhole) (arg5 : Memref sig .tc .vmem S16x128 .f32) (harg5 : arg5.IsWhole) (arg6 : Memref sig .tc .vmem S16x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S256x2048 .fp8e4m3) (harg10 : arg10.IsWhole) (arg11 : Memref sig .tc .vmem S2x128 .f32) (harg11 : arg11.IsWhole) (arg12 : Memref sig .tc .vmem S256x896 .fp8e4m3) (harg12 : arg12.IsWhole) (arg13 : Memref sig .tc .vmem S2x128 .f32) (harg13 : arg13.IsWhole) (arg14 : Memref sig .tc .vmem S5x8x256 .f32) (harg14 : arg14.IsWhole) (arg15 : Memref sig .tc .vmem S2x8x256 .f32) (harg15 : arg15.IsWhole) (hcA : ¬condA i) (hcF : condF i) (hcL : ¬condL i)
    (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) :
    { L13 : List (View.Piece (Elt F) S5x8x256 .f32) //
      ∀ (xo6 : Vec F S2x128 .f32) (xo7 : Vec F S2x128 .f32) (xo8 : Vec F S2x128 .f32) (xo10 : Vec F S2x128 .f32) (xo12 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo6 ∗ owns (c : Thread nD τ) arg8 fullShare xo7 ∗ owns (c : Thread nD τ) arg9 fullShare xo8 ∗ owns (c : Thread nD τ) arg10 fullShare xo9 ∗ owns (c : Thread nD τ) arg11 fullShare xo10 ∗ owns (c : Thread nD τ) arg12 fullShare xo11 ∗ owns (c : Thread nD τ) arg13 fullShare xo12 ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo6 ∗ owns (c : Thread nD τ) arg8 fullShare xo7 ∗ owns (c : Thread nD τ) arg9 fullShare xo8 ∗ owns (c : Thread nD τ) arg10 fullShare xo9 ∗ owns (c : Thread nD τ) arg11 fullShare xo10 ∗ owns (c : Thread nD τ) arg12 fullShare xo11 ∗ owns (c : Thread nD τ) arg13 fullShare xo12 ∗ (∃ f, arg14.view.loc (c : Thread nD τ) ↦[arg14.view.set]{fullShare} arg14.view.writes (Elt F) f L13) ∗ owns (c : Thread nD τ) arg15 fullShare xs1) -∗ K ⟨⟩))
          ⊢ wp frame (wpE (defs₀ (F := F)) Variants.none c none) E (cc0_distill_kl i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun xo6 xo7 xo8 xo10 xo12 E K => ?run⟩
  case run =>
    simp only [cc0_distill_kl_eq_skeleton]; unfold cc0_distill_kl_skel
    simp only [k0_part24_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hcA | sl_exact hcF | sl_exact hcL)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    iexists _; isplitr; · ipureintro; exact harg15.read_unread _
    iexact H14

end Cert.Kernel.Hand

end
-- ==== Proof.Kernel.RunC.lean ====
module

public import proofs.«01_k».proof.Proof.Kernel.RunB

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 2000000 in
/-- What the body's stores leave at the last point: one partial chunk of rows, then the three results. The
    pieces written to each stored buffer are found by running the body; every other buffer is handed back as it was. -/
noncomputable def runC (c : Dev nD) (i : grid0.Coords) (arg1 : Memref sig .tc .vmem S256x2048 .bf16) (harg1 : arg1.IsWhole) (arg2 : Memref sig .tc .vmem S256x896 .bf16) (harg2 : arg2.IsWhole) (arg3 : Memref sig .tc .vmem S2048x2048 .fp8e4m3) (harg3 : arg3.IsWhole) (arg4 : Memref sig .tc .vmem S2048x896 .fp8e4m3) (harg4 : arg4.IsWhole) (arg5 : Memref sig .tc .vmem S16x128 .f32) (harg5 : arg5.IsWhole) (arg6 : Memref sig .tc .vmem S16x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S256x2048 .fp8e4m3) (harg10 : arg10.IsWhole) (arg11 : Memref sig .tc .vmem S2x128 .f32) (harg11 : arg11.IsWhole) (arg12 : Memref sig .tc .vmem S256x896 .fp8e4m3) (harg12 : arg12.IsWhole) (arg13 : Memref sig .tc .vmem S2x128 .f32) (harg13 : arg13.IsWhole) (arg14 : Memref sig .tc .vmem S5x8x256 .f32) (harg14 : arg14.IsWhole) (arg15 : Memref sig .tc .vmem S2x8x256 .f32) (harg15 : arg15.IsWhole) (hcA : ¬condA i) (hcF : ¬condF i) (hcL : condL i)
    (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) :
    Σ' (L6 : List (View.Piece (Elt F) S2x128 .f32)), Σ' (L7 : List (View.Piece (Elt F) S2x128 .f32)), Σ' (L8 : List (View.Piece (Elt F) S2x128 .f32)), { L13 : List (View.Piece (Elt F) S5x8x256 .f32) //
      ∀ (xo10 : Vec F S2x128 .f32) (xo12 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xo9 ∗ owns (c : Thread nD τ) arg11 fullShare xo10 ∗ owns (c : Thread nD τ) arg12 fullShare xo11 ∗ owns (c : Thread nD τ) arg13 fullShare xo12 ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare xo9 ∗ owns (c : Thread nD τ) arg11 fullShare xo10 ∗ owns (c : Thread nD τ) arg12 fullShare xo11 ∗ owns (c : Thread nD τ) arg13 fullShare xo12 ∗ (∃ f, arg14.view.loc (c : Thread nD τ) ↦[arg14.view.set]{fullShare} arg14.view.writes (Elt F) f L13) ∗ owns (c : Thread nD τ) arg15 fullShare xs1) -∗ K ⟨⟩))
          ⊢ wp frame (wpE (defs₀ (F := F)) Variants.none c none) E (cc0_distill_kl i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun xo10 xo12 E K => ?run⟩
  case run =>
    simp only [cc0_distill_kl_eq_skeleton]; unfold cc0_distill_kl_skel
    simp only [k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hcA | sl_exact hcF | sl_exact hcL)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    iexists _; isplitr; · ipureintro; exact harg15.read_unread _
    iexact H14

end Cert.Kernel.Hand

end
-- ==== Proof.Kernel.Triples.lean ====
module

public import proofs.«01_k».proof.Proof.Kernel.RunC

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window BodyObligation cellOf)
open Cert.Kernel.Gen

variable {F : FTy → Type} [FloatOps F]

local notation "𝕄" => MT nD τ sig Unit (Elt F) ℕ (UR sig nD τ) ℕ

/-! What one run of the body leaves, at point `t`: the runs of the three cases at the point's own staging buffers, the
    contents of each stored buffer, and the body's triple in terms of them. -/

/-- The run at the first point. -/
noncomputable abbrev rA (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) :=
  runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcondA t).mpr h) ((hcondF t).mpr (by omega)) (fun h2 => by have := (hcondL t).mp h2; omega) x0 x1 x2 x3 x4 x5

/-- What the run at the first point leaves in operand 10. -/
noncomputable def oA_9 (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) : Vec F S256x2048 .fp8e4m3 :=
  View.canon (rA c t h x0 x1 x2 x3 x4 x5).1

theorem coverA_9 (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (y : Shape.Idx S256x2048) :
    ∃ pc ∈ (rA c t h x0 x1 x2 x3 x4 x5).1, y ∈ pc.1.set :=
  View.cover_of_tiledL (rA c t h x0 x1 x2 x3 x4 x5).1 S256x2048.size (by sl_kernel_rfl) y

/-- What the run at the first point leaves in operand 11. -/
noncomputable def oA_10 (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) : Vec F S2x128 .f32 :=
  View.canon (rA c t h x0 x1 x2 x3 x4 x5).2.1

theorem coverA_10 (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (y : Shape.Idx S2x128) :
    ∃ pc ∈ (rA c t h x0 x1 x2 x3 x4 x5).2.1, y ∈ pc.1.set :=
  View.cover_of_tiledL (rA c t h x0 x1 x2 x3 x4 x5).2.1 S1x128.size (by sl_kernel_rfl) y

/-- What the run at the first point leaves in operand 12. -/
noncomputable def oA_11 (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) : Vec F S256x896 .fp8e4m3 :=
  View.canon (rA c t h x0 x1 x2 x3 x4 x5).2.2.1

theorem coverA_11 (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (y : Shape.Idx S256x896) :
    ∃ pc ∈ (rA c t h x0 x1 x2 x3 x4 x5).2.2.1, y ∈ pc.1.set :=
  View.cover_of_tiledL (rA c t h x0 x1 x2 x3 x4 x5).2.2.1 S256x896.size (by sl_kernel_rfl) y

/-- What the run at the first point leaves in operand 13. -/
noncomputable def oA_12 (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) : Vec F S2x128 .f32 :=
  View.canon (rA c t h x0 x1 x2 x3 x4 x5).2.2.2.1

theorem coverA_12 (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (y : Shape.Idx S2x128) :
    ∃ pc ∈ (rA c t h x0 x1 x2 x3 x4 x5).2.2.2.1, y ∈ pc.1.set :=
  View.cover_of_tiledL (rA c t h x0 x1 x2 x3 x4 x5).2.2.2.1 S1x128.size (by sl_kernel_rfl) y

/-- What the run at the first point leaves in operand 14. -/
noncomputable def oA_13 (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) : Vec F S5x8x256 .f32 :=
  View.canon (rA c t h x0 x1 x2 x3 x4 x5).2.2.2.2.1

theorem coverA_13 (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (y : Shape.Idx S5x8x256) :
    ∃ pc ∈ (rA c t h x0 x1 x2 x3 x4 x5).2.2.2.2.1, y ∈ pc.1.set :=
  View.cover_of_tiledBy (rA c t h x0 x1 x2 x3 x4 x5).2.2.2.2.1 ![1, 8, 256] (by sl_kernel_rfl) y

/-- What the run at the first point leaves in operand 15. -/
noncomputable def oA_14 (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) : Vec F S2x8x256 .f32 :=
  View.canon (rA c t h x0 x1 x2 x3 x4 x5).2.2.2.2.2.1

theorem coverA_14 (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (y : Shape.Idx S2x8x256) :
    ∃ pc ∈ (rA c t h x0 x1 x2 x3 x4 x5).2.2.2.2.2.1, y ∈ pc.1.set :=
  View.cover_of_tiledL (rA c t h x0 x1 x2 x3 x4 x5).2.2.2.2.2.1 S1x8x256.size (by sl_kernel_rfl) y

/-- The body's triple at the first point: every buffer handed over and given back, the stored ones at what the run leaves. -/
theorem tripleA (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo6 : Vec F S2x128 .f32) (xo7 : Vec F S2x128 .f32) (xo8 : Vec F S2x128 .f32) (K : PUnit → sProp 𝕄) :
    iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare x4 ∗ owns (c : Thread nD τ) (ms0_5 t) fullShare x5 ∗ owns (c : Thread nD τ) (ms0_6 t) fullShare xo6 ∗ owns (c : Thread nD τ) (ms0_7 t) fullShare xo7 ∗ owns (c : Thread nD τ) (ms0_8 t) fullShare xo8 ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) scM0_0 fullShare d) ∗ (∃ d, owns (c : Thread nD τ) scM0_1 fullShare d)
        ∗ (iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare x4 ∗ owns (c : Thread nD τ) (ms0_5 t) fullShare x5 ∗ owns (c : Thread nD τ) (ms0_6 t) fullShare xo6 ∗ owns (c : Thread nD τ) (ms0_7 t) fullShare xo7 ∗ owns (c : Thread nD τ) (ms0_8 t) fullShare xo8 ∗ owns (c : Thread nD τ) (ms0_9 t) fullShare (oA_9 c t h x0 x1 x2 x3 x4 x5) ∗ owns (c : Thread nD τ) (ms0_10 t) fullShare (oA_10 c t h x0 x1 x2 x3 x4 x5) ∗ owns (c : Thread nD τ) (ms0_11 t) fullShare (oA_11 c t h x0 x1 x2 x3 x4 x5) ∗ owns (c : Thread nD τ) (ms0_12 t) fullShare (oA_12 c t h x0 x1 x2 x3 x4 x5) ∗ owns (c : Thread nD τ) scM0_0 fullShare (oA_13 c t h x0 x1 x2 x3 x4 x5) ∗ owns (c : Thread nD τ) scM0_1 fullShare (oA_14 c t h x0 x1 x2 x3 x4 x5)) -∗ K ⟨⟩))
      ⊢ wp frame (wpE (defs₀ (F := F)) Variants.none c none) Set.univ (bodyAt0 t) K := by
  have hr := (rA c t h x0 x1 x2 x3 x4 x5).2.2.2.2.2.2 xo6 xo7 xo8 Set.univ K
  refine BIBase.Entails.trans ?_ hr
  iintro ⟨H0, H1, H2, H3, H4, H5, H6, H7, H8, H9, H10, H11, H12, H13, H14, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, ⟨%e9, H9⟩, ⟨%e10, H10⟩, ⟨%e11, H11⟩, ⟨%e12, H12⟩, ⟨%e13, H13⟩, ⟨%e14, H14⟩⟩
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · unfold owns; iexists _; isplitr
    swap; · iexact H9
    ipureintro; exact View.read_writes_eq_canon _ _ _ (coverA_9 c t h x0 x1 x2 x3 x4 x5)
  isplitl [H10]
  · unfold owns; iexists _; isplitr
    swap; · iexact H10
    ipureintro; exact View.read_writes_eq_canon _ _ _ (coverA_10 c t h x0 x1 x2 x3 x4 x5)
  isplitl [H11]
  · unfold owns; iexists _; isplitr
    swap; · iexact H11
    ipureintro; exact View.read_writes_eq_canon _ _ _ (coverA_11 c t h x0 x1 x2 x3 x4 x5)
  isplitl [H12]
  · unfold owns; iexists _; isplitr
    swap; · iexact H12
    ipureintro; exact View.read_writes_eq_canon _ _ _ (coverA_12 c t h x0 x1 x2 x3 x4 x5)
  isplitl [H13]
  · unfold owns; iexists _; isplitr
    swap; · iexact H13
    ipureintro; exact View.read_writes_eq_canon _ _ _ (coverA_13 c t h x0 x1 x2 x3 x4 x5)
  unfold owns; iexists _; isplitr
  swap; · iexact H14
  ipureintro; exact View.read_writes_eq_canon _ _ _ (coverA_14 c t h x0 x1 x2 x3 x4 x5)

/-- The run at a middle point. -/
noncomputable abbrev rB (c : Dev nD) (t : Fin cfg0.N) (h : 0 < t.val ∧ t.val < 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) :=
  runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h2 => by have := (hcondA t).mp h2; omega) ((hcondF t).mpr h.2) (fun h2 => by have := (hcondL t).mp h2; omega) x0 x1 x2 x3 x4 x5 xo9 xo11 xs0 xs1

/-- What the run at a middle point leaves in operand 14. -/
noncomputable def oB_13 (c : Dev nD) (t : Fin cfg0.N) (h : 0 < t.val ∧ t.val < 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) : Vec F S5x8x256 .f32 :=
  View.canon (rB c t h x0 x1 x2 x3 x4 x5 xo9 xo11 xs0 xs1).1

theorem coverB_13 (c : Dev nD) (t : Fin cfg0.N) (h : 0 < t.val ∧ t.val < 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) (y : Shape.Idx S5x8x256) :
    ∃ pc ∈ (rB c t h x0 x1 x2 x3 x4 x5 xo9 xo11 xs0 xs1).1, y ∈ pc.1.set :=
  View.cover_of_tiledBy (rB c t h x0 x1 x2 x3 x4 x5 xo9 xo11 xs0 xs1).1 ![1, 8, 256] (by sl_kernel_rfl) y

/-- The body's triple at a middle point: every buffer handed over and given back, the stored ones at what the run leaves. -/
theorem tripleB (c : Dev nD) (t : Fin cfg0.N) (h : 0 < t.val ∧ t.val < 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) (xo6 : Vec F S2x128 .f32) (xo7 : Vec F S2x128 .f32) (xo8 : Vec F S2x128 .f32) (xo10 : Vec F S2x128 .f32) (xo12 : Vec F S2x128 .f32) (K : PUnit → sProp 𝕄) :
    iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare x4 ∗ owns (c : Thread nD τ) (ms0_5 t) fullShare x5 ∗ owns (c : Thread nD τ) (ms0_6 t) fullShare xo6 ∗ owns (c : Thread nD τ) (ms0_7 t) fullShare xo7 ∗ owns (c : Thread nD τ) (ms0_8 t) fullShare xo8 ∗ owns (c : Thread nD τ) (ms0_9 t) fullShare xo9 ∗ owns (c : Thread nD τ) (ms0_10 t) fullShare xo10 ∗ owns (c : Thread nD τ) (ms0_11 t) fullShare xo11 ∗ owns (c : Thread nD τ) (ms0_12 t) fullShare xo12 ∗ owns (c : Thread nD τ) scM0_0 fullShare xs0 ∗ owns (c : Thread nD τ) scM0_1 fullShare xs1
        ∗ (iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare x4 ∗ owns (c : Thread nD τ) (ms0_5 t) fullShare x5 ∗ owns (c : Thread nD τ) (ms0_6 t) fullShare xo6 ∗ owns (c : Thread nD τ) (ms0_7 t) fullShare xo7 ∗ owns (c : Thread nD τ) (ms0_8 t) fullShare xo8 ∗ owns (c : Thread nD τ) (ms0_9 t) fullShare xo9 ∗ owns (c : Thread nD τ) (ms0_10 t) fullShare xo10 ∗ owns (c : Thread nD τ) (ms0_11 t) fullShare xo11 ∗ owns (c : Thread nD τ) (ms0_12 t) fullShare xo12 ∗ owns (c : Thread nD τ) scM0_0 fullShare (oB_13 c t h x0 x1 x2 x3 x4 x5 xo9 xo11 xs0 xs1) ∗ owns (c : Thread nD τ) scM0_1 fullShare xs1) -∗ K ⟨⟩))
      ⊢ wp frame (wpE (defs₀ (F := F)) Variants.none c none) Set.univ (bodyAt0 t) K := by
  have hr := (rB c t h x0 x1 x2 x3 x4 x5 xo9 xo11 xs0 xs1).2 xo6 xo7 xo8 xo10 xo12 Set.univ K
  refine BIBase.Entails.trans ?_ hr
  iintro ⟨H0, H1, H2, H3, H4, H5, H6, H7, H8, H9, H10, H11, H12, H13, H14, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, ⟨%e13, H13⟩, H14⟩
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · unfold owns; iexists _; isplitr
    swap; · iexact H13
    ipureintro; exact View.read_writes_eq_canon _ _ _ (coverB_13 c t h x0 x1 x2 x3 x4 x5 xo9 xo11 xs0 xs1)
  iexact H14

/-- The run at the last point. -/
noncomputable abbrev rC (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) :=
  runC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h2 => by have := (hcondA t).mp h2; omega) (fun h2 => by have := (hcondF t).mp h2; omega) ((hcondL t).mpr h) x0 x1 x2 x3 x4 x5 xo9 xo11 xs0 xs1

/-- What the run at the last point leaves in operand 7. -/
noncomputable def oC_6 (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) : Vec F S2x128 .f32 :=
  View.canon (rC c t h x0 x1 x2 x3 x4 x5 xo9 xo11 xs0 xs1).1

theorem coverC_6 (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) (y : Shape.Idx S2x128) :
    ∃ pc ∈ (rC c t h x0 x1 x2 x3 x4 x5 xo9 xo11 xs0 xs1).1, y ∈ pc.1.set :=
  View.cover_of_tiledL (rC c t h x0 x1 x2 x3 x4 x5 xo9 xo11 xs0 xs1).1 S1x128.size (by sl_kernel_rfl) y

/-- What the run at the last point leaves in operand 8. -/
noncomputable def oC_7 (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) : Vec F S2x128 .f32 :=
  View.canon (rC c t h x0 x1 x2 x3 x4 x5 xo9 xo11 xs0 xs1).2.1

theorem coverC_7 (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) (y : Shape.Idx S2x128) :
    ∃ pc ∈ (rC c t h x0 x1 x2 x3 x4 x5 xo9 xo11 xs0 xs1).2.1, y ∈ pc.1.set :=
  View.cover_of_tiledL (rC c t h x0 x1 x2 x3 x4 x5 xo9 xo11 xs0 xs1).2.1 S1x128.size (by sl_kernel_rfl) y

/-- What the run at the last point leaves in operand 9. -/
noncomputable def oC_8 (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) : Vec F S2x128 .f32 :=
  View.canon (rC c t h x0 x1 x2 x3 x4 x5 xo9 xo11 xs0 xs1).2.2.1

theorem coverC_8 (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) (y : Shape.Idx S2x128) :
    ∃ pc ∈ (rC c t h x0 x1 x2 x3 x4 x5 xo9 xo11 xs0 xs1).2.2.1, y ∈ pc.1.set :=
  View.cover_of_tiledL (rC c t h x0 x1 x2 x3 x4 x5 xo9 xo11 xs0 xs1).2.2.1 S1x128.size (by sl_kernel_rfl) y

/-- What the run at the last point leaves in operand 14. -/
noncomputable def oC_13 (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) : Vec F S5x8x256 .f32 :=
  View.canon (rC c t h x0 x1 x2 x3 x4 x5 xo9 xo11 xs0 xs1).2.2.2.1

theorem coverC_13 (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) (y : Shape.Idx S5x8x256) :
    ∃ pc ∈ (rC c t h x0 x1 x2 x3 x4 x5 xo9 xo11 xs0 xs1).2.2.2.1, y ∈ pc.1.set :=
  View.cover_of_tiledBy (rC c t h x0 x1 x2 x3 x4 x5 xo9 xo11 xs0 xs1).2.2.2.1 ![1, 8, 256] (by sl_kernel_rfl) y

/-- The body's triple at the last point: every buffer handed over and given back, the stored ones at what the run leaves. -/
theorem tripleC (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) (xo10 : Vec F S2x128 .f32) (xo12 : Vec F S2x128 .f32) (K : PUnit → sProp 𝕄) :
    iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare x4 ∗ owns (c : Thread nD τ) (ms0_5 t) fullShare x5 ∗ (∃ d, owns (c : Thread nD τ) (ms0_6 t) fullShare d) ∗ (∃ d, owns (c : Thread nD τ) (ms0_7 t) fullShare d) ∗ (∃ d, owns (c : Thread nD τ) (ms0_8 t) fullShare d) ∗ owns (c : Thread nD τ) (ms0_9 t) fullShare xo9 ∗ owns (c : Thread nD τ) (ms0_10 t) fullShare xo10 ∗ owns (c : Thread nD τ) (ms0_11 t) fullShare xo11 ∗ owns (c : Thread nD τ) (ms0_12 t) fullShare xo12 ∗ owns (c : Thread nD τ) scM0_0 fullShare xs0 ∗ owns (c : Thread nD τ) scM0_1 fullShare xs1
        ∗ (iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare x4 ∗ owns (c : Thread nD τ) (ms0_5 t) fullShare x5 ∗ owns (c : Thread nD τ) (ms0_6 t) fullShare (oC_6 c t h x0 x1 x2 x3 x4 x5 xo9 xo11 xs0 xs1) ∗ owns (c : Thread nD τ) (ms0_7 t) fullShare (oC_7 c t h x0 x1 x2 x3 x4 x5 xo9 xo11 xs0 xs1) ∗ owns (c : Thread nD τ) (ms0_8 t) fullShare (oC_8 c t h x0 x1 x2 x3 x4 x5 xo9 xo11 xs0 xs1) ∗ owns (c : Thread nD τ) (ms0_9 t) fullShare xo9 ∗ owns (c : Thread nD τ) (ms0_10 t) fullShare xo10 ∗ owns (c : Thread nD τ) (ms0_11 t) fullShare xo11 ∗ owns (c : Thread nD τ) (ms0_12 t) fullShare xo12 ∗ owns (c : Thread nD τ) scM0_0 fullShare (oC_13 c t h x0 x1 x2 x3 x4 x5 xo9 xo11 xs0 xs1) ∗ owns (c : Thread nD τ) scM0_1 fullShare xs1) -∗ K ⟨⟩))
      ⊢ wp frame (wpE (defs₀ (F := F)) Variants.none c none) Set.univ (bodyAt0 t) K := by
  have hr := (rC c t h x0 x1 x2 x3 x4 x5 xo9 xo11 xs0 xs1).2.2.2.2 xo10 xo12 Set.univ K
  refine BIBase.Entails.trans ?_ hr
  iintro ⟨H0, H1, H2, H3, H4, H5, H6, H7, H8, H9, H10, H11, H12, H13, H14, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, ⟨%e6, H6⟩, ⟨%e7, H7⟩, ⟨%e8, H8⟩, H9, H10, H11, H12, ⟨%e13, H13⟩, H14⟩
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · unfold owns; iexists _; isplitr
    swap; · iexact H6
    ipureintro; exact View.read_writes_eq_canon _ _ _ (coverC_6 c t h x0 x1 x2 x3 x4 x5 xo9 xo11 xs0 xs1)
  isplitl [H7]
  · unfold owns; iexists _; isplitr
    swap; · iexact H7
    ipureintro; exact View.read_writes_eq_canon _ _ _ (coverC_7 c t h x0 x1 x2 x3 x4 x5 xo9 xo11 xs0 xs1)
  isplitl [H8]
  · unfold owns; iexists _; isplitr
    swap; · iexact H8
    ipureintro; exact View.read_writes_eq_canon _ _ _ (coverC_8 c t h x0 x1 x2 x3 x4 x5 xo9 xo11 xs0 xs1)
  isplitl [H9]
  · iexact H9
  isplitl [H10]
  · iexact H10
  isplitl [H11]
  · iexact H11
  isplitl [H12]
  · iexact H12
  isplitl [H13]
  · unfold owns; iexists _; isplitr
    swap; · iexact H13
    ipureintro; exact View.read_writes_eq_canon _ _ _ (coverC_13 c t h x0 x1 x2 x3 x4 x5 xo9 xo11 xs0 xs1)
  iexact H14

end Cert.Kernel.Hand

end
-- ==== Proof.Kernel.Body.lean ====
module

public import proofs.«01_k».proof.Proof.Kernel.Triples
public import Idealize.ShloMosaic.Lib.Pipeline.DatRel

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The region's proof data, over a specification of what its buffers hold. -/

/-- A weight or scale window's buffer just fetched at point `t`: the block on the rows inside the array, `d` elsewhere. -/
noncomputable def xf2 (c : Dev nD) (t : Fin cfg0.N) (d : Vec F S2048x2048 .fp8e4m3) : Vec F S2048x2048 .fp8e4m3 := win0_2.fill (grid0.coords t) d (iblk m c 2 t)
noncomputable def xf3 (c : Dev nD) (t : Fin cfg0.N) (d : Vec F S2048x896 .fp8e4m3) : Vec F S2048x896 .fp8e4m3 := win0_3.fill (grid0.coords t) d (iblk m c 3 t)
noncomputable def xf4 (c : Dev nD) (t : Fin cfg0.N) (d : Vec F S16x128 .f32) : Vec F S16x128 .f32 := win0_4.fill (grid0.coords t) d (iblk m c 4 t)
noncomputable def xf5 (c : Dev nD) (t : Fin cfg0.N) (d : Vec F S16x128 .f32) : Vec F S16x128 .f32 := win0_5.fill (grid0.coords t) d (iblk m c 5 t)

/-- A specification of the region on device `c`: what the statistics and the token factors satisfy before point `n`
    (`inv`), what each result's block satisfies (`R6` to `R12`), and that the three runs of the body keep it. -/
structure Spec (c : Dev nD) where
  inv : ℕ → Vec F S5x8x256 .f32 → Vec F S2x8x256 .f32 → Prop
  R6 : Vec F S2x128 .f32 → Prop
  R7 : Vec F S2x128 .f32 → Prop
  R8 : Vec F S2x128 .f32 → Prop
  R9 : Vec F S256x2048 .fp8e4m3 → Prop
  R10 : Vec F S2x128 .f32 → Prop
  R11 : Vec F S256x896 .fp8e4m3 → Prop
  R12 : Vec F S2x128 .f32 → Prop
  hA : ∀ (t : Fin cfg0.N) (h : t.val = 0) (d2 : Vec F S2048x2048 .fp8e4m3) (d3 : Vec F S2048x896 .fp8e4m3) (d4 : Vec F S16x128 .f32) (d5 : Vec F S16x128 .f32),
    R9 (oA_9 c t h (iblk m c 0 t) (iblk m c 1 t) (xf2 m c t d2) (xf3 m c t d3) (xf4 m c t d4) (xf5 m c t d5)) ∧ R10 (oA_10 c t h (iblk m c 0 t) (iblk m c 1 t) (xf2 m c t d2) (xf3 m c t d3) (xf4 m c t d4) (xf5 m c t d5)) ∧ R11 (oA_11 c t h (iblk m c 0 t) (iblk m c 1 t) (xf2 m c t d2) (xf3 m c t d3) (xf4 m c t d4) (xf5 m c t d5)) ∧ R12 (oA_12 c t h (iblk m c 0 t) (iblk m c 1 t) (xf2 m c t d2) (xf3 m c t d3) (xf4 m c t d4) (xf5 m c t d5))
      ∧ inv 1 (oA_13 c t h (iblk m c 0 t) (iblk m c 1 t) (xf2 m c t d2) (xf3 m c t d3) (xf4 m c t d4) (xf5 m c t d5)) (oA_14 c t h (iblk m c 0 t) (iblk m c 1 t) (xf2 m c t d2) (xf3 m c t d3) (xf4 m c t d4) (xf5 m c t d5))
  hB : ∀ (t : Fin cfg0.N) (h : 0 < t.val ∧ t.val < 74) (d2 : Vec F S2048x2048 .fp8e4m3) (d3 : Vec F S2048x896 .fp8e4m3) (d4 : Vec F S16x128 .f32) (d5 : Vec F S16x128 .f32) (xo9 : Vec F S256x2048 .fp8e4m3) (xo11 : Vec F S256x896 .fp8e4m3) (xs0 : Vec F S5x8x256 .f32) (xs1 : Vec F S2x8x256 .f32),
    R9 xo9 → R11 xo11 → inv t.val xs0 xs1 → inv (t.val + 1) (oB_13 c t h (iblk m c 0 t) (iblk m c 1 t) (xf2 m c t d2) (xf3 m c t d3) (xf4 m c t d4) (xf5 m c t d5) xo9 xo11 xs0 xs1) xs1
  hC : ∀ (t : Fin cfg0.N) (h : t.val = 74) (d2 : Vec F S2048x2048 .fp8e4m3) (d3 : Vec F S2048x896 .fp8e4m3) (d4 : Vec F S16x128 .f32) (d5 : Vec F S16x128 .f32) (xo9 : Vec F S256x2048 .fp8e4m3) (xo11 : Vec F S256x896 .fp8e4m3) (xs0 : Vec F S5x8x256 .f32) (xs1 : Vec F S2x8x256 .f32),
    R9 xo9 → R11 xo11 → inv t.val xs0 xs1 →
      R6 (oC_6 c t h (iblk m c 0 t) (iblk m c 1 t) (xf2 m c t d2) (xf3 m c t d3) (xf4 m c t d4) (xf5 m c t d5) xo9 xo11 xs0 xs1) ∧ R7 (oC_7 c t h (iblk m c 0 t) (iblk m c 1 t) (xf2 m c t d2) (xf3 m c t d3) (xf4 m c t d4) (xf5 m c t d5) xo9 xo11 xs0 xs1) ∧ R8 (oC_8 c t h (iblk m c 0 t) (iblk m c 1 t) (xf2 m c t d2) (xf3 m c t d3) (xf4 m c t d4) (xf5 m c t d5) xo9 xo11 xs0 xs1)
  hD : ∀ (t : Fin cfg0.N) (h : t.val = 74) (d2 : Vec F S2048x2048 .fp8e4m3) (d3 : Vec F S2048x896 .fp8e4m3) (d4 : Vec F S16x128 .f32) (d5 : Vec F S16x128 .f32) (xo9 : Vec F S256x2048 .fp8e4m3) (xo11 : Vec F S256x896 .fp8e4m3) (xs0 : Vec F S5x8x256 .f32) (xs1 : Vec F S2x8x256 .f32),
    inv (t.val + 1) (oC_13 c t h (iblk m c 0 t) (iblk m c 1 t) (xf2 m c t d2) (xf3 m c t d3) (xf4 m c t d4) (xf5 m c t d5) xo9 xo11 xs0 xs1) xs1

variable {m}

/-- What the body leaves in window `w`'s buffer at point `t`. -/
def Spec.left {c : Dev nD} (S : Spec m c) : (w : Fin 13) → Fin cfg0.N → (Y X : (cfg0.win w).block.Idx → Elt F (cfg0.win w).elt) → Prop
  | ⟨0, _⟩, t, _, X => X = iblk m c 0 t
  | ⟨1, _⟩, t, _, X => X = iblk m c 1 t
  | ⟨6, _⟩, t, _, X => t.val = 74 → S.R6 X
  | ⟨7, _⟩, t, _, X => t.val = 74 → S.R7 X
  | ⟨8, _⟩, t, _, X => t.val = 74 → S.R8 X
  | ⟨9, _⟩, _, _, X => S.R9 X
  | ⟨10, _⟩, _, _, X => S.R10 X
  | ⟨11, _⟩, _, _, X => S.R11 X
  | ⟨12, _⟩, _, _, X => S.R12 X
  | _, _, _, _ => True

/-- The region's invariant before point `n`: before the first point the scratch holds anything; later the statistics
    and the token factors are as the specification says. -/
def Spec.phi {c : Dev nD} (S : Spec m c) (n : ℕ) : sProp 𝕄 :=
  if n = 0 then Pipeline.ΦA spec0 c
  else iprop(∃ xs0 xs1, ⌜S.inv n xs0 xs1⌝ ∗ owns (c : Thread nD τ) scM0_0 fullShare xs0 ∗ owns (c : Thread nD τ) scM0_1 fullShare xs1 ∗ (∃ r, prngReg c r))

/-- The region's proof data: the arrays as the region finds them, what the body leaves, the invariant. -/
def Spec.dat {c : Dev nD} (S : Spec m c) : RDat τ (Elt F) Unit ℕ (UR sig nD τ) ℕ cfg0 c where
  A w := V m c (Pipeline.arrRef spec0 w)
  after w t Y X := S.left w t Y X
  Φ t := S.phi t.val
  q _ := fullShare
  owed _ := 0

/-- Input window 0's buffer holds its one block at every point. -/
theorem Spec.finds0 {c : Dev nD} (S : Spec m c) (t : Fin cfg0.N) (Y) (hY : S.dat.Finds 0 t Y) : Y = iblk m c 0 t := by
  have hN : t.val < 75 := lt_of_lt_of_eq t.isLt (show cfg0.N = 75 from N_0)
  by_cases h0 : t.val = 0
  · rw [S.dat.finds_of_fetch ((fetch0_0 t).mpr (by omega))] at hY
    obtain ⟨d, rfl⟩ := hY
    rfl
  · have hf : (cfg0.win 0).fetch t = false := by
      rw [← Bool.not_eq_true]; intro hh; have := (fetch0_0 t).mp hh; omega
    rw [S.dat.finds_of_pos hf h0] at hY
    rcases hY with hY | ⟨Y', -, hY⟩
    · exact absurd hY (by decide +revert)
    · exact hY

/-- Input window 1's buffer holds its one block at every point. -/
theorem Spec.finds1 {c : Dev nD} (S : Spec m c) (t : Fin cfg0.N) (Y) (hY : S.dat.Finds 1 t Y) : Y = iblk m c 1 t := by
  have hN : t.val < 75 := lt_of_lt_of_eq t.isLt (show cfg0.N = 75 from N_0)
  by_cases h0 : t.val = 0
  · rw [S.dat.finds_of_fetch ((fetch0_1 t).mpr (by omega))] at hY
    obtain ⟨d, rfl⟩ := hY
    rfl
  · have hf : (cfg0.win 1).fetch t = false := by
      rw [← Bool.not_eq_true]; intro hh; have := (fetch0_1 t).mp hh; omega
    rw [S.dat.finds_of_pos hf h0] at hY
    rcases hY with hY | ⟨Y', -, hY⟩
    · exact absurd hY (by decide +revert)
    · exact hY

/-- Input window 2's buffer is just fetched at every point. -/
theorem Spec.finds2 {c : Dev nD} (S : Spec m c) (t : Fin cfg0.N) (Y) (hY : S.dat.Finds 2 t Y) : ∃ d, Y = xf2 m c t d := by
  rw [S.dat.finds_of_fetch (fetch0_2 t)] at hY
  exact hY

/-- Input window 3's buffer is just fetched at every point. -/
theorem Spec.finds3 {c : Dev nD} (S : Spec m c) (t : Fin cfg0.N) (Y) (hY : S.dat.Finds 3 t Y) : ∃ d, Y = xf3 m c t d := by
  rw [S.dat.finds_of_fetch (fetch0_3 t)] at hY
  exact hY

/-- Input window 4's buffer is just fetched at every point. -/
theorem Spec.finds4 {c : Dev nD} (S : Spec m c) (t : Fin cfg0.N) (Y) (hY : S.dat.Finds 4 t Y) : ∃ d, Y = xf4 m c t d := by
  rw [S.dat.finds_of_fetch (fetch0_4 t)] at hY
  exact hY

/-- Input window 5's buffer is just fetched at every point. -/
theorem Spec.finds5 {c : Dev nD} (S : Spec m c) (t : Fin cfg0.N) (Y) (hY : S.dat.Finds 5 t Y) : ∃ d, Y = xf5 m c t d := by
  rw [S.dat.finds_of_fetch (fetch0_5 t)] at hY
  exact hY

/-- After the first point, output window 9's buffer is as the first point left it. -/
theorem Spec.finds9 {c : Dev nD} (S : Spec m c) (t : Fin cfg0.N) (h0 : t.val ≠ 0) (Y) (hY : S.dat.Finds 9 t Y) : S.R9 Y := by
  have hN : t.val < 75 := lt_of_lt_of_eq t.isLt (show cfg0.N = 75 from N_0)
  have hf : (cfg0.win 9).fetch t = false := rfl
  rw [S.dat.finds_of_pos hf h0] at hY
  rcases hY with hY | ⟨Y', -, hY⟩
  · have := (flush0_9 _).mp hY; simp only at this; omega
  · exact hY

/-- After the first point, output window 10's buffer is as the first point left it. -/
theorem Spec.finds10 {c : Dev nD} (S : Spec m c) (t : Fin cfg0.N) (h0 : t.val ≠ 0) (Y) (hY : S.dat.Finds 10 t Y) : S.R10 Y := by
  have hN : t.val < 75 := lt_of_lt_of_eq t.isLt (show cfg0.N = 75 from N_0)
  have hf : (cfg0.win 10).fetch t = false := rfl
  rw [S.dat.finds_of_pos hf h0] at hY
  rcases hY with hY | ⟨Y', -, hY⟩
  · have := (flush0_10 _).mp hY; simp only at this; omega
  · exact hY

/-- After the first point, output window 11's buffer is as the first point left it. -/
theorem Spec.finds11 {c : Dev nD} (S : Spec m c) (t : Fin cfg0.N) (h0 : t.val ≠ 0) (Y) (hY : S.dat.Finds 11 t Y) : S.R11 Y := by
  have hN : t.val < 75 := lt_of_lt_of_eq t.isLt (show cfg0.N = 75 from N_0)
  have hf : (cfg0.win 11).fetch t = false := rfl
  rw [S.dat.finds_of_pos hf h0] at hY
  rcases hY with hY | ⟨Y', -, hY⟩
  · have := (flush0_11 _).mp hY; simp only at this; omega
  · exact hY

/-- After the first point, output window 12's buffer is as the first point left it. -/
theorem Spec.finds12 {c : Dev nD} (S : Spec m c) (t : Fin cfg0.N) (h0 : t.val ≠ 0) (Y) (hY : S.dat.Finds 12 t Y) : S.R12 Y := by
  have hN : t.val < 75 := lt_of_lt_of_eq t.isLt (show cfg0.N = 75 from N_0)
  have hf : (cfg0.win 12).fetch t = false := rfl
  rw [S.dat.finds_of_pos hf h0] at hY
  rcases hY with hY | ⟨Y', -, hY⟩
  · have := (flush0_12 _).mp hY; simp only at this; omega
  · exact hY

/-- The body's triple at any point, over the proof data. -/
theorem Spec.sound {c : Dev nD} (S : Spec m c) (t : Fin cfg0.N) (Y : (w : Fin cfg0.W) → (cfg0.win w).block.Idx → Elt F (cfg0.win w).elt)
    (hY : ∀ w, S.dat.Finds w t (Y w)) :
    iprop(S.phi t.val ∗ S.dat.owesAt () t.castSucc ∗ owns (c : Thread nD τ) (ms0_0 t) fullShare (Y 0) ∗ owns (c : Thread nD τ) (ms0_1 t) fullShare (Y 1) ∗ owns (c : Thread nD τ) (ms0_2 t) fullShare (Y 2) ∗ owns (c : Thread nD τ) (ms0_3 t) fullShare (Y 3) ∗ owns (c : Thread nD τ) (ms0_4 t) fullShare (Y 4) ∗ owns (c : Thread nD τ) (ms0_5 t) fullShare (Y 5) ∗ owns (c : Thread nD τ) (ms0_6 t) fullShare (Y 6) ∗ owns (c : Thread nD τ) (ms0_7 t) fullShare (Y 7) ∗ owns (c : Thread nD τ) (ms0_8 t) fullShare (Y 8) ∗ owns (c : Thread nD τ) (ms0_9 t) fullShare (Y 9) ∗ owns (c : Thread nD τ) (ms0_10 t) fullShare (Y 10) ∗ owns (c : Thread nD τ) (ms0_11 t) fullShare (Y 11) ∗ owns (c : Thread nD τ) (ms0_12 t) fullShare (Y 12))
      ⊢ wp frame (wpE (defs₀ (F := F)) Variants.none c none) Set.univ (bodyAt0 t) (fun _ =>
        iprop(S.phi (t.val + 1) ∗ S.dat.owesAt () t.castSucc ∗ (∃ X, ⌜S.left 0 t (Y 0) X⌝ ∗ owns (c : Thread nD τ) (ms0_0 t) fullShare X) ∗ (∃ X, ⌜S.left 1 t (Y 1) X⌝ ∗ owns (c : Thread nD τ) (ms0_1 t) fullShare X) ∗ (∃ X, ⌜S.left 2 t (Y 2) X⌝ ∗ owns (c : Thread nD τ) (ms0_2 t) fullShare X) ∗ (∃ X, ⌜S.left 3 t (Y 3) X⌝ ∗ owns (c : Thread nD τ) (ms0_3 t) fullShare X) ∗ (∃ X, ⌜S.left 4 t (Y 4) X⌝ ∗ owns (c : Thread nD τ) (ms0_4 t) fullShare X) ∗ (∃ X, ⌜S.left 5 t (Y 5) X⌝ ∗ owns (c : Thread nD τ) (ms0_5 t) fullShare X) ∗ (∃ X, ⌜S.left 6 t (Y 6) X⌝ ∗ owns (c : Thread nD τ) (ms0_6 t) fullShare X) ∗ (∃ X, ⌜S.left 7 t (Y 7) X⌝ ∗ owns (c : Thread nD τ) (ms0_7 t) fullShare X) ∗ (∃ X, ⌜S.left 8 t (Y 8) X⌝ ∗ owns (c : Thread nD τ) (ms0_8 t) fullShare X) ∗ (∃ X, ⌜S.left 9 t (Y 9) X⌝ ∗ owns (c : Thread nD τ) (ms0_9 t) fullShare X) ∗ (∃ X, ⌜S.left 10 t (Y 10) X⌝ ∗ owns (c : Thread nD τ) (ms0_10 t) fullShare X) ∗ (∃ X, ⌜S.left 11 t (Y 11) X⌝ ∗ owns (c : Thread nD τ) (ms0_11 t) fullShare X) ∗ (∃ X, ⌜S.left 12 t (Y 12) X⌝ ∗ owns (c : Thread nD τ) (ms0_12 t) fullShare X))) := by
  have hN : t.val < 75 := lt_of_lt_of_eq t.isLt (show cfg0.N = 75 from N_0)
  have e0 := S.finds0 t _ (hY 0)
  have e1 := S.finds1 t _ (hY 1)
  obtain ⟨d2, e2⟩ := S.finds2 t _ (hY 2)
  obtain ⟨d3, e3⟩ := S.finds3 t _ (hY 3)
  obtain ⟨d4, e4⟩ := S.finds4 t _ (hY 4)
  obtain ⟨d5, e5⟩ := S.finds5 t _ (hY 5)
  rw [e0, e1, e2, e3, e4, e5]
  rw [show S.phi (t.val + 1) = iprop(∃ xs0 xs1, ⌜S.inv (t.val + 1) xs0 xs1⌝ ∗ owns (c : Thread nD τ) scM0_0 fullShare xs0 ∗ owns (c : Thread nD τ) scM0_1 fullShare xs1 ∗ (∃ r, prngReg c r)) from if_neg (by omega)]
  by_cases h0 : t.val = 0
  · rw [show S.phi t.val = Pipeline.ΦA spec0 c from if_pos h0, PhiA0_eq]
    obtain ⟨r9, r10, r11, r12, ri⟩ := S.hA t h0 d2 d3 d4 d5
    rw [show (1 : ℕ) = t.val + 1 by omega] at ri
    iintro ⟨⟨⟨Hs0, Hs1⟩, Hg⟩, Ho, H0, H1, H2, H3, H4, H5, H6, H7, H8, H9, H10, H11, H12⟩
    iapply (tripleA c t h0 (iblk m c 0 t) (iblk m c 1 t) (xf2 m c t d2) (xf3 m c t d3) (xf4 m c t d4) (xf5 m c t d5) (Y 6) (Y 7) (Y 8) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [Hs0]; · iexact Hs0
    isplitl [Hs1]; · iexact Hs1
    iintro ⟨H0, H1, H2, H3, H4, H5, H6, H7, H8, H9, H10, H11, H12, Hs0, Hs1⟩
    isplitl [Hs0 Hs1 Hg]
    · iexists _, _; isplitr
      · ipureintro; exact ri
      isplitl [Hs0]; · iexact Hs0
      isplitl [Hs1]; · iexact Hs1
      iexact Hg
    isplitl [Ho]; · iexact Ho
    isplitl [H0]
    · iexists _; isplitr
      swap; · iexact H0
      ipureintro; exact rfl
    isplitl [H1]
    · iexists _; isplitr
      swap; · iexact H1
      ipureintro; exact rfl
    isplitl [H2]
    · iexists _; isplitr
      swap; · iexact H2
      ipureintro; exact trivial
    isplitl [H3]
    · iexists _; isplitr
      swap; · iexact H3
      ipureintro; exact trivial
    isplitl [H4]
    · iexists _; isplitr
      swap; · iexact H4
      ipureintro; exact trivial
    isplitl [H5]
    · iexists _; isplitr
      swap; · iexact H5
      ipureintro; exact trivial
    isplitl [H6]
    · iexists _; isplitr
      swap; · iexact H6
      ipureintro; exact fun h => absurd h (by omega)
    isplitl [H7]
    · iexists _; isplitr
      swap; · iexact H7
      ipureintro; exact fun h => absurd h (by omega)
    isplitl [H8]
    · iexists _; isplitr
      swap; · iexact H8
      ipureintro; exact fun h => absurd h (by omega)
    isplitl [H9]
    · iexists _; isplitr
      swap; · iexact H9
      ipureintro; exact r9
    isplitl [H10]
    · iexists _; isplitr
      swap; · iexact H10
      ipureintro; exact r10
    isplitl [H11]
    · iexists _; isplitr
      swap; · iexact H11
      ipureintro; exact r11
    iexists _; isplitr
    swap; · iexact H12
    ipureintro; exact r12
  have r9 := S.finds9 t h0 _ (hY 9)
  have r10 := S.finds10 t h0 _ (hY 10)
  have r11 := S.finds11 t h0 _ (hY 11)
  have r12 := S.finds12 t h0 _ (hY 12)
  rw [show S.phi t.val = iprop(∃ xs0 xs1, ⌜S.inv t.val xs0 xs1⌝ ∗ owns (c : Thread nD τ) scM0_0 fullShare xs0 ∗ owns (c : Thread nD τ) scM0_1 fullShare xs1 ∗ (∃ r, prngReg c r)) from if_neg h0]
  iintro ⟨⟨%xs0, %xs1, %hi, Hs0, Hs1, Hg⟩, Ho, H0, H1, H2, H3, H4, H5, H6, H7, H8, H9, H10, H11, H12⟩
  by_cases h1 : t.val < 74
  · have ri := S.hB t ⟨by omega, h1⟩ d2 d3 d4 d5 (Y 9) (Y 11) xs0 xs1 r9 r11 hi
    iapply (tripleB c t ⟨by omega, h1⟩ (iblk m c 0 t) (iblk m c 1 t) (xf2 m c t d2) (xf3 m c t d3) (xf4 m c t d4) (xf5 m c t d5) (Y 9) (Y 11) xs0 xs1 (Y 6) (Y 7) (Y 8) (Y 10) (Y 12) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [Hs0]; · iexact Hs0
    isplitl [Hs1]; · iexact Hs1
    iintro ⟨H0, H1, H2, H3, H4, H5, H6, H7, H8, H9, H10, H11, H12, Hs0, Hs1⟩
    isplitl [Hs0 Hs1 Hg]
    · iexists _, _; isplitr
      · ipureintro; exact ri
      isplitl [Hs0]; · iexact Hs0
      isplitl [Hs1]; · iexact Hs1
      iexact Hg
    isplitl [Ho]; · iexact Ho
    isplitl [H0]
    · iexists _; isplitr
      swap; · iexact H0
      ipureintro; exact rfl
    isplitl [H1]
    · iexists _; isplitr
      swap; · iexact H1
      ipureintro; exact rfl
    isplitl [H2]
    · iexists _; isplitr
      swap; · iexact H2
      ipureintro; exact trivial
    isplitl [H3]
    · iexists _; isplitr
      swap; · iexact H3
      ipureintro; exact trivial
    isplitl [H4]
    · iexists _; isplitr
      swap; · iexact H4
      ipureintro; exact trivial
    isplitl [H5]
    · iexists _; isplitr
      swap; · iexact H5
      ipureintro; exact trivial
    isplitl [H6]
    · iexists _; isplitr
      swap; · iexact H6
      ipureintro; exact fun h => absurd h (by omega)
    isplitl [H7]
    · iexists _; isplitr
      swap; · iexact H7
      ipureintro; exact fun h => absurd h (by omega)
    isplitl [H8]
    · iexists _; isplitr
      swap; · iexact H8
      ipureintro; exact fun h => absurd h (by omega)
    isplitl [H9]
    · iexists _; isplitr
      swap; · iexact H9
      ipureintro; exact r9
    isplitl [H10]
    · iexists _; isplitr
      swap; · iexact H10
      ipureintro; exact r10
    isplitl [H11]
    · iexists _; isplitr
      swap; · iexact H11
      ipureintro; exact r11
    iexists _; isplitr
    swap; · iexact H12
    ipureintro; exact r12
  · have h2 : t.val = 74 := by omega
    obtain ⟨r6, r7, r8⟩ := S.hC t h2 d2 d3 d4 d5 (Y 9) (Y 11) xs0 xs1 r9 r11 hi
    have ri := S.hD t h2 d2 d3 d4 d5 (Y 9) (Y 11) xs0 xs1
    iapply (tripleC c t h2 (iblk m c 0 t) (iblk m c 1 t) (xf2 m c t d2) (xf3 m c t d3) (xf4 m c t d4) (xf5 m c t d5) (Y 9) (Y 11) xs0 xs1 (Y 10) (Y 12) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexact H9
    isplitl [H10]; · iexact H10
    isplitl [H11]; · iexact H11
    isplitl [H12]; · iexact H12
    isplitl [Hs0]; · iexact Hs0
    isplitl [Hs1]; · iexact Hs1
    iintro ⟨H0, H1, H2, H3, H4, H5, H6, H7, H8, H9, H10, H11, H12, Hs0, Hs1⟩
    isplitl [Hs0 Hs1 Hg]
    · iexists _, _; isplitr
      · ipureintro; exact ri
      isplitl [Hs0]; · iexact Hs0
      isplitl [Hs1]; · iexact Hs1
      iexact Hg
    isplitl [Ho]; · iexact Ho
    isplitl [H0]
    · iexists _; isplitr
      swap; · iexact H0
      ipureintro; exact rfl
    isplitl [H1]
    · iexists _; isplitr
      swap; · iexact H1
      ipureintro; exact rfl
    isplitl [H2]
    · iexists _; isplitr
      swap; · iexact H2
      ipureintro; exact trivial
    isplitl [H3]
    · iexists _; isplitr
      swap; · iexact H3
      ipureintro; exact trivial
    isplitl [H4]
    · iexists _; isplitr
      swap; · iexact H4
      ipureintro; exact trivial
    isplitl [H5]
    · iexists _; isplitr
      swap; · iexact H5
      ipureintro; exact trivial
    isplitl [H6]
    · iexists _; isplitr
      swap; · iexact H6
      ipureintro; exact fun _ => r6
    isplitl [H7]
    · iexists _; isplitr
      swap; · iexact H7
      ipureintro; exact fun _ => r7
    isplitl [H8]
    · iexists _; isplitr
      swap; · iexact H8
      ipureintro; exact fun _ => r8
    isplitl [H9]
    · iexists _; isplitr
      swap; · iexact H9
      ipureintro; exact r9
    isplitl [H10]
    · iexists _; isplitr
      swap; · iexact H10
      ipureintro; exact r10
    isplitl [H11]
    · iexists _; isplitr
      swap; · iexact H11
      ipureintro; exact r11
    iexists _; isplitr
    swap; · iexact H12
    ipureintro; exact r12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem Spec.obligation {c : Dev nD} (S : Spec m c) : S.dat.BodyObligation (defs₀ (F := F)) Variants.none () Set.univ := fun t Y hY => by
  rw [bigSep_W0, bigSep_W0, defs₀_row]
  exact Idealize.ShloMosaic.triple_restated (S.sound t Y hY) rfl .rfl fun _ => .rfl

theorem Spec.hin {c : Dev nD} (S : Spec m c) : Pipeline.ΦA spec0 c ⊢ S.dat.Φ 0 := by
  rw [show S.dat.Φ 0 = S.phi 0 from rfl, show S.phi 0 = Pipeline.ΦA spec0 c from if_pos rfl]

theorem Spec.hout {c : Dev nD} (S : Spec m c) : S.dat.Φ (Fin.last cfg0.N) ⊢ Pipeline.ΦA spec0 c := by
  rw [show S.dat.Φ (Fin.last cfg0.N) = S.phi (Fin.last cfg0.N).val from rfl, show S.phi (Fin.last cfg0.N).val = iprop(∃ xs0 xs1, ⌜S.inv (Fin.last cfg0.N).val xs0 xs1⌝ ∗ owns (c : Thread nD τ) scM0_0 fullShare xs0 ∗ owns (c : Thread nD τ) scM0_1 fullShare xs1 ∗ (∃ r, prngReg c r)) from if_neg (by decide), PhiA0_eq]
  iintro ⟨%xs0, %xs1, -, Hs0, Hs1, Hg⟩
  isplitl [Hs0 Hs1]
  · isplitl [Hs0]
    · iexists _; iexact Hs0
    iexists _; iexact Hs1
  iexact Hg

set_option backward.isDefEq.respectTransparency.types false in
/-- THE RUN: from any memory with zero counters every weakly fair execution terminates, with every array of the region
    at something the proof data allow, every other array as the region found it, and every counter at zero. -/
theorem run_spec (S : (c : Dev nD) → Spec m c) : θ_run defs (onTc (τ := τ) (main (F := F))) (s₀ m ρ) (fun r => (Pipeline.RDat.FramePost cfg0 (fun c => (S c).dat) (V m)) r ∧ r.2.sem = fun _ => 0) :=
  Pipeline.RDat.θ_run_frame_track (Q' := _) cfgs (0 : Fin 1) launch0 defs₀ Variants.none (fun c => (S c).dat) m ρ main
    (hbody := fun c => (S c).obligation) (hshare := fun c w => by unfold RDat.share; split <;> rfl)
    (howed := fun _ _ => rfl) (V := V m) (hmain := hmain m Variants.none) (hA := fun _ _ => rfl) (hin := fun c => (S c).hin) (hout := fun c => (S c).hout)
    (hQ' := fun _ h => h)

/-- The specification that asks for nothing. -/
def trivialSpec (c : Dev nD) : Spec m c where
  inv _ _ _ := True
  R6 _ := True
  R7 _ := True
  R8 _ := True
  R9 _ := True
  R10 _ := True
  R11 _ := True
  R12 _ := True
  hA _ _ _ _ _ _ := ⟨trivial, trivial, trivial, trivial, trivial⟩
  hB _ _ _ _ _ _ _ _ _ _ _ _ _ := trivial
  hC _ _ _ _ _ _ _ _ _ _ _ _ _ := ⟨trivial, trivial, trivial⟩
  hD _ _ _ _ _ _ _ _ _ _ := trivial

/-- The argument arrays end as they were, for any specification. -/
theorem args_of_post (S : (c : Dev nD) → Spec m c) (r : PUnit × MemSt nD τ sig (Elt F)) (h : Pipeline.RDat.FramePost cfg0 (fun c => (S c).dat) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (h.arr_in c 2 rfl).trans (V_main_arg2 m c),
    ((h c).2 main_arg3 (Pipeline.mem_restRefs_of main_arg3 (by decide) (by decide))).trans (V_main_arg3 m c),
    (h.arr_in c 3 rfl).trans (V_main_arg4 m c),
    ((h c).2 main_arg5 (Pipeline.mem_restRefs_of main_arg5 (by decide) (by decide))).trans (V_main_arg5 m c)⟩

variable (m)

/-- THE FRAME: at any values, every execution terminates, leaves the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_of_post (fun c => trivialSpec c) r h.1, h.2⟩) (run_spec ρ (fun c => trivialSpec (m := m) c))

end Cert.Kernel.Hand

end
-- ==== Proof.KernelIdeal.Points.lean ====
module

public import proofs.«01_k».proof.Proof.Gen.KernelIdeal.Frame
public import proofs.«01_k».proof.Proof.Gen.KernelIdeal.Skeleton
public import Idealize.ShloMosaic.Lib.Pipeline.TableIdle

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! What the runs of the body share: the branch conditions in closed form over the points, the staging and scratch
    memrefs at a point, and the region's invariant with the scratch named. -/

/-- The first branch's condition: the first point. -/
abbrev condA (i : grid0.Coords) : Prop := k0_cond1 i = 1#1
theorem hcondA : ∀ t : Fin cfg0.N, condA (grid0.coords t) ↔ t.val = 0 :=
  (by decide +kernel : ∀ t : Fin grid0.N, condA (grid0.coords t) ↔ t.val = 0)
/-- The second branch's condition: a full block of rows. -/
abbrev condF (i : grid0.Coords) : Prop := (Scalar.cmpi .ne (Scalar.extui (Scalar.cmpi .slt (BitVec.ofNat 32 (i 0).val) 74#32)) 0#32) = 1#1
theorem hcondF : ∀ t : Fin cfg0.N, condF (grid0.coords t) ↔ t.val < 74 :=
  (by decide +kernel : ∀ t : Fin grid0.N, condF (grid0.coords t) ↔ t.val < 74)
/-- The third branch's condition: the last point. -/
abbrev condL (i : grid0.Coords) : Prop := k0_cond3 i = 1#1
theorem hcondL : ∀ t : Fin cfg0.N, condL (grid0.coords t) ↔ t.val = 74 :=
  (by decide +kernel : ∀ t : Fin grid0.N, condL (grid0.coords t) ↔ t.val = 74)

/-- Each window's current staging memref at a point, and its wholeness. -/
abbrev ms0_0 (t : Fin cfg0.N) : Memref sig .tc .vmem S256x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x896 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x2048 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x896 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x2048 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x896 .fp8e4m3 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x128 .f32 := win0_12.stage (cfg0.slots t 12)
abbrev hs0_12 (t : Fin cfg0.N) : (ms0_12 t).IsWhole := hstage0_12 ((cfg0.slots t 12).cast nbuf0_12)
/-- The scratch operands: the running statistics and the token factors. -/
abbrev scM0_0 : Memref sig .tc .vmem S5x8x256 .f32 := Memref.whole cc0_scratch0
abbrev scM0_1 : Memref sig .tc .vmem S2x8x256 .f32 := Memref.whole cc0_scratch1

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KernelIdeal.RunA.lean ====
module

public import proofs.«01_k».proof.Proof.KernelIdeal.Points

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 2000000 in
/-- What the body's stores leave at the first point: the quantiser stores the codes, scales and token factors, the statistics are reset, then four chunks of rows are folded in. The
    pieces written to each stored buffer are found by running the body; every other buffer is handed back as it was. -/
noncomputable def runA (c : Dev nD) (i : grid0.Coords) (arg1 : Memref sig .tc .vmem S256x2048 .bf16) (harg1 : arg1.IsWhole) (arg2 : Memref sig .tc .vmem S256x896 .bf16) (harg2 : arg2.IsWhole) (arg3 : Memref sig .tc .vmem S2048x2048 .fp8e4m3) (harg3 : arg3.IsWhole) (arg4 : Memref sig .tc .vmem S2048x896 .fp8e4m3) (harg4 : arg4.IsWhole) (arg5 : Memref sig .tc .vmem S16x128 .f32) (harg5 : arg5.IsWhole) (arg6 : Memref sig .tc .vmem S16x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S256x2048 .fp8e4m3) (harg10 : arg10.IsWhole) (arg11 : Memref sig .tc .vmem S2x128 .f32) (harg11 : arg11.IsWhole) (arg12 : Memref sig .tc .vmem S256x896 .fp8e4m3) (harg12 : arg12.IsWhole) (arg13 : Memref sig .tc .vmem S2x128 .f32) (harg13 : arg13.IsWhole) (arg14 : Memref sig .tc .vmem S5x8x256 .f32) (harg14 : arg14.IsWhole) (arg15 : Memref sig .tc .vmem S2x8x256 .f32) (harg15 : arg15.IsWhole) (hcA : condA i) (hcF : condF i) (hcL : ¬condL i)
    (x0 : Vec F S256x2048 .bf16) (x1 : Vec F S256x896 .bf16) (x2 : Vec F S2048x2048 .fp8e4m3) (x3 : Vec F S2048x896 .fp8e4m3) (x4 : Vec F S16x128 .f32) (x5 : Vec F S16x128 .f32) :
    Σ' (L9 : List (View.Piece (Elt F) S256x2048 .fp8e4m3)), Σ' (L10 : List (View.Piece (Elt F) S2x128 .f32)), Σ' (L11 : List (View.Piece (Elt F) S256x896 .fp8e4m3)), Σ' (L12 : List (View.Piece (Elt F) S2x128 .f32)), Σ' (L13 : List (View.Piece (Elt F) S5x8x256 .f32)), { L14 : List (View.Piece (Elt F) S2x8x256 .f32) //
      ∀ (xo6 : Vec F S2x128 .f32) (xo7 : Vec F S2x128 .f32) (xo8 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo6 ∗ owns (c : Thread nD τ) arg8 fullShare xo7 ∗ owns (c : Thread nD τ) arg9 fullShare xo8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo6 ∗ owns (c : Thread nD τ) arg8 fullShare xo7 ∗ owns (c : Thread nD τ) arg9 fullShare xo8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14)) -∗ K ⟨⟩))
          ⊢ wp frame (wpE (defs₀ (F := F)) Variants.none c none) E (cc0_distill_kl i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, fun xo6 xo7 xo8 E K => ?run⟩
  case run =>
    simp only [cc0_distill_kl_eq_skeleton]; unfold cc0_distill_kl_skel
    simp only [k0_part1_eq_skeleton, k0_part2_eq_skeleton, k0_part3_eq_skeleton, k0_part24_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hcA | sl_exact hcF | sl_exact hcL)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14

end Cert.KernelIdeal.Hand

end
-- ==== Proof.KernelIdeal.RunB.lean ====
module

public import proofs.«01_k».proof.Proof.KernelIdeal.RunA

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 2000000 in
/-- What the body's stores leave at a middle point: four chunks of rows are folded into the statistics. The
    pieces written to each stored buffer are found by running the body; every other buffer is handed back as it was. -/
noncomputable def runB (c : Dev nD) (i : grid0.Coords) (arg1 : Memref sig .tc .vmem S256x2048 .bf16) (harg1 : arg1.IsWhole) (arg2 : Memref sig .tc .vmem S256x896 .bf16) (harg2 : arg2.IsWhole) (arg3 : Memref sig .tc .vmem S2048x2048 .fp8e4m3) (harg3 : arg3.IsWhole) (arg4 : Memref sig .tc .vmem S2048x896 .fp8e4m3) (harg4 : arg4.IsWhole) (arg5 : Memref sig .tc .vmem S16x128 .f32) (harg5 : arg5.IsWhole) (arg6 : Memref sig .tc .vmem S16x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S256x2048 .fp8e4m3) (harg10 : arg10.IsWhole) (arg11 : Memref sig .tc .vmem S2x128 .f32) (harg11 : arg11.IsWhole) (arg12 : Memref sig .tc .vmem S256x896 .fp8e4m3) (harg12 : arg12.IsWhole) (arg13 : Memref sig .tc .vmem S2x128 .f32) (harg13 : arg13.IsWhole) (arg14 : Memref sig .tc .vmem S5x8x256 .f32) (harg14 : arg14.IsWhole) (arg15 : Memref sig .tc .vmem S2x8x256 .f32) (harg15 : arg15.IsWhole) (hcA : ¬condA i) (hcF : condF i) (hcL : ¬condL i)
    (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) :
    { L13 : List (View.Piece (Elt F) S5x8x256 .f32) //
      ∀ (xo6 : Vec F S2x128 .f32) (xo7 : Vec F S2x128 .f32) (xo8 : Vec F S2x128 .f32) (xo10 : Vec F S2x128 .f32) (xo12 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo6 ∗ owns (c : Thread nD τ) arg8 fullShare xo7 ∗ owns (c : Thread nD τ) arg9 fullShare xo8 ∗ owns (c : Thread nD τ) arg10 fullShare xo9 ∗ owns (c : Thread nD τ) arg11 fullShare xo10 ∗ owns (c : Thread nD τ) arg12 fullShare xo11 ∗ owns (c : Thread nD τ) arg13 fullShare xo12 ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo6 ∗ owns (c : Thread nD τ) arg8 fullShare xo7 ∗ owns (c : Thread nD τ) arg9 fullShare xo8 ∗ owns (c : Thread nD τ) arg10 fullShare xo9 ∗ owns (c : Thread nD τ) arg11 fullShare xo10 ∗ owns (c : Thread nD τ) arg12 fullShare xo11 ∗ owns (c : Thread nD τ) arg13 fullShare xo12 ∗ (∃ f, arg14.view.loc (c : Thread nD τ) ↦[arg14.view.set]{fullShare} arg14.view.writes (Elt F) f L13) ∗ owns (c : Thread nD τ) arg15 fullShare xs1) -∗ K ⟨⟩))
          ⊢ wp frame (wpE (defs₀ (F := F)) Variants.none c none) E (cc0_distill_kl i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, fun xo6 xo7 xo8 xo10 xo12 E K => ?run⟩
  case run =>
    simp only [cc0_distill_kl_eq_skeleton]; unfold cc0_distill_kl_skel
    simp only [k0_part24_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hcA | sl_exact hcF | sl_exact hcL)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    iexists _; isplitr; · ipureintro; exact harg15.read_unread _
    iexact H14

end Cert.KernelIdeal.Hand

end
-- ==== Proof.KernelIdeal.RunC.lean ====
module

public import proofs.«01_k».proof.Proof.KernelIdeal.RunB

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 2000000 in
/-- What the body's stores leave at the last point: one partial chunk of rows, then the three results. The
    pieces written to each stored buffer are found by running the body; every other buffer is handed back as it was. -/
noncomputable def runC (c : Dev nD) (i : grid0.Coords) (arg1 : Memref sig .tc .vmem S256x2048 .bf16) (harg1 : arg1.IsWhole) (arg2 : Memref sig .tc .vmem S256x896 .bf16) (harg2 : arg2.IsWhole) (arg3 : Memref sig .tc .vmem S2048x2048 .fp8e4m3) (harg3 : arg3.IsWhole) (arg4 : Memref sig .tc .vmem S2048x896 .fp8e4m3) (harg4 : arg4.IsWhole) (arg5 : Memref sig .tc .vmem S16x128 .f32) (harg5 : arg5.IsWhole) (arg6 : Memref sig .tc .vmem S16x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S256x2048 .fp8e4m3) (harg10 : arg10.IsWhole) (arg11 : Memref sig .tc .vmem S2x128 .f32) (harg11 : arg11.IsWhole) (arg12 : Memref sig .tc .vmem S256x896 .fp8e4m3) (harg12 : arg12.IsWhole) (arg13 : Memref sig .tc .vmem S2x128 .f32) (harg13 : arg13.IsWhole) (arg14 : Memref sig .tc .vmem S5x8x256 .f32) (harg14 : arg14.IsWhole) (arg15 : Memref sig .tc .vmem S2x8x256 .f32) (harg15 : arg15.IsWhole) (hcA : ¬condA i) (hcF : ¬condF i) (hcL : condL i)
    (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) :
    Σ' (L6 : List (View.Piece (Elt F) S2x128 .f32)), Σ' (L7 : List (View.Piece (Elt F) S2x128 .f32)), Σ' (L8 : List (View.Piece (Elt F) S2x128 .f32)), { L13 : List (View.Piece (Elt F) S5x8x256 .f32) //
      ∀ (xo10 : Vec F S2x128 .f32) (xo12 : Vec F S2x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xo9 ∗ owns (c : Thread nD τ) arg11 fullShare xo10 ∗ owns (c : Thread nD τ) arg12 fullShare xo11 ∗ owns (c : Thread nD τ) arg13 fullShare xo12 ∗ owns (c : Thread nD τ) arg14 fullShare xs0 ∗ owns (c : Thread nD τ) arg15 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ owns (c : Thread nD τ) arg10 fullShare xo9 ∗ owns (c : Thread nD τ) arg11 fullShare xo10 ∗ owns (c : Thread nD τ) arg12 fullShare xo11 ∗ owns (c : Thread nD τ) arg13 fullShare xo12 ∗ (∃ f, arg14.view.loc (c : Thread nD τ) ↦[arg14.view.set]{fullShare} arg14.view.writes (Elt F) f L13) ∗ owns (c : Thread nD τ) arg15 fullShare xs1) -∗ K ⟨⟩))
          ⊢ wp frame (wpE (defs₀ (F := F)) Variants.none c none) E (cc0_distill_kl i arg1 harg1 arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, fun xo10 xo12 E K => ?run⟩
  case run =>
    simp only [cc0_distill_kl_eq_skeleton]; unfold cc0_distill_kl_skel
    simp only [k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hcA | sl_exact hcF | sl_exact hcL)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    iexists _; isplitr; · ipureintro; exact harg15.read_unread _
    iexact H14

end Cert.KernelIdeal.Hand

end
-- ==== Proof.KernelIdeal.Triples.lean ====
module

public import proofs.«01_k».proof.Proof.KernelIdeal.RunC

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window BodyObligation cellOf)
open Cert.KernelIdeal.Gen

variable {F : FTy → Type} [FloatOps F] [Named F]

local notation "𝕄" => MT nD τ sig Unit (Elt F) ℕ (UR sig nD τ) ℕ

/-! What one run of the body leaves, at point `t`: the runs of the three cases at the point's own staging buffers, the
    contents of each stored buffer, and the body's triple in terms of them. -/

/-- The run at the first point. -/
noncomputable abbrev rA (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) :=
  runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcondA t).mpr h) ((hcondF t).mpr (by omega)) (fun h2 => by have := (hcondL t).mp h2; omega) x0 x1 x2 x3 x4 x5

/-- What the run at the first point leaves in operand 10. -/
noncomputable def oA_9 (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) : Vec F S256x2048 .fp8e4m3 :=
  View.canon (rA c t h x0 x1 x2 x3 x4 x5).1

theorem coverA_9 (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (y : Shape.Idx S256x2048) :
    ∃ pc ∈ (rA c t h x0 x1 x2 x3 x4 x5).1, y ∈ pc.1.set :=
  View.cover_of_tiledL (rA c t h x0 x1 x2 x3 x4 x5).1 S256x2048.size (by sl_kernel_rfl) y

/-- What the run at the first point leaves in operand 11. -/
noncomputable def oA_10 (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) : Vec F S2x128 .f32 :=
  View.canon (rA c t h x0 x1 x2 x3 x4 x5).2.1

theorem coverA_10 (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (y : Shape.Idx S2x128) :
    ∃ pc ∈ (rA c t h x0 x1 x2 x3 x4 x5).2.1, y ∈ pc.1.set :=
  View.cover_of_tiledL (rA c t h x0 x1 x2 x3 x4 x5).2.1 S1x128.size (by sl_kernel_rfl) y

/-- What the run at the first point leaves in operand 12. -/
noncomputable def oA_11 (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) : Vec F S256x896 .fp8e4m3 :=
  View.canon (rA c t h x0 x1 x2 x3 x4 x5).2.2.1

theorem coverA_11 (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (y : Shape.Idx S256x896) :
    ∃ pc ∈ (rA c t h x0 x1 x2 x3 x4 x5).2.2.1, y ∈ pc.1.set :=
  View.cover_of_tiledL (rA c t h x0 x1 x2 x3 x4 x5).2.2.1 S256x896.size (by sl_kernel_rfl) y

/-- What the run at the first point leaves in operand 13. -/
noncomputable def oA_12 (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) : Vec F S2x128 .f32 :=
  View.canon (rA c t h x0 x1 x2 x3 x4 x5).2.2.2.1

theorem coverA_12 (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (y : Shape.Idx S2x128) :
    ∃ pc ∈ (rA c t h x0 x1 x2 x3 x4 x5).2.2.2.1, y ∈ pc.1.set :=
  View.cover_of_tiledL (rA c t h x0 x1 x2 x3 x4 x5).2.2.2.1 S1x128.size (by sl_kernel_rfl) y

/-- What the run at the first point leaves in operand 14. -/
noncomputable def oA_13 (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) : Vec F S5x8x256 .f32 :=
  View.canon (rA c t h x0 x1 x2 x3 x4 x5).2.2.2.2.1

theorem coverA_13 (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (y : Shape.Idx S5x8x256) :
    ∃ pc ∈ (rA c t h x0 x1 x2 x3 x4 x5).2.2.2.2.1, y ∈ pc.1.set :=
  View.cover_of_tiledBy (rA c t h x0 x1 x2 x3 x4 x5).2.2.2.2.1 ![1, 8, 256] (by sl_kernel_rfl) y

/-- What the run at the first point leaves in operand 15. -/
noncomputable def oA_14 (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) : Vec F S2x8x256 .f32 :=
  View.canon (rA c t h x0 x1 x2 x3 x4 x5).2.2.2.2.2.1

theorem coverA_14 (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (y : Shape.Idx S2x8x256) :
    ∃ pc ∈ (rA c t h x0 x1 x2 x3 x4 x5).2.2.2.2.2.1, y ∈ pc.1.set :=
  View.cover_of_tiledL (rA c t h x0 x1 x2 x3 x4 x5).2.2.2.2.2.1 S1x8x256.size (by sl_kernel_rfl) y

/-- The body's triple at the first point: every buffer handed over and given back, the stored ones at what the run leaves. -/
theorem tripleA (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo6 : Vec F S2x128 .f32) (xo7 : Vec F S2x128 .f32) (xo8 : Vec F S2x128 .f32) (K : PUnit → sProp 𝕄) :
    iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare x4 ∗ owns (c : Thread nD τ) (ms0_5 t) fullShare x5 ∗ owns (c : Thread nD τ) (ms0_6 t) fullShare xo6 ∗ owns (c : Thread nD τ) (ms0_7 t) fullShare xo7 ∗ owns (c : Thread nD τ) (ms0_8 t) fullShare xo8 ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) scM0_0 fullShare d) ∗ (∃ d, owns (c : Thread nD τ) scM0_1 fullShare d)
        ∗ (iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare x4 ∗ owns (c : Thread nD τ) (ms0_5 t) fullShare x5 ∗ owns (c : Thread nD τ) (ms0_6 t) fullShare xo6 ∗ owns (c : Thread nD τ) (ms0_7 t) fullShare xo7 ∗ owns (c : Thread nD τ) (ms0_8 t) fullShare xo8 ∗ owns (c : Thread nD τ) (ms0_9 t) fullShare (oA_9 c t h x0 x1 x2 x3 x4 x5) ∗ owns (c : Thread nD τ) (ms0_10 t) fullShare (oA_10 c t h x0 x1 x2 x3 x4 x5) ∗ owns (c : Thread nD τ) (ms0_11 t) fullShare (oA_11 c t h x0 x1 x2 x3 x4 x5) ∗ owns (c : Thread nD τ) (ms0_12 t) fullShare (oA_12 c t h x0 x1 x2 x3 x4 x5) ∗ owns (c : Thread nD τ) scM0_0 fullShare (oA_13 c t h x0 x1 x2 x3 x4 x5) ∗ owns (c : Thread nD τ) scM0_1 fullShare (oA_14 c t h x0 x1 x2 x3 x4 x5)) -∗ K ⟨⟩))
      ⊢ wp frame (wpE (defs₀ (F := F)) Variants.none c none) Set.univ (bodyAt0 t) K := by
  have hr := (rA c t h x0 x1 x2 x3 x4 x5).2.2.2.2.2.2 xo6 xo7 xo8 Set.univ K
  refine BIBase.Entails.trans ?_ hr
  iintro ⟨H0, H1, H2, H3, H4, H5, H6, H7, H8, H9, H10, H11, H12, H13, H14, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, ⟨%e9, H9⟩, ⟨%e10, H10⟩, ⟨%e11, H11⟩, ⟨%e12, H12⟩, ⟨%e13, H13⟩, ⟨%e14, H14⟩⟩
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · unfold owns; iexists _; isplitr
    swap; · iexact H9
    ipureintro; exact View.read_writes_eq_canon _ _ _ (coverA_9 c t h x0 x1 x2 x3 x4 x5)
  isplitl [H10]
  · unfold owns; iexists _; isplitr
    swap; · iexact H10
    ipureintro; exact View.read_writes_eq_canon _ _ _ (coverA_10 c t h x0 x1 x2 x3 x4 x5)
  isplitl [H11]
  · unfold owns; iexists _; isplitr
    swap; · iexact H11
    ipureintro; exact View.read_writes_eq_canon _ _ _ (coverA_11 c t h x0 x1 x2 x3 x4 x5)
  isplitl [H12]
  · unfold owns; iexists _; isplitr
    swap; · iexact H12
    ipureintro; exact View.read_writes_eq_canon _ _ _ (coverA_12 c t h x0 x1 x2 x3 x4 x5)
  isplitl [H13]
  · unfold owns; iexists _; isplitr
    swap; · iexact H13
    ipureintro; exact View.read_writes_eq_canon _ _ _ (coverA_13 c t h x0 x1 x2 x3 x4 x5)
  unfold owns; iexists _; isplitr
  swap; · iexact H14
  ipureintro; exact View.read_writes_eq_canon _ _ _ (coverA_14 c t h x0 x1 x2 x3 x4 x5)

/-- The run at a middle point. -/
noncomputable abbrev rB (c : Dev nD) (t : Fin cfg0.N) (h : 0 < t.val ∧ t.val < 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) :=
  runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h2 => by have := (hcondA t).mp h2; omega) ((hcondF t).mpr h.2) (fun h2 => by have := (hcondL t).mp h2; omega) x0 x1 x2 x3 x4 x5 xo9 xo11 xs0 xs1

/-- What the run at a middle point leaves in operand 14. -/
noncomputable def oB_13 (c : Dev nD) (t : Fin cfg0.N) (h : 0 < t.val ∧ t.val < 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) : Vec F S5x8x256 .f32 :=
  View.canon (rB c t h x0 x1 x2 x3 x4 x5 xo9 xo11 xs0 xs1).1

theorem coverB_13 (c : Dev nD) (t : Fin cfg0.N) (h : 0 < t.val ∧ t.val < 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) (y : Shape.Idx S5x8x256) :
    ∃ pc ∈ (rB c t h x0 x1 x2 x3 x4 x5 xo9 xo11 xs0 xs1).1, y ∈ pc.1.set :=
  View.cover_of_tiledBy (rB c t h x0 x1 x2 x3 x4 x5 xo9 xo11 xs0 xs1).1 ![1, 8, 256] (by sl_kernel_rfl) y

/-- The body's triple at a middle point: every buffer handed over and given back, the stored ones at what the run leaves. -/
theorem tripleB (c : Dev nD) (t : Fin cfg0.N) (h : 0 < t.val ∧ t.val < 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) (xo6 : Vec F S2x128 .f32) (xo7 : Vec F S2x128 .f32) (xo8 : Vec F S2x128 .f32) (xo10 : Vec F S2x128 .f32) (xo12 : Vec F S2x128 .f32) (K : PUnit → sProp 𝕄) :
    iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare x4 ∗ owns (c : Thread nD τ) (ms0_5 t) fullShare x5 ∗ owns (c : Thread nD τ) (ms0_6 t) fullShare xo6 ∗ owns (c : Thread nD τ) (ms0_7 t) fullShare xo7 ∗ owns (c : Thread nD τ) (ms0_8 t) fullShare xo8 ∗ owns (c : Thread nD τ) (ms0_9 t) fullShare xo9 ∗ owns (c : Thread nD τ) (ms0_10 t) fullShare xo10 ∗ owns (c : Thread nD τ) (ms0_11 t) fullShare xo11 ∗ owns (c : Thread nD τ) (ms0_12 t) fullShare xo12 ∗ owns (c : Thread nD τ) scM0_0 fullShare xs0 ∗ owns (c : Thread nD τ) scM0_1 fullShare xs1
        ∗ (iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare x4 ∗ owns (c : Thread nD τ) (ms0_5 t) fullShare x5 ∗ owns (c : Thread nD τ) (ms0_6 t) fullShare xo6 ∗ owns (c : Thread nD τ) (ms0_7 t) fullShare xo7 ∗ owns (c : Thread nD τ) (ms0_8 t) fullShare xo8 ∗ owns (c : Thread nD τ) (ms0_9 t) fullShare xo9 ∗ owns (c : Thread nD τ) (ms0_10 t) fullShare xo10 ∗ owns (c : Thread nD τ) (ms0_11 t) fullShare xo11 ∗ owns (c : Thread nD τ) (ms0_12 t) fullShare xo12 ∗ owns (c : Thread nD τ) scM0_0 fullShare (oB_13 c t h x0 x1 x2 x3 x4 x5 xo9 xo11 xs0 xs1) ∗ owns (c : Thread nD τ) scM0_1 fullShare xs1) -∗ K ⟨⟩))
      ⊢ wp frame (wpE (defs₀ (F := F)) Variants.none c none) Set.univ (bodyAt0 t) K := by
  have hr := (rB c t h x0 x1 x2 x3 x4 x5 xo9 xo11 xs0 xs1).2 xo6 xo7 xo8 xo10 xo12 Set.univ K
  refine BIBase.Entails.trans ?_ hr
  iintro ⟨H0, H1, H2, H3, H4, H5, H6, H7, H8, H9, H10, H11, H12, H13, H14, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, ⟨%e13, H13⟩, H14⟩
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · unfold owns; iexists _; isplitr
    swap; · iexact H13
    ipureintro; exact View.read_writes_eq_canon _ _ _ (coverB_13 c t h x0 x1 x2 x3 x4 x5 xo9 xo11 xs0 xs1)
  iexact H14

/-- The run at the last point. -/
noncomputable abbrev rC (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) :=
  runC (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h2 => by have := (hcondA t).mp h2; omega) (fun h2 => by have := (hcondF t).mp h2; omega) ((hcondL t).mpr h) x0 x1 x2 x3 x4 x5 xo9 xo11 xs0 xs1

/-- What the run at the last point leaves in operand 7. -/
noncomputable def oC_6 (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) : Vec F S2x128 .f32 :=
  View.canon (rC c t h x0 x1 x2 x3 x4 x5 xo9 xo11 xs0 xs1).1

theorem coverC_6 (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) (y : Shape.Idx S2x128) :
    ∃ pc ∈ (rC c t h x0 x1 x2 x3 x4 x5 xo9 xo11 xs0 xs1).1, y ∈ pc.1.set :=
  View.cover_of_tiledL (rC c t h x0 x1 x2 x3 x4 x5 xo9 xo11 xs0 xs1).1 S1x128.size (by sl_kernel_rfl) y

/-- What the run at the last point leaves in operand 8. -/
noncomputable def oC_7 (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) : Vec F S2x128 .f32 :=
  View.canon (rC c t h x0 x1 x2 x3 x4 x5 xo9 xo11 xs0 xs1).2.1

theorem coverC_7 (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) (y : Shape.Idx S2x128) :
    ∃ pc ∈ (rC c t h x0 x1 x2 x3 x4 x5 xo9 xo11 xs0 xs1).2.1, y ∈ pc.1.set :=
  View.cover_of_tiledL (rC c t h x0 x1 x2 x3 x4 x5 xo9 xo11 xs0 xs1).2.1 S1x128.size (by sl_kernel_rfl) y

/-- What the run at the last point leaves in operand 9. -/
noncomputable def oC_8 (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) : Vec F S2x128 .f32 :=
  View.canon (rC c t h x0 x1 x2 x3 x4 x5 xo9 xo11 xs0 xs1).2.2.1

theorem coverC_8 (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) (y : Shape.Idx S2x128) :
    ∃ pc ∈ (rC c t h x0 x1 x2 x3 x4 x5 xo9 xo11 xs0 xs1).2.2.1, y ∈ pc.1.set :=
  View.cover_of_tiledL (rC c t h x0 x1 x2 x3 x4 x5 xo9 xo11 xs0 xs1).2.2.1 S1x128.size (by sl_kernel_rfl) y

/-- What the run at the last point leaves in operand 14. -/
noncomputable def oC_13 (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) : Vec F S5x8x256 .f32 :=
  View.canon (rC c t h x0 x1 x2 x3 x4 x5 xo9 xo11 xs0 xs1).2.2.2.1

theorem coverC_13 (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) (y : Shape.Idx S5x8x256) :
    ∃ pc ∈ (rC c t h x0 x1 x2 x3 x4 x5 xo9 xo11 xs0 xs1).2.2.2.1, y ∈ pc.1.set :=
  View.cover_of_tiledBy (rC c t h x0 x1 x2 x3 x4 x5 xo9 xo11 xs0 xs1).2.2.2.1 ![1, 8, 256] (by sl_kernel_rfl) y

/-- The body's triple at the last point: every buffer handed over and given back, the stored ones at what the run leaves. -/
theorem tripleC (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) (xo10 : Vec F S2x128 .f32) (xo12 : Vec F S2x128 .f32) (K : PUnit → sProp 𝕄) :
    iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare x4 ∗ owns (c : Thread nD τ) (ms0_5 t) fullShare x5 ∗ (∃ d, owns (c : Thread nD τ) (ms0_6 t) fullShare d) ∗ (∃ d, owns (c : Thread nD τ) (ms0_7 t) fullShare d) ∗ (∃ d, owns (c : Thread nD τ) (ms0_8 t) fullShare d) ∗ owns (c : Thread nD τ) (ms0_9 t) fullShare xo9 ∗ owns (c : Thread nD τ) (ms0_10 t) fullShare xo10 ∗ owns (c : Thread nD τ) (ms0_11 t) fullShare xo11 ∗ owns (c : Thread nD τ) (ms0_12 t) fullShare xo12 ∗ owns (c : Thread nD τ) scM0_0 fullShare xs0 ∗ owns (c : Thread nD τ) scM0_1 fullShare xs1
        ∗ (iprop(owns (c : Thread nD τ) (ms0_0 t) fullShare x0 ∗ owns (c : Thread nD τ) (ms0_1 t) fullShare x1 ∗ owns (c : Thread nD τ) (ms0_2 t) fullShare x2 ∗ owns (c : Thread nD τ) (ms0_3 t) fullShare x3 ∗ owns (c : Thread nD τ) (ms0_4 t) fullShare x4 ∗ owns (c : Thread nD τ) (ms0_5 t) fullShare x5 ∗ owns (c : Thread nD τ) (ms0_6 t) fullShare (oC_6 c t h x0 x1 x2 x3 x4 x5 xo9 xo11 xs0 xs1) ∗ owns (c : Thread nD τ) (ms0_7 t) fullShare (oC_7 c t h x0 x1 x2 x3 x4 x5 xo9 xo11 xs0 xs1) ∗ owns (c : Thread nD τ) (ms0_8 t) fullShare (oC_8 c t h x0 x1 x2 x3 x4 x5 xo9 xo11 xs0 xs1) ∗ owns (c : Thread nD τ) (ms0_9 t) fullShare xo9 ∗ owns (c : Thread nD τ) (ms0_10 t) fullShare xo10 ∗ owns (c : Thread nD τ) (ms0_11 t) fullShare xo11 ∗ owns (c : Thread nD τ) (ms0_12 t) fullShare xo12 ∗ owns (c : Thread nD τ) scM0_0 fullShare (oC_13 c t h x0 x1 x2 x3 x4 x5 xo9 xo11 xs0 xs1) ∗ owns (c : Thread nD τ) scM0_1 fullShare xs1) -∗ K ⟨⟩))
      ⊢ wp frame (wpE (defs₀ (F := F)) Variants.none c none) Set.univ (bodyAt0 t) K := by
  have hr := (rC c t h x0 x1 x2 x3 x4 x5 xo9 xo11 xs0 xs1).2.2.2.2 xo10 xo12 Set.univ K
  refine BIBase.Entails.trans ?_ hr
  iintro ⟨H0, H1, H2, H3, H4, H5, H6, H7, H8, H9, H10, H11, H12, H13, H14, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, ⟨%e6, H6⟩, ⟨%e7, H7⟩, ⟨%e8, H8⟩, H9, H10, H11, H12, ⟨%e13, H13⟩, H14⟩
  iapply Hk
  isplitl [H0]
  · iexact H0
  isplitl [H1]
  · iexact H1
  isplitl [H2]
  · iexact H2
  isplitl [H3]
  · iexact H3
  isplitl [H4]
  · iexact H4
  isplitl [H5]
  · iexact H5
  isplitl [H6]
  · unfold owns; iexists _; isplitr
    swap; · iexact H6
    ipureintro; exact View.read_writes_eq_canon _ _ _ (coverC_6 c t h x0 x1 x2 x3 x4 x5 xo9 xo11 xs0 xs1)
  isplitl [H7]
  · unfold owns; iexists _; isplitr
    swap; · iexact H7
    ipureintro; exact View.read_writes_eq_canon _ _ _ (coverC_7 c t h x0 x1 x2 x3 x4 x5 xo9 xo11 xs0 xs1)
  isplitl [H8]
  · unfold owns; iexists _; isplitr
    swap; · iexact H8
    ipureintro; exact View.read_writes_eq_canon _ _ _ (coverC_8 c t h x0 x1 x2 x3 x4 x5 xo9 xo11 xs0 xs1)
  isplitl [H9]
  · iexact H9
  isplitl [H10]
  · iexact H10
  isplitl [H11]
  · iexact H11
  isplitl [H12]
  · iexact H12
  isplitl [H13]
  · unfold owns; iexists _; isplitr
    swap; · iexact H13
    ipureintro; exact View.read_writes_eq_canon _ _ _ (coverC_13 c t h x0 x1 x2 x3 x4 x5 xo9 xo11 xs0 xs1)
  iexact H14

end Cert.KernelIdeal.Hand

end
-- ==== Proof.KernelIdeal.Body.lean ====
module

public import proofs.«01_k».proof.Proof.KernelIdeal.Triples
public import Idealize.ShloMosaic.Lib.Pipeline.DatRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! The region's proof data, over a specification of what its buffers hold. -/

/-- A weight or scale window's buffer just fetched at point `t`: the block on the rows inside the array, `d` elsewhere. -/
noncomputable def xf2 (c : Dev nD) (t : Fin cfg0.N) (d : Vec F S2048x2048 .fp8e4m3) : Vec F S2048x2048 .fp8e4m3 := win0_2.fill (grid0.coords t) d (iblk m c 2 t)
noncomputable def xf3 (c : Dev nD) (t : Fin cfg0.N) (d : Vec F S2048x896 .fp8e4m3) : Vec F S2048x896 .fp8e4m3 := win0_3.fill (grid0.coords t) d (iblk m c 3 t)
noncomputable def xf4 (c : Dev nD) (t : Fin cfg0.N) (d : Vec F S16x128 .f32) : Vec F S16x128 .f32 := win0_4.fill (grid0.coords t) d (iblk m c 4 t)
noncomputable def xf5 (c : Dev nD) (t : Fin cfg0.N) (d : Vec F S16x128 .f32) : Vec F S16x128 .f32 := win0_5.fill (grid0.coords t) d (iblk m c 5 t)

/-- A specification of the region on device `c`: what the statistics and the token factors satisfy before point `n`
    (`inv`), what each result's block satisfies (`R6` to `R12`), and that the three runs of the body keep it. -/
structure Spec (c : Dev nD) where
  inv : ℕ → Vec F S5x8x256 .f32 → Vec F S2x8x256 .f32 → Prop
  R6 : Vec F S2x128 .f32 → Prop
  R7 : Vec F S2x128 .f32 → Prop
  R8 : Vec F S2x128 .f32 → Prop
  R9 : Vec F S256x2048 .fp8e4m3 → Prop
  R10 : Vec F S2x128 .f32 → Prop
  R11 : Vec F S256x896 .fp8e4m3 → Prop
  R12 : Vec F S2x128 .f32 → Prop
  hA : ∀ (t : Fin cfg0.N) (h : t.val = 0) (d2 : Vec F S2048x2048 .fp8e4m3) (d3 : Vec F S2048x896 .fp8e4m3) (d4 : Vec F S16x128 .f32) (d5 : Vec F S16x128 .f32),
    R9 (oA_9 c t h (iblk m c 0 t) (iblk m c 1 t) (xf2 m c t d2) (xf3 m c t d3) (xf4 m c t d4) (xf5 m c t d5)) ∧ R10 (oA_10 c t h (iblk m c 0 t) (iblk m c 1 t) (xf2 m c t d2) (xf3 m c t d3) (xf4 m c t d4) (xf5 m c t d5)) ∧ R11 (oA_11 c t h (iblk m c 0 t) (iblk m c 1 t) (xf2 m c t d2) (xf3 m c t d3) (xf4 m c t d4) (xf5 m c t d5)) ∧ R12 (oA_12 c t h (iblk m c 0 t) (iblk m c 1 t) (xf2 m c t d2) (xf3 m c t d3) (xf4 m c t d4) (xf5 m c t d5))
      ∧ inv 1 (oA_13 c t h (iblk m c 0 t) (iblk m c 1 t) (xf2 m c t d2) (xf3 m c t d3) (xf4 m c t d4) (xf5 m c t d5)) (oA_14 c t h (iblk m c 0 t) (iblk m c 1 t) (xf2 m c t d2) (xf3 m c t d3) (xf4 m c t d4) (xf5 m c t d5))
  hB : ∀ (t : Fin cfg0.N) (h : 0 < t.val ∧ t.val < 74) (d2 : Vec F S2048x2048 .fp8e4m3) (d3 : Vec F S2048x896 .fp8e4m3) (d4 : Vec F S16x128 .f32) (d5 : Vec F S16x128 .f32) (xo9 : Vec F S256x2048 .fp8e4m3) (xo11 : Vec F S256x896 .fp8e4m3) (xs0 : Vec F S5x8x256 .f32) (xs1 : Vec F S2x8x256 .f32),
    R9 xo9 → R11 xo11 → inv t.val xs0 xs1 → inv (t.val + 1) (oB_13 c t h (iblk m c 0 t) (iblk m c 1 t) (xf2 m c t d2) (xf3 m c t d3) (xf4 m c t d4) (xf5 m c t d5) xo9 xo11 xs0 xs1) xs1
  hC : ∀ (t : Fin cfg0.N) (h : t.val = 74) (d2 : Vec F S2048x2048 .fp8e4m3) (d3 : Vec F S2048x896 .fp8e4m3) (d4 : Vec F S16x128 .f32) (d5 : Vec F S16x128 .f32) (xo9 : Vec F S256x2048 .fp8e4m3) (xo11 : Vec F S256x896 .fp8e4m3) (xs0 : Vec F S5x8x256 .f32) (xs1 : Vec F S2x8x256 .f32),
    R9 xo9 → R11 xo11 → inv t.val xs0 xs1 →
      R6 (oC_6 c t h (iblk m c 0 t) (iblk m c 1 t) (xf2 m c t d2) (xf3 m c t d3) (xf4 m c t d4) (xf5 m c t d5) xo9 xo11 xs0 xs1) ∧ R7 (oC_7 c t h (iblk m c 0 t) (iblk m c 1 t) (xf2 m c t d2) (xf3 m c t d3) (xf4 m c t d4) (xf5 m c t d5) xo9 xo11 xs0 xs1) ∧ R8 (oC_8 c t h (iblk m c 0 t) (iblk m c 1 t) (xf2 m c t d2) (xf3 m c t d3) (xf4 m c t d4) (xf5 m c t d5) xo9 xo11 xs0 xs1)
  hD : ∀ (t : Fin cfg0.N) (h : t.val = 74) (d2 : Vec F S2048x2048 .fp8e4m3) (d3 : Vec F S2048x896 .fp8e4m3) (d4 : Vec F S16x128 .f32) (d5 : Vec F S16x128 .f32) (xo9 : Vec F S256x2048 .fp8e4m3) (xo11 : Vec F S256x896 .fp8e4m3) (xs0 : Vec F S5x8x256 .f32) (xs1 : Vec F S2x8x256 .f32),
    inv (t.val + 1) (oC_13 c t h (iblk m c 0 t) (iblk m c 1 t) (xf2 m c t d2) (xf3 m c t d3) (xf4 m c t d4) (xf5 m c t d5) xo9 xo11 xs0 xs1) xs1

variable {m}

/-- What the body leaves in window `w`'s buffer at point `t`. -/
def Spec.left {c : Dev nD} (S : Spec m c) : (w : Fin 13) → Fin cfg0.N → (Y X : (cfg0.win w).block.Idx → Elt F (cfg0.win w).elt) → Prop
  | ⟨0, _⟩, t, _, X => X = iblk m c 0 t
  | ⟨1, _⟩, t, _, X => X = iblk m c 1 t
  | ⟨6, _⟩, t, _, X => t.val = 74 → S.R6 X
  | ⟨7, _⟩, t, _, X => t.val = 74 → S.R7 X
  | ⟨8, _⟩, t, _, X => t.val = 74 → S.R8 X
  | ⟨9, _⟩, _, _, X => S.R9 X
  | ⟨10, _⟩, _, _, X => S.R10 X
  | ⟨11, _⟩, _, _, X => S.R11 X
  | ⟨12, _⟩, _, _, X => S.R12 X
  | _, _, _, _ => True

/-- The region's invariant before point `n`: before the first point the scratch holds anything; later the statistics
    and the token factors are as the specification says. -/
def Spec.phi {c : Dev nD} (S : Spec m c) (n : ℕ) : sProp 𝕄 :=
  if n = 0 then Pipeline.ΦA spec0 c
  else iprop(∃ xs0 xs1, ⌜S.inv n xs0 xs1⌝ ∗ owns (c : Thread nD τ) scM0_0 fullShare xs0 ∗ owns (c : Thread nD τ) scM0_1 fullShare xs1 ∗ (∃ r, prngReg c r))

/-- The region's proof data: the arrays as the region finds them, what the body leaves, the invariant. -/
def Spec.dat {c : Dev nD} (S : Spec m c) : RDat τ (Elt F) Unit ℕ (UR sig nD τ) ℕ cfg0 c where
  A w := V m c (Pipeline.arrRef spec0 w)
  after w t Y X := S.left w t Y X
  Φ t := S.phi t.val
  q _ := fullShare
  owed _ := 0

/-- Input window 0's buffer holds its one block at every point. -/
theorem Spec.finds0 {c : Dev nD} (S : Spec m c) (t : Fin cfg0.N) (Y) (hY : S.dat.Finds 0 t Y) : Y = iblk m c 0 t := by
  have hN : t.val < 75 := lt_of_lt_of_eq t.isLt (show cfg0.N = 75 from N_0)
  by_cases h0 : t.val = 0
  · rw [S.dat.finds_of_fetch ((fetch0_0 t).mpr (by omega))] at hY
    obtain ⟨d, rfl⟩ := hY
    rfl
  · have hf : (cfg0.win 0).fetch t = false := by
      rw [← Bool.not_eq_true]; intro hh; have := (fetch0_0 t).mp hh; omega
    rw [S.dat.finds_of_pos hf h0] at hY
    rcases hY with hY | ⟨Y', -, hY⟩
    · exact absurd hY (by decide +revert)
    · exact hY

/-- Input window 1's buffer holds its one block at every point. -/
theorem Spec.finds1 {c : Dev nD} (S : Spec m c) (t : Fin cfg0.N) (Y) (hY : S.dat.Finds 1 t Y) : Y = iblk m c 1 t := by
  have hN : t.val < 75 := lt_of_lt_of_eq t.isLt (show cfg0.N = 75 from N_0)
  by_cases h0 : t.val = 0
  · rw [S.dat.finds_of_fetch ((fetch0_1 t).mpr (by omega))] at hY
    obtain ⟨d, rfl⟩ := hY
    rfl
  · have hf : (cfg0.win 1).fetch t = false := by
      rw [← Bool.not_eq_true]; intro hh; have := (fetch0_1 t).mp hh; omega
    rw [S.dat.finds_of_pos hf h0] at hY
    rcases hY with hY | ⟨Y', -, hY⟩
    · exact absurd hY (by decide +revert)
    · exact hY

/-- Input window 2's buffer is just fetched at every point. -/
theorem Spec.finds2 {c : Dev nD} (S : Spec m c) (t : Fin cfg0.N) (Y) (hY : S.dat.Finds 2 t Y) : ∃ d, Y = xf2 m c t d := by
  rw [S.dat.finds_of_fetch (fetch0_2 t)] at hY
  exact hY

/-- Input window 3's buffer is just fetched at every point. -/
theorem Spec.finds3 {c : Dev nD} (S : Spec m c) (t : Fin cfg0.N) (Y) (hY : S.dat.Finds 3 t Y) : ∃ d, Y = xf3 m c t d := by
  rw [S.dat.finds_of_fetch (fetch0_3 t)] at hY
  exact hY

/-- Input window 4's buffer is just fetched at every point. -/
theorem Spec.finds4 {c : Dev nD} (S : Spec m c) (t : Fin cfg0.N) (Y) (hY : S.dat.Finds 4 t Y) : ∃ d, Y = xf4 m c t d := by
  rw [S.dat.finds_of_fetch (fetch0_4 t)] at hY
  exact hY

/-- Input window 5's buffer is just fetched at every point. -/
theorem Spec.finds5 {c : Dev nD} (S : Spec m c) (t : Fin cfg0.N) (Y) (hY : S.dat.Finds 5 t Y) : ∃ d, Y = xf5 m c t d := by
  rw [S.dat.finds_of_fetch (fetch0_5 t)] at hY
  exact hY

/-- After the first point, output window 9's buffer is as the first point left it. -/
theorem Spec.finds9 {c : Dev nD} (S : Spec m c) (t : Fin cfg0.N) (h0 : t.val ≠ 0) (Y) (hY : S.dat.Finds 9 t Y) : S.R9 Y := by
  have hN : t.val < 75 := lt_of_lt_of_eq t.isLt (show cfg0.N = 75 from N_0)
  have hf : (cfg0.win 9).fetch t = false := rfl
  rw [S.dat.finds_of_pos hf h0] at hY
  rcases hY with hY | ⟨Y', -, hY⟩
  · have := (flush0_9 _).mp hY; simp only at this; omega
  · exact hY

/-- After the first point, output window 10's buffer is as the first point left it. -/
theorem Spec.finds10 {c : Dev nD} (S : Spec m c) (t : Fin cfg0.N) (h0 : t.val ≠ 0) (Y) (hY : S.dat.Finds 10 t Y) : S.R10 Y := by
  have hN : t.val < 75 := lt_of_lt_of_eq t.isLt (show cfg0.N = 75 from N_0)
  have hf : (cfg0.win 10).fetch t = false := rfl
  rw [S.dat.finds_of_pos hf h0] at hY
  rcases hY with hY | ⟨Y', -, hY⟩
  · have := (flush0_10 _).mp hY; simp only at this; omega
  · exact hY

/-- After the first point, output window 11's buffer is as the first point left it. -/
theorem Spec.finds11 {c : Dev nD} (S : Spec m c) (t : Fin cfg0.N) (h0 : t.val ≠ 0) (Y) (hY : S.dat.Finds 11 t Y) : S.R11 Y := by
  have hN : t.val < 75 := lt_of_lt_of_eq t.isLt (show cfg0.N = 75 from N_0)
  have hf : (cfg0.win 11).fetch t = false := rfl
  rw [S.dat.finds_of_pos hf h0] at hY
  rcases hY with hY | ⟨Y', -, hY⟩
  · have := (flush0_11 _).mp hY; simp only at this; omega
  · exact hY

/-- After the first point, output window 12's buffer is as the first point left it. -/
theorem Spec.finds12 {c : Dev nD} (S : Spec m c) (t : Fin cfg0.N) (h0 : t.val ≠ 0) (Y) (hY : S.dat.Finds 12 t Y) : S.R12 Y := by
  have hN : t.val < 75 := lt_of_lt_of_eq t.isLt (show cfg0.N = 75 from N_0)
  have hf : (cfg0.win 12).fetch t = false := rfl
  rw [S.dat.finds_of_pos hf h0] at hY
  rcases hY with hY | ⟨Y', -, hY⟩
  · have := (flush0_12 _).mp hY; simp only at this; omega
  · exact hY

/-- The body's triple at any point, over the proof data. -/
theorem Spec.sound {c : Dev nD} (S : Spec m c) (t : Fin cfg0.N) (Y : (w : Fin cfg0.W) → (cfg0.win w).block.Idx → Elt F (cfg0.win w).elt)
    (hY : ∀ w, S.dat.Finds w t (Y w)) :
    iprop(S.phi t.val ∗ S.dat.owesAt () t.castSucc ∗ owns (c : Thread nD τ) (ms0_0 t) fullShare (Y 0) ∗ owns (c : Thread nD τ) (ms0_1 t) fullShare (Y 1) ∗ owns (c : Thread nD τ) (ms0_2 t) fullShare (Y 2) ∗ owns (c : Thread nD τ) (ms0_3 t) fullShare (Y 3) ∗ owns (c : Thread nD τ) (ms0_4 t) fullShare (Y 4) ∗ owns (c : Thread nD τ) (ms0_5 t) fullShare (Y 5) ∗ owns (c : Thread nD τ) (ms0_6 t) fullShare (Y 6) ∗ owns (c : Thread nD τ) (ms0_7 t) fullShare (Y 7) ∗ owns (c : Thread nD τ) (ms0_8 t) fullShare (Y 8) ∗ owns (c : Thread nD τ) (ms0_9 t) fullShare (Y 9) ∗ owns (c : Thread nD τ) (ms0_10 t) fullShare (Y 10) ∗ owns (c : Thread nD τ) (ms0_11 t) fullShare (Y 11) ∗ owns (c : Thread nD τ) (ms0_12 t) fullShare (Y 12))
      ⊢ wp frame (wpE (defs₀ (F := F)) Variants.none c none) Set.univ (bodyAt0 t) (fun _ =>
        iprop(S.phi (t.val + 1) ∗ S.dat.owesAt () t.castSucc ∗ (∃ X, ⌜S.left 0 t (Y 0) X⌝ ∗ owns (c : Thread nD τ) (ms0_0 t) fullShare X) ∗ (∃ X, ⌜S.left 1 t (Y 1) X⌝ ∗ owns (c : Thread nD τ) (ms0_1 t) fullShare X) ∗ (∃ X, ⌜S.left 2 t (Y 2) X⌝ ∗ owns (c : Thread nD τ) (ms0_2 t) fullShare X) ∗ (∃ X, ⌜S.left 3 t (Y 3) X⌝ ∗ owns (c : Thread nD τ) (ms0_3 t) fullShare X) ∗ (∃ X, ⌜S.left 4 t (Y 4) X⌝ ∗ owns (c : Thread nD τ) (ms0_4 t) fullShare X) ∗ (∃ X, ⌜S.left 5 t (Y 5) X⌝ ∗ owns (c : Thread nD τ) (ms0_5 t) fullShare X) ∗ (∃ X, ⌜S.left 6 t (Y 6) X⌝ ∗ owns (c : Thread nD τ) (ms0_6 t) fullShare X) ∗ (∃ X, ⌜S.left 7 t (Y 7) X⌝ ∗ owns (c : Thread nD τ) (ms0_7 t) fullShare X) ∗ (∃ X, ⌜S.left 8 t (Y 8) X⌝ ∗ owns (c : Thread nD τ) (ms0_8 t) fullShare X) ∗ (∃ X, ⌜S.left 9 t (Y 9) X⌝ ∗ owns (c : Thread nD τ) (ms0_9 t) fullShare X) ∗ (∃ X, ⌜S.left 10 t (Y 10) X⌝ ∗ owns (c : Thread nD τ) (ms0_10 t) fullShare X) ∗ (∃ X, ⌜S.left 11 t (Y 11) X⌝ ∗ owns (c : Thread nD τ) (ms0_11 t) fullShare X) ∗ (∃ X, ⌜S.left 12 t (Y 12) X⌝ ∗ owns (c : Thread nD τ) (ms0_12 t) fullShare X))) := by
  have hN : t.val < 75 := lt_of_lt_of_eq t.isLt (show cfg0.N = 75 from N_0)
  have e0 := S.finds0 t _ (hY 0)
  have e1 := S.finds1 t _ (hY 1)
  obtain ⟨d2, e2⟩ := S.finds2 t _ (hY 2)
  obtain ⟨d3, e3⟩ := S.finds3 t _ (hY 3)
  obtain ⟨d4, e4⟩ := S.finds4 t _ (hY 4)
  obtain ⟨d5, e5⟩ := S.finds5 t _ (hY 5)
  rw [e0, e1, e2, e3, e4, e5]
  rw [show S.phi (t.val + 1) = iprop(∃ xs0 xs1, ⌜S.inv (t.val + 1) xs0 xs1⌝ ∗ owns (c : Thread nD τ) scM0_0 fullShare xs0 ∗ owns (c : Thread nD τ) scM0_1 fullShare xs1 ∗ (∃ r, prngReg c r)) from if_neg (by omega)]
  by_cases h0 : t.val = 0
  · rw [show S.phi t.val = Pipeline.ΦA spec0 c from if_pos h0, PhiA0_eq]
    obtain ⟨r9, r10, r11, r12, ri⟩ := S.hA t h0 d2 d3 d4 d5
    rw [show (1 : ℕ) = t.val + 1 by omega] at ri
    iintro ⟨⟨⟨Hs0, Hs1⟩, Hg⟩, Ho, H0, H1, H2, H3, H4, H5, H6, H7, H8, H9, H10, H11, H12⟩
    iapply (tripleA c t h0 (iblk m c 0 t) (iblk m c 1 t) (xf2 m c t d2) (xf3 m c t d3) (xf4 m c t d4) (xf5 m c t d5) (Y 6) (Y 7) (Y 8) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [Hs0]; · iexact Hs0
    isplitl [Hs1]; · iexact Hs1
    iintro ⟨H0, H1, H2, H3, H4, H5, H6, H7, H8, H9, H10, H11, H12, Hs0, Hs1⟩
    isplitl [Hs0 Hs1 Hg]
    · iexists _, _; isplitr
      · ipureintro; exact ri
      isplitl [Hs0]; · iexact Hs0
      isplitl [Hs1]; · iexact Hs1
      iexact Hg
    isplitl [Ho]; · iexact Ho
    isplitl [H0]
    · iexists _; isplitr
      swap; · iexact H0
      ipureintro; exact rfl
    isplitl [H1]
    · iexists _; isplitr
      swap; · iexact H1
      ipureintro; exact rfl
    isplitl [H2]
    · iexists _; isplitr
      swap; · iexact H2
      ipureintro; exact trivial
    isplitl [H3]
    · iexists _; isplitr
      swap; · iexact H3
      ipureintro; exact trivial
    isplitl [H4]
    · iexists _; isplitr
      swap; · iexact H4
      ipureintro; exact trivial
    isplitl [H5]
    · iexists _; isplitr
      swap; · iexact H5
      ipureintro; exact trivial
    isplitl [H6]
    · iexists _; isplitr
      swap; · iexact H6
      ipureintro; exact fun h => absurd h (by omega)
    isplitl [H7]
    · iexists _; isplitr
      swap; · iexact H7
      ipureintro; exact fun h => absurd h (by omega)
    isplitl [H8]
    · iexists _; isplitr
      swap; · iexact H8
      ipureintro; exact fun h => absurd h (by omega)
    isplitl [H9]
    · iexists _; isplitr
      swap; · iexact H9
      ipureintro; exact r9
    isplitl [H10]
    · iexists _; isplitr
      swap; · iexact H10
      ipureintro; exact r10
    isplitl [H11]
    · iexists _; isplitr
      swap; · iexact H11
      ipureintro; exact r11
    iexists _; isplitr
    swap; · iexact H12
    ipureintro; exact r12
  have r9 := S.finds9 t h0 _ (hY 9)
  have r10 := S.finds10 t h0 _ (hY 10)
  have r11 := S.finds11 t h0 _ (hY 11)
  have r12 := S.finds12 t h0 _ (hY 12)
  rw [show S.phi t.val = iprop(∃ xs0 xs1, ⌜S.inv t.val xs0 xs1⌝ ∗ owns (c : Thread nD τ) scM0_0 fullShare xs0 ∗ owns (c : Thread nD τ) scM0_1 fullShare xs1 ∗ (∃ r, prngReg c r)) from if_neg h0]
  iintro ⟨⟨%xs0, %xs1, %hi, Hs0, Hs1, Hg⟩, Ho, H0, H1, H2, H3, H4, H5, H6, H7, H8, H9, H10, H11, H12⟩
  by_cases h1 : t.val < 74
  · have ri := S.hB t ⟨by omega, h1⟩ d2 d3 d4 d5 (Y 9) (Y 11) xs0 xs1 r9 r11 hi
    iapply (tripleB c t ⟨by omega, h1⟩ (iblk m c 0 t) (iblk m c 1 t) (xf2 m c t d2) (xf3 m c t d3) (xf4 m c t d4) (xf5 m c t d5) (Y 9) (Y 11) xs0 xs1 (Y 6) (Y 7) (Y 8) (Y 10) (Y 12) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [Hs0]; · iexact Hs0
    isplitl [Hs1]; · iexact Hs1
    iintro ⟨H0, H1, H2, H3, H4, H5, H6, H7, H8, H9, H10, H11, H12, Hs0, Hs1⟩
    isplitl [Hs0 Hs1 Hg]
    · iexists _, _; isplitr
      · ipureintro; exact ri
      isplitl [Hs0]; · iexact Hs0
      isplitl [Hs1]; · iexact Hs1
      iexact Hg
    isplitl [Ho]; · iexact Ho
    isplitl [H0]
    · iexists _; isplitr
      swap; · iexact H0
      ipureintro; exact rfl
    isplitl [H1]
    · iexists _; isplitr
      swap; · iexact H1
      ipureintro; exact rfl
    isplitl [H2]
    · iexists _; isplitr
      swap; · iexact H2
      ipureintro; exact trivial
    isplitl [H3]
    · iexists _; isplitr
      swap; · iexact H3
      ipureintro; exact trivial
    isplitl [H4]
    · iexists _; isplitr
      swap; · iexact H4
      ipureintro; exact trivial
    isplitl [H5]
    · iexists _; isplitr
      swap; · iexact H5
      ipureintro; exact trivial
    isplitl [H6]
    · iexists _; isplitr
      swap; · iexact H6
      ipureintro; exact fun h => absurd h (by omega)
    isplitl [H7]
    · iexists _; isplitr
      swap; · iexact H7
      ipureintro; exact fun h => absurd h (by omega)
    isplitl [H8]
    · iexists _; isplitr
      swap; · iexact H8
      ipureintro; exact fun h => absurd h (by omega)
    isplitl [H9]
    · iexists _; isplitr
      swap; · iexact H9
      ipureintro; exact r9
    isplitl [H10]
    · iexists _; isplitr
      swap; · iexact H10
      ipureintro; exact r10
    isplitl [H11]
    · iexists _; isplitr
      swap; · iexact H11
      ipureintro; exact r11
    iexists _; isplitr
    swap; · iexact H12
    ipureintro; exact r12
  · have h2 : t.val = 74 := by omega
    obtain ⟨r6, r7, r8⟩ := S.hC t h2 d2 d3 d4 d5 (Y 9) (Y 11) xs0 xs1 r9 r11 hi
    have ri := S.hD t h2 d2 d3 d4 d5 (Y 9) (Y 11) xs0 xs1
    iapply (tripleC c t h2 (iblk m c 0 t) (iblk m c 1 t) (xf2 m c t d2) (xf3 m c t d3) (xf4 m c t d4) (xf5 m c t d5) (Y 9) (Y 11) xs0 xs1 (Y 10) (Y 12) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexact H9
    isplitl [H10]; · iexact H10
    isplitl [H11]; · iexact H11
    isplitl [H12]; · iexact H12
    isplitl [Hs0]; · iexact Hs0
    isplitl [Hs1]; · iexact Hs1
    iintro ⟨H0, H1, H2, H3, H4, H5, H6, H7, H8, H9, H10, H11, H12, Hs0, Hs1⟩
    isplitl [Hs0 Hs1 Hg]
    · iexists _, _; isplitr
      · ipureintro; exact ri
      isplitl [Hs0]; · iexact Hs0
      isplitl [Hs1]; · iexact Hs1
      iexact Hg
    isplitl [Ho]; · iexact Ho
    isplitl [H0]
    · iexists _; isplitr
      swap; · iexact H0
      ipureintro; exact rfl
    isplitl [H1]
    · iexists _; isplitr
      swap; · iexact H1
      ipureintro; exact rfl
    isplitl [H2]
    · iexists _; isplitr
      swap; · iexact H2
      ipureintro; exact trivial
    isplitl [H3]
    · iexists _; isplitr
      swap; · iexact H3
      ipureintro; exact trivial
    isplitl [H4]
    · iexists _; isplitr
      swap; · iexact H4
      ipureintro; exact trivial
    isplitl [H5]
    · iexists _; isplitr
      swap; · iexact H5
      ipureintro; exact trivial
    isplitl [H6]
    · iexists _; isplitr
      swap; · iexact H6
      ipureintro; exact fun _ => r6
    isplitl [H7]
    · iexists _; isplitr
      swap; · iexact H7
      ipureintro; exact fun _ => r7
    isplitl [H8]
    · iexists _; isplitr
      swap; · iexact H8
      ipureintro; exact fun _ => r8
    isplitl [H9]
    · iexists _; isplitr
      swap; · iexact H9
      ipureintro; exact r9
    isplitl [H10]
    · iexists _; isplitr
      swap; · iexact H10
      ipureintro; exact r10
    isplitl [H11]
    · iexists _; isplitr
      swap; · iexact H11
      ipureintro; exact r11
    iexists _; isplitr
    swap; · iexact H12
    ipureintro; exact r12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem Spec.obligation {c : Dev nD} (S : Spec m c) : S.dat.BodyObligation (defs₀ (F := F)) Variants.none () Set.univ := fun t Y hY => by
  rw [bigSep_W0, bigSep_W0, defs₀_row]
  exact Idealize.ShloMosaic.triple_restated (S.sound t Y hY) rfl .rfl fun _ => .rfl

theorem Spec.hin {c : Dev nD} (S : Spec m c) : Pipeline.ΦA spec0 c ⊢ S.dat.Φ 0 := by
  rw [show S.dat.Φ 0 = S.phi 0 from rfl, show S.phi 0 = Pipeline.ΦA spec0 c from if_pos rfl]

theorem Spec.hout {c : Dev nD} (S : Spec m c) : S.dat.Φ (Fin.last cfg0.N) ⊢ Pipeline.ΦA spec0 c := by
  rw [show S.dat.Φ (Fin.last cfg0.N) = S.phi (Fin.last cfg0.N).val from rfl, show S.phi (Fin.last cfg0.N).val = iprop(∃ xs0 xs1, ⌜S.inv (Fin.last cfg0.N).val xs0 xs1⌝ ∗ owns (c : Thread nD τ) scM0_0 fullShare xs0 ∗ owns (c : Thread nD τ) scM0_1 fullShare xs1 ∗ (∃ r, prngReg c r)) from if_neg (by decide), PhiA0_eq]
  iintro ⟨%xs0, %xs1, -, Hs0, Hs1, Hg⟩
  isplitl [Hs0 Hs1]
  · isplitl [Hs0]
    · iexists _; iexact Hs0
    iexists _; iexact Hs1
  iexact Hg

set_option backward.isDefEq.respectTransparency.types false in
/-- THE RUN: from any memory with zero counters every weakly fair execution terminates, with every array of the region
    at something the proof data allow, every other array as the region found it, and every counter at zero. -/
theorem run_spec (S : (c : Dev nD) → Spec m c) : θ_run defs (onTc (τ := τ) (main (F := F))) (s₀ m ρ) (fun r => (Pipeline.RDat.FramePost cfg0 (fun c => (S c).dat) (V m)) r ∧ r.2.sem = fun _ => 0) :=
  Pipeline.RDat.θ_run_frame_track (Q' := _) cfgs (0 : Fin 1) launch0 defs₀ Variants.none (fun c => (S c).dat) m ρ main
    (hbody := fun c => (S c).obligation) (hshare := fun c w => by unfold RDat.share; split <;> rfl)
    (howed := fun _ _ => rfl) (V := V m) (hmain := hmain m Variants.none) (hA := fun _ _ => rfl) (hin := fun c => (S c).hin) (hout := fun c => (S c).hout)
    (hQ' := fun _ h => h)

/-- The specification that asks for nothing. -/
def trivialSpec (c : Dev nD) : Spec m c where
  inv _ _ _ := True
  R6 _ := True
  R7 _ := True
  R8 _ := True
  R9 _ := True
  R10 _ := True
  R11 _ := True
  R12 _ := True
  hA _ _ _ _ _ _ := ⟨trivial, trivial, trivial, trivial, trivial⟩
  hB _ _ _ _ _ _ _ _ _ _ _ _ _ := trivial
  hC _ _ _ _ _ _ _ _ _ _ _ _ _ := ⟨trivial, trivial, trivial⟩
  hD _ _ _ _ _ _ _ _ _ _ := trivial

/-- The argument arrays end as they were, for any specification. -/
theorem args_of_post (S : (c : Dev nD) → Spec m c) (r : PUnit × MemSt nD τ sig (Elt F)) (h : Pipeline.RDat.FramePost cfg0 (fun c => (S c).dat) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (h.arr_in c 2 rfl).trans (V_main_arg2 m c),
    ((h c).2 main_arg3 (Pipeline.mem_restRefs_of main_arg3 (by decide) (by decide))).trans (V_main_arg3 m c),
    (h.arr_in c 3 rfl).trans (V_main_arg4 m c),
    ((h c).2 main_arg5 (Pipeline.mem_restRefs_of main_arg5 (by decide) (by decide))).trans (V_main_arg5 m c)⟩

variable (m)

/-- THE FRAME: at any values, every execution terminates, leaves the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_of_post (fun c => trivialSpec c) r h.1, h.2⟩) (run_spec ρ (fun c => trivialSpec (m := m) c))

end Cert.KernelIdeal.Hand

end
-- ==== Proof.Precondition.lean ====
module

public import proofs.«01_k».proof.Pre_hidden_finite
public import Idealize.ShloMosaic.Lib.ReduceAll
public import Idealize.ShloMosaic.Lib.WordCmp
public import Idealize.ShloMosaic.Lib.Pointwise
public import Idealize.ShloMosaic.PureOps.Ideal

@[expose] public section

noncomputable section

namespace Cert.Pre_hidden_finite

open Idealize.ShloMosaic

/-! The precondition over the extended reals: every hidden state is at most the largest finite bfloat16 in absolute value. -/

variable [Facts]
open Facts

/-- The largest finite bfloat16. -/
theorem bound_bits : Ideal.ofBits .f32 0x7F7F0000#32 = (((255 : ℝ) * 2 ^ 120 : ℝ) : EReal) := by
  simp [Ideal.ofBits, Ideal.ieee]
  have e : (16711680 : ℝ) * 2 ^ 104 = 255 * 2 ^ 120 := by norm_num
  have := congrArg Real.toEReal e
  simpa only [EReal.coe_mul, EReal.coe_pow] using this

/-- One comparison of the predicate, of an array of any shape. -/
def small {s : Shape} (hb : S_.BroadcastsInDim s (![] : Fin 0 → Fin s.rank)) (v : FVec Ideal s .bf16) : IVec s 1 :=
  cmpf .ole (Host.absf (F := Ideal) (extf (F := Ideal) .f32 v bitsLt_bf16_f32)) (broadcastInDim s ![] hb (constant (F := Ideal) S_ .f32 0x7F7F0000#32))

theorem small_apply {s : Shape} (hb : S_.BroadcastsInDim s (![] : Fin 0 → Fin s.rank)) (v : FVec Ideal s .bf16) (i : s.Idx) (h : small hb v i = 1#1) :
    max (v i : EReal) (-(v i)) ≤ (((255 : ℝ) * 2 ^ 120 : ℝ) : EReal) := by
  rw [← bound_bits]
  have h' : BitVec.ofBool (decide (max (v i : EReal) (-(v i)) ≤ Ideal.ofBits .f32 0x7F7F0000#32)) = 1#1 := h
  by_contra hn
  rw [decide_eq_false hn] at h'
  exact absurd h' (by decide)

theorem fn_eq (a0 : FVec Ideal S2x128x2048 .bf16) (a1 : FVec Ideal S2x128x896 .bf16) (a2 : FVec Ideal S151936x2048 .fp8e4m3) (a3 : FVec Ideal S151936 .f32) (a4 : FVec Ideal S151936x896 .fp8e4m3)
    (a5 : FVec Ideal S151936 .f32) : fn (F := Ideal) a0 a1 a2 a3 a4 a5
      = andi (Host.reduce IntOp.andi (small bcast_S_S2x128x2048 a0) (constantI S_ 1 1#1) reducesTo_S2x128x2048_S_d0_1_2 h_S_)
        (Host.reduce IntOp.andi (small bcast_S_S2x128x896 a1) (constantI S_ 1 1#1) reducesTo_S2x128x896_S_d0_1_2 h_S_) := rfl

instance : Subsingleton S_.Idx := ⟨fun a b => funext fun d => d.elim0⟩

/-- Where the predicate holds, both arrays of hidden states are bounded. -/
theorem bounded (a0 : FVec Ideal S2x128x2048 .bf16) (a1 : FVec Ideal S2x128x896 .bf16) (a2 : FVec Ideal S151936x2048 .fp8e4m3) (a3 : FVec Ideal S151936 .f32) (a4 : FVec Ideal S151936x896 .fp8e4m3)
    (a5 : FVec Ideal S151936 .f32) (h : fn (F := Ideal) a0 a1 a2 a3 a4 a5 = fun _ => 1#1) :
    (∀ i, max (a0 i : EReal) (-(a0 i)) ≤ (((255 : ℝ) * 2 ^ 120 : ℝ) : EReal)) ∧ ∀ i, max (a1 i : EReal) (-(a1 i)) ≤ (((255 : ℝ) * 2 ^ 120 : ℝ) : EReal) := by
  rw [fn_eq] at h
  have h0 := congrFun h (Shape.Idx.first h_S_)
  obtain ⟨ht, hs⟩ := IntOp.andi_eq_one.1 h0
  exact ⟨fun i => small_apply _ a0 i (Host.reduce_andi_all _ _ _ _ _ ht i), fun i => small_apply _ a1 i (Host.reduce_andi_all _ _ _ _ _ hs i)⟩

end Cert.Pre_hidden_finite

end
-- ==== Proof.KernelIdeal.Inputs.lean ====
module

public import proofs.«01_k».proof.Proof.KernelIdeal.Body
public import Idealize.ShloMosaic.Lib.Pointwise
public import Idealize.ShloMosaic.Lib.Claim

@[expose] public section

noncomputable section

namespace Cert.KernelIdeal.Hand

open Idealize.ShloMosaic Idealize.ShloMosaic.TcCoe
open Cert.KernelIdeal.Gen

/-! The blocks the body finds in its input windows, read at an index, in terms of the arguments' arrays. -/

variable (m : (l : Loc nD τ sig) → Vec Ideal l.ty.shape l.ty.elt) (c : Dev nD) (t : Fin cfg0.N)

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem size2 : ∀ t : Fin cfg0.N, win0_2.xsize (grid0.coords t) (0 : Fin 2) = min 2048 (151936 - 2048 * t.val) ∧ win0_2.xsize (grid0.coords t) (1 : Fin 2) = 2048 := (by decide +kernel : ∀ t : Fin grid0.N, _)
theorem size3 : ∀ t : Fin cfg0.N, win0_3.xsize (grid0.coords t) (0 : Fin 2) = min 2048 (151936 - 2048 * t.val) ∧ win0_3.xsize (grid0.coords t) (1 : Fin 2) = 896 := (by decide +kernel : ∀ t : Fin grid0.N, _)
theorem size4 : ∀ t : Fin cfg0.N, win0_4.xsize (grid0.coords t) (0 : Fin 2) = min 16 (1187 - 16 * t.val) ∧ win0_4.xsize (grid0.coords t) (1 : Fin 2) = 128 := (by decide +kernel : ∀ t : Fin grid0.N, _)
theorem size5 : ∀ t : Fin cfg0.N, win0_5.xsize (grid0.coords t) (0 : Fin 2) = min 16 (1187 - 16 * t.val) ∧ win0_5.xsize (grid0.coords t) (1 : Fin 2) = 128 := (by decide +kernel : ∀ t : Fin grid0.N, _)

/-- Window 0's block is the teacher's hidden states, one row per token. -/
theorem in0 (n : Fin 256) (d : Fin 2048) : iblk m c 0 t (ix2 n d)
    = m ((c : Thread nD τ).loc main_arg0) (ix3 ⟨n.val / 128, by omega⟩ ⟨n.val % 128, by omega⟩ d) := by
  obtain ⟨e0, e1⟩ := idx0 t
  show V m c main_v0 (((cfg0.win 0).blk t).view.emb (ix2 n d)) = _
  have he : ((cfg0.win 0).blk t).view.emb (ix2 n d) = (ix2 n d : S256x2048.Idx) := by
    funext a; apply Fin.ext
    match a with
    | ⟨0, _⟩ => show win0_0.index t (0 : Fin 2) * 256 + 1 * n.val = n.val; omega
    | ⟨1, _⟩ => show win0_0.index t (1 : Fin 2) * 2048 + 1 * d.val = d.val; omega
  rw [he]
  entry_read
  pointwise

/-- Window 1's block is the student's hidden states, one row per token. -/
theorem in1 (n : Fin 256) (d : Fin 896) : iblk m c 1 t (ix2 n d)
    = m ((c : Thread nD τ).loc main_arg1) (ix3 ⟨n.val / 128, by omega⟩ ⟨n.val % 128, by omega⟩ d) := by
  obtain ⟨e0, e1⟩ := idx1 t
  show V m c main_v1 (((cfg0.win 1).blk t).view.emb (ix2 n d)) = _
  have he : ((cfg0.win 1).blk t).view.emb (ix2 n d) = (ix2 n d : S256x896.Idx) := by
    funext a; apply Fin.ext
    match a with
    | ⟨0, _⟩ => show win0_1.index t (0 : Fin 2) * 256 + 1 * n.val = n.val; omega
    | ⟨1, _⟩ => show win0_1.index t (1 : Fin 2) * 896 + 1 * d.val = d.val; omega
  rw [he]
  entry_read
  pointwise

theorem moved2 (r : Fin 2048) (k : Fin 2048) (h : 2048 * t.val + r.val < 151936) : win0_2.moved (grid0.coords t) (ix2 r k) = true := by
  obtain ⟨e0, e1⟩ := size2 t
  rw [Pipeline.Window.moved_iff]
  intro a
  match a with
  | ⟨0, _⟩ => show r.val < win0_2.xsize (grid0.coords t) (0 : Fin 2); omega
  | ⟨1, _⟩ => show k.val < win0_2.xsize (grid0.coords t) (1 : Fin 2); omega

/-- Window 2's block, on the rows inside the array, is the vocabulary's rows of the teacher's weights. -/
theorem in2 (d : Vec Ideal S2048x2048 .fp8e4m3) (r : Fin 2048) (k : Fin 2048) (h : 2048 * t.val + r.val < 151936) :
    xf2 m c t d (ix2 r k) = m ((c : Thread nD τ).loc main_arg2) (ix2 ⟨2048 * t.val + r.val, h⟩ k) := by
  obtain ⟨e0, e1⟩ := idx2 t
  unfold xf2 Pipeline.Window.fill
  rw [dif_pos (moved2 t r k h)]
  show V m c main_arg2 (((cfg0.win 2).blk t).view.emb _) = _
  rw [V_main_arg2]
  congr 1
  funext a; apply Fin.ext
  match a with
  | ⟨0, _⟩ => show win0_2.index t (0 : Fin 2) * 2048 + 1 * r.val = 2048 * t.val + r.val; omega
  | ⟨1, _⟩ => show win0_2.index t (1 : Fin 2) * 2048 + 1 * k.val = k.val; omega

theorem moved3 (r : Fin 2048) (k : Fin 896) (h : 2048 * t.val + r.val < 151936) : win0_3.moved (grid0.coords t) (ix2 r k) = true := by
  obtain ⟨e0, e1⟩ := size3 t
  rw [Pipeline.Window.moved_iff]
  intro a
  match a with
  | ⟨0, _⟩ => show r.val < win0_3.xsize (grid0.coords t) (0 : Fin 2); omega
  | ⟨1, _⟩ => show k.val < win0_3.xsize (grid0.coords t) (1 : Fin 2); omega

/-- Window 3's block, on the rows inside the array, is the vocabulary's rows of the student's weights. -/
theorem in3 (d : Vec Ideal S2048x896 .fp8e4m3) (r : Fin 2048) (k : Fin 896) (h : 2048 * t.val + r.val < 151936) :
    xf3 m c t d (ix2 r k) = m ((c : Thread nD τ).loc main_arg4) (ix2 ⟨2048 * t.val + r.val, h⟩ k) := by
  obtain ⟨e0, e1⟩ := idx3 t
  unfold xf3 Pipeline.Window.fill
  rw [dif_pos (moved3 t r k h)]
  show V m c main_arg4 (((cfg0.win 3).blk t).view.emb _) = _
  rw [V_main_arg4]
  congr 1
  funext a; apply Fin.ext
  match a with
  | ⟨0, _⟩ => show win0_3.index t (0 : Fin 2) * 2048 + 1 * r.val = 2048 * t.val + r.val; omega
  | ⟨1, _⟩ => show win0_3.index t (1 : Fin 2) * 896 + 1 * k.val = k.val; omega

theorem moved4 (i : Fin 16) (r : Fin 128) (h : 16 * t.val + i.val < 1187) : win0_4.moved (grid0.coords t) (ix2 i r) = true := by
  obtain ⟨e0, e1⟩ := size4 t
  rw [Pipeline.Window.moved_iff]
  intro a
  match a with
  | ⟨0, _⟩ => show i.val < win0_4.xsize (grid0.coords t) (0 : Fin 2); omega
  | ⟨1, _⟩ => show r.val < win0_4.xsize (grid0.coords t) (1 : Fin 2); omega

theorem emb4 (y : (win0_4.xblock (grid0.coords t)).Idx) (i : Fin 16) (r : Fin 128) (h : 16 * t.val + i.val < 1187) (h0 : (y (0 : Fin 2)).val = i.val)
    (h1 : (y (1 : Fin 2)).val = r.val) : ((cfg0.win 4).blk t).view.emb y = (ix2 ⟨16 * t.val + i.val, h⟩ r : S1187x128.Idx) := by
  obtain ⟨e0, e1⟩ := idx4 t
  funext a; apply Fin.ext
  match a with
  | ⟨0, _⟩ => show win0_4.index t (0 : Fin 2) * 16 + 1 * (y (0 : Fin 2)).val = 16 * t.val + i.val; omega
  | ⟨1, _⟩ => show win0_4.index t (1 : Fin 2) * 128 + 1 * (y (1 : Fin 2)).val = r.val; omega

/-- Window 4's block, on the rows inside the array, is the vocabulary's scales of the teacher's weights. -/
theorem in4 (d : Vec Ideal S16x128 .f32) (i : Fin 16) (r : Fin 128) (h : 16 * t.val + i.val < 1187) :
    xf4 m c t d (ix2 i r) = m ((c : Thread nD τ).loc main_arg3) (ix1 ⟨128 * (16 * t.val + i.val) + r.val, by omega⟩) := by
  unfold xf4 Pipeline.Window.fill
  rw [dif_pos (moved4 t i r h)]
  show V m c main_v2 (((cfg0.win 4).blk t).view.emb _) = _
  rw [emb4 t _ i r h rfl rfl]
  entry_read
  pointwise
  congr 2
  ext
  simp
  omega

theorem moved5 (i : Fin 16) (r : Fin 128) (h : 16 * t.val + i.val < 1187) : win0_5.moved (grid0.coords t) (ix2 i r) = true := by
  obtain ⟨e0, e1⟩ := size5 t
  rw [Pipeline.Window.moved_iff]
  intro a
  match a with
  | ⟨0, _⟩ => show i.val < win0_5.xsize (grid0.coords t) (0 : Fin 2); omega
  | ⟨1, _⟩ => show r.val < win0_5.xsize (grid0.coords t) (1 : Fin 2); omega

theorem emb5 (y : (win0_5.xblock (grid0.coords t)).Idx) (i : Fin 16) (r : Fin 128) (h : 16 * t.val + i.val < 1187) (h0 : (y (0 : Fin 2)).val = i.val)
    (h1 : (y (1 : Fin 2)).val = r.val) : ((cfg0.win 5).blk t).view.emb y = (ix2 ⟨16 * t.val + i.val, h⟩ r : S1187x128.Idx) := by
  obtain ⟨e0, e1⟩ := idx5 t
  funext a; apply Fin.ext
  match a with
  | ⟨0, _⟩ => show win0_5.index t (0 : Fin 2) * 16 + 1 * (y (0 : Fin 2)).val = 16 * t.val + i.val; omega
  | ⟨1, _⟩ => show win0_5.index t (1 : Fin 2) * 128 + 1 * (y (1 : Fin 2)).val = r.val; omega

/-- Window 5's block, on the rows inside the array, is the vocabulary's scales of the student's weights. -/
theorem in5 (d : Vec Ideal S16x128 .f32) (i : Fin 16) (r : Fin 128) (h : 16 * t.val + i.val < 1187) :
    xf5 m c t d (ix2 i r) = m ((c : Thread nD τ).loc main_arg5) (ix1 ⟨128 * (16 * t.val + i.val) + r.val, by omega⟩) := by
  unfold xf5 Pipeline.Window.fill
  rw [dif_pos (moved5 t i r h)]
  show V m c main_v3 (((cfg0.win 5).blk t).view.emb _) = _
  rw [emb5 t _ i r h rfl rfl]
  entry_read
  pointwise
  congr 2
  ext
  simp
  omega

end Cert.KernelIdeal.Hand
-- ==== Proof.KernelIdeal.Chunk.lean ====
module

public import proofs.«01_k».proof.Proof.KernelIdeal.Triples
public import Idealize.ShloMosaic.Lib.Pipeline.Value
public import Idealize.ShloMosaic.Lib.Pipeline.ReadBack

@[expose] public section

set_option maxRecDepth 16384

noncomputable section

namespace Cert.KernelIdeal.Hand

open Idealize.ShloMosaic Idealize.ShloMosaic.TcCoe
open Cert.KernelIdeal.Gen

variable {F : FTy → Type} [FloatOps F] [Named F]

/-! What folding one chunk of vocabulary rows into the running statistics computes, as a function of vectors. -/

/-- The running statistics of a sublane and column: the two maxima, the two sums of exponentials, and the weighted sum
    of differences. -/
structure St (F : FTy → Type) where
  mt : FVec F S8x256 .f32
  ms : FVec F S8x256 .f32
  st : FVec F S8x256 .f32
  ss : FVec F S8x256 .f32
  dd : FVec F S8x256 .f32

/-- One group of 128 rows of products, each row multiplied by its scale (column `c` of the transposed scales). -/
def scaled (x : FVec F S128x256 .f32) (cols : FVec F S128x16 .f32) (c : ℕ) (h : S128x16.Slices ![0, c] S128x1) : FVec F S128x256 .f32 :=
  mulf x (broadcastTo S128x256 (extractStridedSlice S128x1 ![0, c] cols h) broadcasts_S128x1_S128x256)

theorem colSlices (c : ℕ) (h : c < 16) : S128x16.Slices ![0, c] S128x1 :=
  ⟨rfl, fun a => by fin_cases a <;> simp [S128x16, S128x1] <;> omega⟩

/-- The four groups of a chunk of 512 rows, the first of them using column `c`. -/
def groups4 (acc : FVec F S512x256 .f32) (cols : FVec F S128x16 .f32) (c : ℕ) (h : c + 3 < 16) : List (FVec F S128x256 .f32) :=
  [scaled (extractStridedSlice S128x256 ![0, 0] acc slices_S512x256_o0_0_S128x256) cols c (colSlices _ (by omega)),
   scaled (extractStridedSlice S128x256 ![128, 0] acc slices_S512x256_o128_0_S128x256) cols (c + 1) (colSlices _ (by omega)),
   scaled (extractStridedSlice S128x256 ![256, 0] acc slices_S512x256_o256_0_S128x256) cols (c + 2) (colSlices _ (by omega)),
   scaled (extractStridedSlice S128x256 ![384, 0] acc slices_S512x256_o384_0_S128x256) cols (c + 3) (colSlices _ (by omega))]

/-- The three groups of the last chunk, of 384 rows. -/
def groups3 (acc : FVec F S384x256 .f32) (cols : FVec F S128x16 .f32) : List (FVec F S128x256 .f32) :=
  [scaled (extractStridedSlice S128x256 ![0, 0] acc slices_S384x256_o0_0_S128x256) cols 0 (colSlices _ (by omega)),
   scaled (extractStridedSlice S128x256 ![128, 0] acc slices_S384x256_o128_0_S128x256) cols 1 (colSlices _ (by omega)),
   scaled (extractStridedSlice S128x256 ![256, 0] acc slices_S384x256_o256_0_S128x256) cols 2 (colSlices _ (by omega))]

/-- A group's maximum over its 16 rows of each sublane. -/
def groupMax (u : FVec F S128x256 .f32) : FVec F S8x256 .f32 :=
  multiReduction .maximumf [0] S8x256 (shapeCast S16x8x256 u shapeCasts_S128x256_S16x8x256) 0xFF800000#32 reduces_S16x8x256_S8x256 (.inl rfl) rfl

/-- The maximum after the groups `us`. -/
def newMax (us : List (FVec F S128x256 .f32)) (m : FVec F S8x256 .f32) : FVec F S8x256 .f32 :=
  us.foldl (fun m u => maximumf m (groupMax u)) m

/-- A group's exponents: the distance to the maximum, scaled. -/
def expo (u : FVec F S128x256 .f32) (m tok : FVec F S8x256 .f32) : FVec F S16x8x256 .f32 :=
  mulf (subf (shapeCast S16x8x256 u shapeCasts_S128x256_S16x8x256)
      (broadcastTo S16x8x256 (shapeCast S1x8x256 m shapeCasts_S8x256_S1x8x256) broadcasts_S1x8x256_S16x8x256))
    (broadcastTo S16x8x256 (shapeCast S1x8x256 tok shapeCasts_S8x256_S1x8x256) broadcasts_S1x8x256_S16x8x256)

/-- The sum over the 16 rows of each sublane. -/
def groupSum (p : FVec F S16x8x256 .f32) : FVec F S8x256 .f32 :=
  multiReduction .add [0] S8x256 p 0x00000000#32 reduces_S16x8x256_S8x256 (.inl rfl) rfl

/-- The sum of exponentials after the groups `us`, from its rescaled old value `s`. -/
def newSum (us : List (FVec F S128x256 .f32)) (m tok s : FVec F S8x256 .f32) : FVec F S8x256 .f32 :=
  us.foldl (fun acc u => addf acc (groupSum (exp2 (expo u m tok)))) s

/-- The weighted sum of differences after the groups, from its rescaled old value `d`. -/
def newDiff (us : List (FVec F S128x256 .f32 × FVec F S128x256 .f32)) (mt ms tokT tokS d : FVec F S8x256 .f32) : FVec F S8x256 .f32 :=
  us.foldl (fun acc u => addf acc (groupSum (mulf (exp2 (expo u.1 mt tokT)) (subf (expo u.1 mt tokT) (expo u.2 ms tokS))))) d

/-- The exponent of a rescaling. -/
def shift (m m' tok : FVec F S8x256 .f32) : FVec F S8x256 .f32 := mulf (subf m m') tok

/-- One chunk folded into the statistics. -/
def chunk (ts ss : List (FVec F S128x256 .f32)) (tokT tokS : FVec F S8x256 .f32) (s : St F) : St F where
  mt := newMax ts s.mt
  ms := newMax ss s.ms
  st := newSum ts (newMax ts s.mt) tokT (mulf (exp2 (shift s.mt (newMax ts s.mt) tokT)) s.st)
  ss := newSum ss (newMax ss s.ms) tokS (mulf (exp2 (shift s.ms (newMax ss s.ms) tokS)) s.ss)
  dd := newDiff (ts.zip ss) (newMax ts s.mt) (newMax ss s.ms) tokT tokS
    (mulf (exp2 (shift s.mt (newMax ts s.mt) tokT))
      (addf s.dd (mulf s.st (subf (shift s.mt (newMax ts s.mt) tokT) (shift s.ms (newMax ss s.ms) tokS)))))

/-- The stores that leave the statistics `s`. -/
def pieces (s : St F) (L : List (View.Piece (Elt F) S5x8x256 .f32)) : List (View.Piece (Elt F) S5x8x256 .f32) :=
  ⟨Rect.unit (s := S5x8x256) ![4, 0, 0] S1x8x256.size inb_S5x8x256_S1x8x256_4_0_0, shapeCast S1x8x256 s.dd shapeCasts_S8x256_S1x8x256⟩ ::
  ⟨Rect.unit (s := S5x8x256) ![3, 0, 0] S1x8x256.size inb_S5x8x256_S1x8x256_3_0_0, shapeCast S1x8x256 s.ss shapeCasts_S8x256_S1x8x256⟩ ::
  ⟨Rect.unit (s := S5x8x256) ![2, 0, 0] S1x8x256.size inb_S5x8x256_S1x8x256_2_0_0, shapeCast S1x8x256 s.st shapeCasts_S8x256_S1x8x256⟩ ::
  ⟨Rect.unit (s := S5x8x256) ![1, 0, 0] S1x8x256.size inb_S5x8x256_S1x8x256_1_0_0, shapeCast S1x8x256 s.ms shapeCasts_S8x256_S1x8x256⟩ ::
  ⟨Rect.unit (s := S5x8x256) ![0, 0, 0] S1x8x256.size inb_S5x8x256_S1x8x256_0_0_0, shapeCast S1x8x256 s.mt shapeCasts_S8x256_S1x8x256⟩ :: L

/-- A loaded plane as statistics of one kind. -/
def plane (x : Vec F S1x8x256 .f32) : FVec F S8x256 .f32 := shapeCast S8x256 x shapeCasts_S1x8x256_S8x256

/-- The statistics that loads after the stores `L` read. -/
def ofCov (v : Memref sig .tc .vmem S5x8x256 .f32) (L : List (View.Piece (Elt F) S5x8x256 .f32)) : St F where
  mt := plane (v.view.readCov L (Rect.unit (s := S5x8x256) ![0, 0, 0] S1x8x256.size inb_S5x8x256_S1x8x256_0_0_0).toLoadRect)
  ms := plane (v.view.readCov L (Rect.unit (s := S5x8x256) ![1, 0, 0] S1x8x256.size inb_S5x8x256_S1x8x256_1_0_0).toLoadRect)
  st := plane (v.view.readCov L (Rect.unit (s := S5x8x256) ![2, 0, 0] S1x8x256.size inb_S5x8x256_S1x8x256_2_0_0).toLoadRect)
  ss := plane (v.view.readCov L (Rect.unit (s := S5x8x256) ![3, 0, 0] S1x8x256.size inb_S5x8x256_S1x8x256_3_0_0).toLoadRect)
  dd := plane (v.view.readCov L (Rect.unit (s := S5x8x256) ![4, 0, 0] S1x8x256.size inb_S5x8x256_S1x8x256_4_0_0).toLoadRect)

/-- The statistics that loads of the buffer's contents `f` read. -/
def ofBuf (v : Memref sig .tc .vmem S5x8x256 .f32) (f : v.view.ref.ty.1.Idx → Elt F v.view.ref.ty.2) : St F where
  mt := plane (View.readAt (Elt F) v.view (Rect.unit (s := S5x8x256) ![0, 0, 0] S1x8x256.size inb_S5x8x256_S1x8x256_0_0_0).toLoadRect f)
  ms := plane (View.readAt (Elt F) v.view (Rect.unit (s := S5x8x256) ![1, 0, 0] S1x8x256.size inb_S5x8x256_S1x8x256_1_0_0).toLoadRect f)
  st := plane (View.readAt (Elt F) v.view (Rect.unit (s := S5x8x256) ![2, 0, 0] S1x8x256.size inb_S5x8x256_S1x8x256_2_0_0).toLoadRect f)
  ss := plane (View.readAt (Elt F) v.view (Rect.unit (s := S5x8x256) ![3, 0, 0] S1x8x256.size inb_S5x8x256_S1x8x256_3_0_0).toLoadRect f)
  dd := plane (View.readAt (Elt F) v.view (Rect.unit (s := S5x8x256) ![4, 0, 0] S1x8x256.size inb_S5x8x256_S1x8x256_4_0_0).toLoadRect f)

theorem plane_cast (x : FVec F S8x256 .f32) : plane (shapeCast S1x8x256 x shapeCasts_S8x256_S1x8x256) = x :=
  shapeCast_shapeCast _ _ _

/-- Loads after the stores that leave `s` read `s`. -/
theorem ofCov_pieces (v : Memref sig .tc .vmem S5x8x256 .f32) (s : St F) (L : List (View.Piece (Elt F) S5x8x256 .f32)) :
    ofCov v (pieces s L) = s := by
  have e0 : (ofCov v (pieces s L)).mt = s.mt := by
    refine Eq.trans ?_ (plane_cast s.mt)
    unfold ofCov pieces; dsimp only
    rw [View.readCov_skip _ _ _ _ _ (by decide), View.readCov_skip _ _ _ _ _ (by decide), View.readCov_skip _ _ _ _ _ (by decide),
      View.readCov_skip _ _ _ _ _ (by decide), View.readCov_cons_toLoadRect]
  have e1 : (ofCov v (pieces s L)).ms = s.ms := by
    refine Eq.trans ?_ (plane_cast s.ms)
    unfold ofCov pieces; dsimp only
    rw [View.readCov_skip _ _ _ _ _ (by decide), View.readCov_skip _ _ _ _ _ (by decide), View.readCov_skip _ _ _ _ _ (by decide),
      View.readCov_cons_toLoadRect]
  have e2 : (ofCov v (pieces s L)).st = s.st := by
    refine Eq.trans ?_ (plane_cast s.st)
    unfold ofCov pieces; dsimp only
    rw [View.readCov_skip _ _ _ _ _ (by decide), View.readCov_skip _ _ _ _ _ (by decide), View.readCov_cons_toLoadRect]
  have e3 : (ofCov v (pieces s L)).ss = s.ss := by
    refine Eq.trans ?_ (plane_cast s.ss)
    unfold ofCov pieces; dsimp only
    rw [View.readCov_skip _ _ _ _ _ (by decide), View.readCov_cons_toLoadRect]
  have e4 : (ofCov v (pieces s L)).dd = s.dd := by
    refine Eq.trans ?_ (plane_cast s.dd)
    unfold ofCov pieces; dsimp only
    rw [View.readCov_cons_toLoadRect]
  cases s
  exact congr (congr (congr (congr (congrArg St.mk e0) e1) e2) e3) e4

end Cert.KernelIdeal.Hand
-- ==== Proof.KernelIdeal.Blocks.lean ====
module

public import proofs.«01_k».proof.Proof.KernelIdeal.Chunk

@[expose] public section

set_option maxRecDepth 16384

noncomputable section

namespace Cert.KernelIdeal.Hand

open Idealize.ShloMosaic Idealize.ShloMosaic.TcCoe
open Cert.KernelIdeal.Gen

variable {F : FTy → Type} [FloatOps F] [Named F]

/-! The chunks of one vocabulary block, from the loaded rows, scales and codes. -/

/-- The groups of the teacher's chunk number `j` of a block. -/
def tGroups (w : Vec F S512x2048 .fp8e4m3) (codes : Vec F S256x2048 .fp8e4m3) (r : Vec F S16x128 .f32) (c : ℕ) (h : c + 3 < 16) : List (FVec F S128x256 .f32) :=
  groups4 (matmul dot_S512x2048_S256x2048_S512x256_1_1_0_0_n_n none w (shapeCast S256x2048 codes shapeCasts_S256x2048_S256x2048) (constant S512x256 .f32 0x00000000#32)) (k0_pay3 r) c h

/-- The groups of the student's chunk. -/
def sGroups (w : Vec F S512x896 .fp8e4m3) (codes : Vec F S256x896 .fp8e4m3) (r : Vec F S16x128 .f32) (c : ℕ) (h : c + 3 < 16) : List (FVec F S128x256 .f32) :=
  groups4 (matmul dot_S512x896_S256x896_S512x256_1_1_0_0_n_n none w (shapeCast S256x896 codes shapeCasts_S256x896_S256x896) (constant S512x256 .f32 0x00000000#32)) (k0_pay4 r) c h

/-- The teacher's groups of the last chunk, of 384 rows. -/
def tGroups3 (w : Vec F S384x2048 .fp8e4m3) (codes : Vec F S256x2048 .fp8e4m3) (r : Vec F S16x128 .f32) : List (FVec F S128x256 .f32) :=
  groups3 (matmul dot_S384x2048_S256x2048_S384x256_1_1_0_0_n_n none w (shapeCast S256x2048 codes shapeCasts_S256x2048_S256x2048) (constant S384x256 .f32 0x00000000#32)) (k0_pay3 r)

/-- The student's groups of the last chunk. -/
def sGroups3 (w : Vec F S384x896 .fp8e4m3) (codes : Vec F S256x896 .fp8e4m3) (r : Vec F S16x128 .f32) : List (FVec F S128x256 .f32) :=
  groups3 (matmul dot_S384x896_S256x896_S384x256_1_1_0_0_n_n none w (shapeCast S256x896 codes shapeCasts_S256x896_S256x896) (constant S384x256 .f32 0x00000000#32)) (k0_pay4 r)

/-- One block's chunk, from the loaded rows. -/
def blockChunk (wt : Vec F S512x2048 .fp8e4m3) (ws : Vec F S512x896 .fp8e4m3) (ct : Vec F S256x2048 .fp8e4m3) (cs : Vec F S256x896 .fp8e4m3)
    (rt rs : Vec F S16x128 .f32) (tokT tokS : FVec F S8x256 .f32) (c : ℕ) (h : c + 3 < 16) (s : St F) : St F :=
  chunk (tGroups wt ct rt c h) (sGroups ws cs rs c h) tokT tokS s

end Cert.KernelIdeal.Hand
-- ==== Proof.KernelIdeal.PiecesA.lean ====
module

public import proofs.«01_k».proof.Proof.KernelIdeal.Blocks

@[expose] public section

set_option maxRecDepth 16384

noncomputable section

namespace Cert.KernelIdeal.Hand

open Idealize.ShloMosaic Idealize.ShloMosaic.TcCoe
open Cert.KernelIdeal.Gen

variable {F : FTy → Type} [FloatOps F] [Named F]

/-! The statistics that the run at the first point stores, chunk by chunk. -/

set_option maxHeartbeats 4000000 in
/-- Chunk 1 of the block. -/
theorem runA_pieces0  (c : Dev nD) (i : grid0.Coords) (arg1 : Memref sig .tc .vmem S256x2048 .bf16) (harg1 : arg1.IsWhole) (arg2 : Memref sig .tc .vmem S256x896 .bf16) (harg2 : arg2.IsWhole) (arg3 : Memref sig .tc .vmem S2048x2048 .fp8e4m3) (harg3 : arg3.IsWhole) (arg4 : Memref sig .tc .vmem S2048x896 .fp8e4m3) (harg4 : arg4.IsWhole) (arg5 : Memref sig .tc .vmem S16x128 .f32) (harg5 : arg5.IsWhole) (arg6 : Memref sig .tc .vmem S16x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S256x2048 .fp8e4m3) (harg10 : arg10.IsWhole) (arg11 : Memref sig .tc .vmem S2x128 .f32) (harg11 : arg11.IsWhole) (arg12 : Memref sig .tc .vmem S256x896 .fp8e4m3) (harg12 : arg12.IsWhole) (arg13 : Memref sig .tc .vmem S2x128 .f32) (harg13 : arg13.IsWhole) (arg14 : Memref sig .tc .vmem S5x8x256 .f32) (harg14 : arg14.IsWhole) (arg15 : Memref sig .tc .vmem S2x8x256 .f32) (harg15 : arg15.IsWhole) (hcA : condA i) (hcF : condF i) (hcL : ¬condL i)
    (x0 : Vec F S256x2048 .bf16) (x1 : Vec F S256x896 .bf16) (x2 : Vec F S2048x2048 .fp8e4m3) (x3 : Vec F S2048x896 .fp8e4m3) (x4 : Vec F S16x128 .f32) (x5 : Vec F S16x128 .f32) :
    (runA.sl.H13_7 (F := F) c arg1 harg1 arg2 harg2 arg3 harg3 arg4 harg4 arg5 harg5 arg6 harg6 arg10 arg12 arg14 arg15 x0 x1 x2 x3 x4 x5) = pieces (blockChunk (View.readAt (Elt F) arg3.view (Rect.unit (s := S2048x2048) ![0, 0] S512x2048.size inb_S2048x2048_S512x2048_0_0).toLoadRect (harg3.unread x2)) (View.readAt (Elt F) arg4.view (Rect.unit (s := S2048x896) ![0, 0] S512x896.size inb_S2048x896_S512x896_0_0).toLoadRect (harg4.unread x3))
        (arg10.view.readCov (runA.sl.H9_1 (F := F) c arg1 harg1 x0) (Rect.unit (s := S256x2048) ![0, 0] S256x2048.size inb_S256x2048_S256x2048_0_0).toLoadRect) (arg12.view.readCov (runA.sl.H11_1 (F := F) c arg2 harg2 x1) (Rect.unit (s := S256x896) ![0, 0] S256x896.size inb_S256x896_S256x896_0_0).toLoadRect)
        (View.readAt (Elt F) arg5.view (Rect.unit (s := S16x128) ![0, 0] ![16, 128] inb_S16x128_S16x128_0_0).toLoadRect (harg5.unread x4)) (View.readAt (Elt F) arg6.view (Rect.unit (s := S16x128) ![0, 0] ![16, 128] inb_S16x128_S16x128_0_0).toLoadRect (harg6.unread x5))
        (plane (arg15.view.readCov (runA.sl.H14_2 (F := F) c arg1 harg1 arg2 harg2 x0 x1) (Rect.unit (s := S2x8x256) ![0, 0, 0] S1x8x256.size inb_S2x8x256_S1x8x256_0_0_0).toLoadRect)) (plane (arg15.view.readCov (runA.sl.H14_2 (F := F) c arg1 harg1 arg2 harg2 x0 x1) (Rect.unit (s := S2x8x256) ![1, 0, 0] S1x8x256.size inb_S2x8x256_S1x8x256_1_0_0).toLoadRect)) 0 (by omega) (ofCov arg14 (runA.sl.H13_2 (F := F) ))) (runA.sl.H13_2 (F := F) ) := rfl

set_option maxHeartbeats 4000000 in
/-- Chunk 2 of the block. -/
theorem runA_pieces1  (c : Dev nD) (i : grid0.Coords) (arg1 : Memref sig .tc .vmem S256x2048 .bf16) (harg1 : arg1.IsWhole) (arg2 : Memref sig .tc .vmem S256x896 .bf16) (harg2 : arg2.IsWhole) (arg3 : Memref sig .tc .vmem S2048x2048 .fp8e4m3) (harg3 : arg3.IsWhole) (arg4 : Memref sig .tc .vmem S2048x896 .fp8e4m3) (harg4 : arg4.IsWhole) (arg5 : Memref sig .tc .vmem S16x128 .f32) (harg5 : arg5.IsWhole) (arg6 : Memref sig .tc .vmem S16x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S256x2048 .fp8e4m3) (harg10 : arg10.IsWhole) (arg11 : Memref sig .tc .vmem S2x128 .f32) (harg11 : arg11.IsWhole) (arg12 : Memref sig .tc .vmem S256x896 .fp8e4m3) (harg12 : arg12.IsWhole) (arg13 : Memref sig .tc .vmem S2x128 .f32) (harg13 : arg13.IsWhole) (arg14 : Memref sig .tc .vmem S5x8x256 .f32) (harg14 : arg14.IsWhole) (arg15 : Memref sig .tc .vmem S2x8x256 .f32) (harg15 : arg15.IsWhole) (hcA : condA i) (hcF : condF i) (hcL : ¬condL i)
    (x0 : Vec F S256x2048 .bf16) (x1 : Vec F S256x896 .bf16) (x2 : Vec F S2048x2048 .fp8e4m3) (x3 : Vec F S2048x896 .fp8e4m3) (x4 : Vec F S16x128 .f32) (x5 : Vec F S16x128 .f32) :
    (runA.sl.H13_12 (F := F) c arg1 harg1 arg2 harg2 arg3 harg3 arg4 harg4 arg5 harg5 arg6 harg6 arg10 arg12 arg14 arg15 x0 x1 x2 x3 x4 x5) = pieces (blockChunk (View.readAt (Elt F) arg3.view (Rect.unit (s := S2048x2048) ![512, 0] S512x2048.size inb_S2048x2048_S512x2048_512_0).toLoadRect (harg3.unread x2)) (View.readAt (Elt F) arg4.view (Rect.unit (s := S2048x896) ![512, 0] S512x896.size inb_S2048x896_S512x896_512_0).toLoadRect (harg4.unread x3))
        (arg10.view.readCov (runA.sl.H9_1 (F := F) c arg1 harg1 x0) (Rect.unit (s := S256x2048) ![0, 0] S256x2048.size inb_S256x2048_S256x2048_0_0).toLoadRect) (arg12.view.readCov (runA.sl.H11_1 (F := F) c arg2 harg2 x1) (Rect.unit (s := S256x896) ![0, 0] S256x896.size inb_S256x896_S256x896_0_0).toLoadRect)
        (View.readAt (Elt F) arg5.view (Rect.unit (s := S16x128) ![0, 0] ![16, 128] inb_S16x128_S16x128_0_0).toLoadRect (harg5.unread x4)) (View.readAt (Elt F) arg6.view (Rect.unit (s := S16x128) ![0, 0] ![16, 128] inb_S16x128_S16x128_0_0).toLoadRect (harg6.unread x5))
        (plane (arg15.view.readCov (runA.sl.H14_2 (F := F) c arg1 harg1 arg2 harg2 x0 x1) (Rect.unit (s := S2x8x256) ![0, 0, 0] S1x8x256.size inb_S2x8x256_S1x8x256_0_0_0).toLoadRect)) (plane (arg15.view.readCov (runA.sl.H14_2 (F := F) c arg1 harg1 arg2 harg2 x0 x1) (Rect.unit (s := S2x8x256) ![1, 0, 0] S1x8x256.size inb_S2x8x256_S1x8x256_1_0_0).toLoadRect)) 4 (by omega) (ofCov arg14 (runA.sl.H13_7 (F := F) c arg1 harg1 arg2 harg2 arg3 harg3 arg4 harg4 arg5 harg5 arg6 harg6 arg10 arg12 arg14 arg15 x0 x1 x2 x3 x4 x5))) (runA.sl.H13_7 (F := F) c arg1 harg1 arg2 harg2 arg3 harg3 arg4 harg4 arg5 harg5 arg6 harg6 arg10 arg12 arg14 arg15 x0 x1 x2 x3 x4 x5) := rfl

set_option maxHeartbeats 4000000 in
/-- Chunk 3 of the block. -/
theorem runA_pieces2  (c : Dev nD) (i : grid0.Coords) (arg1 : Memref sig .tc .vmem S256x2048 .bf16) (harg1 : arg1.IsWhole) (arg2 : Memref sig .tc .vmem S256x896 .bf16) (harg2 : arg2.IsWhole) (arg3 : Memref sig .tc .vmem S2048x2048 .fp8e4m3) (harg3 : arg3.IsWhole) (arg4 : Memref sig .tc .vmem S2048x896 .fp8e4m3) (harg4 : arg4.IsWhole) (arg5 : Memref sig .tc .vmem S16x128 .f32) (harg5 : arg5.IsWhole) (arg6 : Memref sig .tc .vmem S16x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S256x2048 .fp8e4m3) (harg10 : arg10.IsWhole) (arg11 : Memref sig .tc .vmem S2x128 .f32) (harg11 : arg11.IsWhole) (arg12 : Memref sig .tc .vmem S256x896 .fp8e4m3) (harg12 : arg12.IsWhole) (arg13 : Memref sig .tc .vmem S2x128 .f32) (harg13 : arg13.IsWhole) (arg14 : Memref sig .tc .vmem S5x8x256 .f32) (harg14 : arg14.IsWhole) (arg15 : Memref sig .tc .vmem S2x8x256 .f32) (harg15 : arg15.IsWhole) (hcA : condA i) (hcF : condF i) (hcL : ¬condL i)
    (x0 : Vec F S256x2048 .bf16) (x1 : Vec F S256x896 .bf16) (x2 : Vec F S2048x2048 .fp8e4m3) (x3 : Vec F S2048x896 .fp8e4m3) (x4 : Vec F S16x128 .f32) (x5 : Vec F S16x128 .f32) :
    (runA.sl.H13_17 (F := F) c arg1 harg1 arg2 harg2 arg3 harg3 arg4 harg4 arg5 harg5 arg6 harg6 arg10 arg12 arg14 arg15 x0 x1 x2 x3 x4 x5) = pieces (blockChunk (View.readAt (Elt F) arg3.view (Rect.unit (s := S2048x2048) ![1024, 0] S512x2048.size inb_S2048x2048_S512x2048_1024_0).toLoadRect (harg3.unread x2)) (View.readAt (Elt F) arg4.view (Rect.unit (s := S2048x896) ![1024, 0] S512x896.size inb_S2048x896_S512x896_1024_0).toLoadRect (harg4.unread x3))
        (arg10.view.readCov (runA.sl.H9_1 (F := F) c arg1 harg1 x0) (Rect.unit (s := S256x2048) ![0, 0] S256x2048.size inb_S256x2048_S256x2048_0_0).toLoadRect) (arg12.view.readCov (runA.sl.H11_1 (F := F) c arg2 harg2 x1) (Rect.unit (s := S256x896) ![0, 0] S256x896.size inb_S256x896_S256x896_0_0).toLoadRect)
        (View.readAt (Elt F) arg5.view (Rect.unit (s := S16x128) ![0, 0] ![16, 128] inb_S16x128_S16x128_0_0).toLoadRect (harg5.unread x4)) (View.readAt (Elt F) arg6.view (Rect.unit (s := S16x128) ![0, 0] ![16, 128] inb_S16x128_S16x128_0_0).toLoadRect (harg6.unread x5))
        (plane (arg15.view.readCov (runA.sl.H14_2 (F := F) c arg1 harg1 arg2 harg2 x0 x1) (Rect.unit (s := S2x8x256) ![0, 0, 0] S1x8x256.size inb_S2x8x256_S1x8x256_0_0_0).toLoadRect)) (plane (arg15.view.readCov (runA.sl.H14_2 (F := F) c arg1 harg1 arg2 harg2 x0 x1) (Rect.unit (s := S2x8x256) ![1, 0, 0] S1x8x256.size inb_S2x8x256_S1x8x256_1_0_0).toLoadRect)) 8 (by omega) (ofCov arg14 (runA.sl.H13_12 (F := F) c arg1 harg1 arg2 harg2 arg3 harg3 arg4 harg4 arg5 harg5 arg6 harg6 arg10 arg12 arg14 arg15 x0 x1 x2 x3 x4 x5))) (runA.sl.H13_12 (F := F) c arg1 harg1 arg2 harg2 arg3 harg3 arg4 harg4 arg5 harg5 arg6 harg6 arg10 arg12 arg14 arg15 x0 x1 x2 x3 x4 x5) := rfl

set_option maxHeartbeats 4000000 in
/-- Chunk 4 of the block. -/
theorem runA_pieces3  (c : Dev nD) (i : grid0.Coords) (arg1 : Memref sig .tc .vmem S256x2048 .bf16) (harg1 : arg1.IsWhole) (arg2 : Memref sig .tc .vmem S256x896 .bf16) (harg2 : arg2.IsWhole) (arg3 : Memref sig .tc .vmem S2048x2048 .fp8e4m3) (harg3 : arg3.IsWhole) (arg4 : Memref sig .tc .vmem S2048x896 .fp8e4m3) (harg4 : arg4.IsWhole) (arg5 : Memref sig .tc .vmem S16x128 .f32) (harg5 : arg5.IsWhole) (arg6 : Memref sig .tc .vmem S16x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S256x2048 .fp8e4m3) (harg10 : arg10.IsWhole) (arg11 : Memref sig .tc .vmem S2x128 .f32) (harg11 : arg11.IsWhole) (arg12 : Memref sig .tc .vmem S256x896 .fp8e4m3) (harg12 : arg12.IsWhole) (arg13 : Memref sig .tc .vmem S2x128 .f32) (harg13 : arg13.IsWhole) (arg14 : Memref sig .tc .vmem S5x8x256 .f32) (harg14 : arg14.IsWhole) (arg15 : Memref sig .tc .vmem S2x8x256 .f32) (harg15 : arg15.IsWhole) (hcA : condA i) (hcF : condF i) (hcL : ¬condL i)
    (x0 : Vec F S256x2048 .bf16) (x1 : Vec F S256x896 .bf16) (x2 : Vec F S2048x2048 .fp8e4m3) (x3 : Vec F S2048x896 .fp8e4m3) (x4 : Vec F S16x128 .f32) (x5 : Vec F S16x128 .f32) :
    (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA hcF hcL x0 x1 x2 x3 x4 x5).2.2.2.2.1 = pieces (blockChunk (View.readAt (Elt F) arg3.view (Rect.unit (s := S2048x2048) ![1536, 0] S512x2048.size inb_S2048x2048_S512x2048_1536_0).toLoadRect (harg3.unread x2)) (View.readAt (Elt F) arg4.view (Rect.unit (s := S2048x896) ![1536, 0] S512x896.size inb_S2048x896_S512x896_1536_0).toLoadRect (harg4.unread x3))
        (arg10.view.readCov (runA.sl.H9_1 (F := F) c arg1 harg1 x0) (Rect.unit (s := S256x2048) ![0, 0] S256x2048.size inb_S256x2048_S256x2048_0_0).toLoadRect) (arg12.view.readCov (runA.sl.H11_1 (F := F) c arg2 harg2 x1) (Rect.unit (s := S256x896) ![0, 0] S256x896.size inb_S256x896_S256x896_0_0).toLoadRect)
        (View.readAt (Elt F) arg5.view (Rect.unit (s := S16x128) ![0, 0] ![16, 128] inb_S16x128_S16x128_0_0).toLoadRect (harg5.unread x4)) (View.readAt (Elt F) arg6.view (Rect.unit (s := S16x128) ![0, 0] ![16, 128] inb_S16x128_S16x128_0_0).toLoadRect (harg6.unread x5))
        (plane (arg15.view.readCov (runA.sl.H14_2 (F := F) c arg1 harg1 arg2 harg2 x0 x1) (Rect.unit (s := S2x8x256) ![0, 0, 0] S1x8x256.size inb_S2x8x256_S1x8x256_0_0_0).toLoadRect)) (plane (arg15.view.readCov (runA.sl.H14_2 (F := F) c arg1 harg1 arg2 harg2 x0 x1) (Rect.unit (s := S2x8x256) ![1, 0, 0] S1x8x256.size inb_S2x8x256_S1x8x256_1_0_0).toLoadRect)) 12 (by omega) (ofCov arg14 (runA.sl.H13_17 (F := F) c arg1 harg1 arg2 harg2 arg3 harg3 arg4 harg4 arg5 harg5 arg6 harg6 arg10 arg12 arg14 arg15 x0 x1 x2 x3 x4 x5))) (runA.sl.H13_17 (F := F) c arg1 harg1 arg2 harg2 arg3 harg3 arg4 harg4 arg5 harg5 arg6 harg6 arg10 arg12 arg14 arg15 x0 x1 x2 x3 x4 x5) := rfl

end Cert.KernelIdeal.Hand
-- ==== Proof.KernelIdeal.PiecesB.lean ====
module

public import proofs.«01_k».proof.Proof.KernelIdeal.Blocks

@[expose] public section

set_option maxRecDepth 16384

noncomputable section

namespace Cert.KernelIdeal.Hand

open Idealize.ShloMosaic Idealize.ShloMosaic.TcCoe
open Cert.KernelIdeal.Gen

variable {F : FTy → Type} [FloatOps F] [Named F]

/-! The statistics that the run at a middle point stores, chunk by chunk. -/

set_option maxHeartbeats 4000000 in
/-- Chunk 1 of the block. -/
theorem runB_pieces0  (c : Dev nD) (i : grid0.Coords) (arg1 : Memref sig .tc .vmem S256x2048 .bf16) (harg1 : arg1.IsWhole) (arg2 : Memref sig .tc .vmem S256x896 .bf16) (harg2 : arg2.IsWhole) (arg3 : Memref sig .tc .vmem S2048x2048 .fp8e4m3) (harg3 : arg3.IsWhole) (arg4 : Memref sig .tc .vmem S2048x896 .fp8e4m3) (harg4 : arg4.IsWhole) (arg5 : Memref sig .tc .vmem S16x128 .f32) (harg5 : arg5.IsWhole) (arg6 : Memref sig .tc .vmem S16x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S256x2048 .fp8e4m3) (harg10 : arg10.IsWhole) (arg11 : Memref sig .tc .vmem S2x128 .f32) (harg11 : arg11.IsWhole) (arg12 : Memref sig .tc .vmem S256x896 .fp8e4m3) (harg12 : arg12.IsWhole) (arg13 : Memref sig .tc .vmem S2x128 .f32) (harg13 : arg13.IsWhole) (arg14 : Memref sig .tc .vmem S5x8x256 .f32) (harg14 : arg14.IsWhole) (arg15 : Memref sig .tc .vmem S2x8x256 .f32) (harg15 : arg15.IsWhole) (hcA : ¬condA i) (hcF : condF i) (hcL : ¬condL i)
    (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) :
    (runB.sl.H13_5 (F := F) c arg3 harg3 arg4 harg4 arg5 harg5 arg6 harg6 arg10 harg10 arg12 harg12 arg14 harg14 arg15 harg15 x2 x3 x4 x5 xo9 xo11 xs0 xs1) = pieces (blockChunk (View.readAt (Elt F) arg3.view (Rect.unit (s := S2048x2048) ![0, 0] S512x2048.size inb_S2048x2048_S512x2048_0_0).toLoadRect (harg3.unread x2)) (View.readAt (Elt F) arg4.view (Rect.unit (s := S2048x896) ![0, 0] S512x896.size inb_S2048x896_S512x896_0_0).toLoadRect (harg4.unread x3))
        (View.readAt (Elt F) arg10.view (Rect.unit (s := S256x2048) ![0, 0] S256x2048.size inb_S256x2048_S256x2048_0_0).toLoadRect (harg10.unread xo9)) (View.readAt (Elt F) arg12.view (Rect.unit (s := S256x896) ![0, 0] S256x896.size inb_S256x896_S256x896_0_0).toLoadRect (harg12.unread xo11))
        (View.readAt (Elt F) arg5.view (Rect.unit (s := S16x128) ![0, 0] ![16, 128] inb_S16x128_S16x128_0_0).toLoadRect (harg5.unread x4)) (View.readAt (Elt F) arg6.view (Rect.unit (s := S16x128) ![0, 0] ![16, 128] inb_S16x128_S16x128_0_0).toLoadRect (harg6.unread x5))
        (plane (View.readAt (Elt F) arg15.view (Rect.unit (s := S2x8x256) ![0, 0, 0] S1x8x256.size inb_S2x8x256_S1x8x256_0_0_0).toLoadRect (harg15.unread xs1))) (plane (View.readAt (Elt F) arg15.view (Rect.unit (s := S2x8x256) ![1, 0, 0] S1x8x256.size inb_S2x8x256_S1x8x256_1_0_0).toLoadRect (harg15.unread xs1))) 0 (by omega) (ofBuf arg14 (harg14.unread xs0))) [] := rfl

set_option maxHeartbeats 4000000 in
/-- Chunk 2 of the block. -/
theorem runB_pieces1  (c : Dev nD) (i : grid0.Coords) (arg1 : Memref sig .tc .vmem S256x2048 .bf16) (harg1 : arg1.IsWhole) (arg2 : Memref sig .tc .vmem S256x896 .bf16) (harg2 : arg2.IsWhole) (arg3 : Memref sig .tc .vmem S2048x2048 .fp8e4m3) (harg3 : arg3.IsWhole) (arg4 : Memref sig .tc .vmem S2048x896 .fp8e4m3) (harg4 : arg4.IsWhole) (arg5 : Memref sig .tc .vmem S16x128 .f32) (harg5 : arg5.IsWhole) (arg6 : Memref sig .tc .vmem S16x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S256x2048 .fp8e4m3) (harg10 : arg10.IsWhole) (arg11 : Memref sig .tc .vmem S2x128 .f32) (harg11 : arg11.IsWhole) (arg12 : Memref sig .tc .vmem S256x896 .fp8e4m3) (harg12 : arg12.IsWhole) (arg13 : Memref sig .tc .vmem S2x128 .f32) (harg13 : arg13.IsWhole) (arg14 : Memref sig .tc .vmem S5x8x256 .f32) (harg14 : arg14.IsWhole) (arg15 : Memref sig .tc .vmem S2x8x256 .f32) (harg15 : arg15.IsWhole) (hcA : ¬condA i) (hcF : condF i) (hcL : ¬condL i)
    (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) :
    (runB.sl.H13_10 (F := F) c arg3 harg3 arg4 harg4 arg5 harg5 arg6 harg6 arg10 harg10 arg12 harg12 arg14 harg14 arg15 harg15 x2 x3 x4 x5 xo9 xo11 xs0 xs1) = pieces (blockChunk (View.readAt (Elt F) arg3.view (Rect.unit (s := S2048x2048) ![512, 0] S512x2048.size inb_S2048x2048_S512x2048_512_0).toLoadRect (harg3.unread x2)) (View.readAt (Elt F) arg4.view (Rect.unit (s := S2048x896) ![512, 0] S512x896.size inb_S2048x896_S512x896_512_0).toLoadRect (harg4.unread x3))
        (View.readAt (Elt F) arg10.view (Rect.unit (s := S256x2048) ![0, 0] S256x2048.size inb_S256x2048_S256x2048_0_0).toLoadRect (harg10.unread xo9)) (View.readAt (Elt F) arg12.view (Rect.unit (s := S256x896) ![0, 0] S256x896.size inb_S256x896_S256x896_0_0).toLoadRect (harg12.unread xo11))
        (View.readAt (Elt F) arg5.view (Rect.unit (s := S16x128) ![0, 0] ![16, 128] inb_S16x128_S16x128_0_0).toLoadRect (harg5.unread x4)) (View.readAt (Elt F) arg6.view (Rect.unit (s := S16x128) ![0, 0] ![16, 128] inb_S16x128_S16x128_0_0).toLoadRect (harg6.unread x5))
        (plane (View.readAt (Elt F) arg15.view (Rect.unit (s := S2x8x256) ![0, 0, 0] S1x8x256.size inb_S2x8x256_S1x8x256_0_0_0).toLoadRect (harg15.unread xs1))) (plane (View.readAt (Elt F) arg15.view (Rect.unit (s := S2x8x256) ![1, 0, 0] S1x8x256.size inb_S2x8x256_S1x8x256_1_0_0).toLoadRect (harg15.unread xs1))) 4 (by omega) (ofCov arg14 (runB.sl.H13_5 (F := F) c arg3 harg3 arg4 harg4 arg5 harg5 arg6 harg6 arg10 harg10 arg12 harg12 arg14 harg14 arg15 harg15 x2 x3 x4 x5 xo9 xo11 xs0 xs1))) (runB.sl.H13_5 (F := F) c arg3 harg3 arg4 harg4 arg5 harg5 arg6 harg6 arg10 harg10 arg12 harg12 arg14 harg14 arg15 harg15 x2 x3 x4 x5 xo9 xo11 xs0 xs1) := rfl

set_option maxHeartbeats 4000000 in
/-- Chunk 3 of the block. -/
theorem runB_pieces2  (c : Dev nD) (i : grid0.Coords) (arg1 : Memref sig .tc .vmem S256x2048 .bf16) (harg1 : arg1.IsWhole) (arg2 : Memref sig .tc .vmem S256x896 .bf16) (harg2 : arg2.IsWhole) (arg3 : Memref sig .tc .vmem S2048x2048 .fp8e4m3) (harg3 : arg3.IsWhole) (arg4 : Memref sig .tc .vmem S2048x896 .fp8e4m3) (harg4 : arg4.IsWhole) (arg5 : Memref sig .tc .vmem S16x128 .f32) (harg5 : arg5.IsWhole) (arg6 : Memref sig .tc .vmem S16x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S256x2048 .fp8e4m3) (harg10 : arg10.IsWhole) (arg11 : Memref sig .tc .vmem S2x128 .f32) (harg11 : arg11.IsWhole) (arg12 : Memref sig .tc .vmem S256x896 .fp8e4m3) (harg12 : arg12.IsWhole) (arg13 : Memref sig .tc .vmem S2x128 .f32) (harg13 : arg13.IsWhole) (arg14 : Memref sig .tc .vmem S5x8x256 .f32) (harg14 : arg14.IsWhole) (arg15 : Memref sig .tc .vmem S2x8x256 .f32) (harg15 : arg15.IsWhole) (hcA : ¬condA i) (hcF : condF i) (hcL : ¬condL i)
    (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) :
    (runB.sl.H13_15 (F := F) c arg3 harg3 arg4 harg4 arg5 harg5 arg6 harg6 arg10 harg10 arg12 harg12 arg14 harg14 arg15 harg15 x2 x3 x4 x5 xo9 xo11 xs0 xs1) = pieces (blockChunk (View.readAt (Elt F) arg3.view (Rect.unit (s := S2048x2048) ![1024, 0] S512x2048.size inb_S2048x2048_S512x2048_1024_0).toLoadRect (harg3.unread x2)) (View.readAt (Elt F) arg4.view (Rect.unit (s := S2048x896) ![1024, 0] S512x896.size inb_S2048x896_S512x896_1024_0).toLoadRect (harg4.unread x3))
        (View.readAt (Elt F) arg10.view (Rect.unit (s := S256x2048) ![0, 0] S256x2048.size inb_S256x2048_S256x2048_0_0).toLoadRect (harg10.unread xo9)) (View.readAt (Elt F) arg12.view (Rect.unit (s := S256x896) ![0, 0] S256x896.size inb_S256x896_S256x896_0_0).toLoadRect (harg12.unread xo11))
        (View.readAt (Elt F) arg5.view (Rect.unit (s := S16x128) ![0, 0] ![16, 128] inb_S16x128_S16x128_0_0).toLoadRect (harg5.unread x4)) (View.readAt (Elt F) arg6.view (Rect.unit (s := S16x128) ![0, 0] ![16, 128] inb_S16x128_S16x128_0_0).toLoadRect (harg6.unread x5))
        (plane (View.readAt (Elt F) arg15.view (Rect.unit (s := S2x8x256) ![0, 0, 0] S1x8x256.size inb_S2x8x256_S1x8x256_0_0_0).toLoadRect (harg15.unread xs1))) (plane (View.readAt (Elt F) arg15.view (Rect.unit (s := S2x8x256) ![1, 0, 0] S1x8x256.size inb_S2x8x256_S1x8x256_1_0_0).toLoadRect (harg15.unread xs1))) 8 (by omega) (ofCov arg14 (runB.sl.H13_10 (F := F) c arg3 harg3 arg4 harg4 arg5 harg5 arg6 harg6 arg10 harg10 arg12 harg12 arg14 harg14 arg15 harg15 x2 x3 x4 x5 xo9 xo11 xs0 xs1))) (runB.sl.H13_10 (F := F) c arg3 harg3 arg4 harg4 arg5 harg5 arg6 harg6 arg10 harg10 arg12 harg12 arg14 harg14 arg15 harg15 x2 x3 x4 x5 xo9 xo11 xs0 xs1) := rfl

set_option maxHeartbeats 4000000 in
/-- Chunk 4 of the block. -/
theorem runB_pieces3  (c : Dev nD) (i : grid0.Coords) (arg1 : Memref sig .tc .vmem S256x2048 .bf16) (harg1 : arg1.IsWhole) (arg2 : Memref sig .tc .vmem S256x896 .bf16) (harg2 : arg2.IsWhole) (arg3 : Memref sig .tc .vmem S2048x2048 .fp8e4m3) (harg3 : arg3.IsWhole) (arg4 : Memref sig .tc .vmem S2048x896 .fp8e4m3) (harg4 : arg4.IsWhole) (arg5 : Memref sig .tc .vmem S16x128 .f32) (harg5 : arg5.IsWhole) (arg6 : Memref sig .tc .vmem S16x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S256x2048 .fp8e4m3) (harg10 : arg10.IsWhole) (arg11 : Memref sig .tc .vmem S2x128 .f32) (harg11 : arg11.IsWhole) (arg12 : Memref sig .tc .vmem S256x896 .fp8e4m3) (harg12 : arg12.IsWhole) (arg13 : Memref sig .tc .vmem S2x128 .f32) (harg13 : arg13.IsWhole) (arg14 : Memref sig .tc .vmem S5x8x256 .f32) (harg14 : arg14.IsWhole) (arg15 : Memref sig .tc .vmem S2x8x256 .f32) (harg15 : arg15.IsWhole) (hcA : ¬condA i) (hcF : condF i) (hcL : ¬condL i)
    (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) :
    (runB (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA hcF hcL x0 x1 x2 x3 x4 x5 xo9 xo11 xs0 xs1).1 = pieces (blockChunk (View.readAt (Elt F) arg3.view (Rect.unit (s := S2048x2048) ![1536, 0] S512x2048.size inb_S2048x2048_S512x2048_1536_0).toLoadRect (harg3.unread x2)) (View.readAt (Elt F) arg4.view (Rect.unit (s := S2048x896) ![1536, 0] S512x896.size inb_S2048x896_S512x896_1536_0).toLoadRect (harg4.unread x3))
        (View.readAt (Elt F) arg10.view (Rect.unit (s := S256x2048) ![0, 0] S256x2048.size inb_S256x2048_S256x2048_0_0).toLoadRect (harg10.unread xo9)) (View.readAt (Elt F) arg12.view (Rect.unit (s := S256x896) ![0, 0] S256x896.size inb_S256x896_S256x896_0_0).toLoadRect (harg12.unread xo11))
        (View.readAt (Elt F) arg5.view (Rect.unit (s := S16x128) ![0, 0] ![16, 128] inb_S16x128_S16x128_0_0).toLoadRect (harg5.unread x4)) (View.readAt (Elt F) arg6.view (Rect.unit (s := S16x128) ![0, 0] ![16, 128] inb_S16x128_S16x128_0_0).toLoadRect (harg6.unread x5))
        (plane (View.readAt (Elt F) arg15.view (Rect.unit (s := S2x8x256) ![0, 0, 0] S1x8x256.size inb_S2x8x256_S1x8x256_0_0_0).toLoadRect (harg15.unread xs1))) (plane (View.readAt (Elt F) arg15.view (Rect.unit (s := S2x8x256) ![1, 0, 0] S1x8x256.size inb_S2x8x256_S1x8x256_1_0_0).toLoadRect (harg15.unread xs1))) 12 (by omega) (ofCov arg14 (runB.sl.H13_15 (F := F) c arg3 harg3 arg4 harg4 arg5 harg5 arg6 harg6 arg10 harg10 arg12 harg12 arg14 harg14 arg15 harg15 x2 x3 x4 x5 xo9 xo11 xs0 xs1))) (runB.sl.H13_15 (F := F) c arg3 harg3 arg4 harg4 arg5 harg5 arg6 harg6 arg10 harg10 arg12 harg12 arg14 harg14 arg15 harg15 x2 x3 x4 x5 xo9 xo11 xs0 xs1) := rfl

end Cert.KernelIdeal.Hand
-- ==== Proof.KernelIdeal.PiecesC.lean ====
module

public import proofs.«01_k».proof.Proof.KernelIdeal.Blocks

@[expose] public section

set_option maxRecDepth 16384

noncomputable section

namespace Cert.KernelIdeal.Hand

open Idealize.ShloMosaic Idealize.ShloMosaic.TcCoe
open Cert.KernelIdeal.Gen

variable {F : FTy → Type} [FloatOps F] [Named F]

/-! The statistics that the run at the last point stores. -/

set_option maxHeartbeats 4000000 in
/-- The last block's one chunk, of 384 rows. -/
theorem runC_pieces  (c : Dev nD) (i : grid0.Coords) (arg1 : Memref sig .tc .vmem S256x2048 .bf16) (harg1 : arg1.IsWhole) (arg2 : Memref sig .tc .vmem S256x896 .bf16) (harg2 : arg2.IsWhole) (arg3 : Memref sig .tc .vmem S2048x2048 .fp8e4m3) (harg3 : arg3.IsWhole) (arg4 : Memref sig .tc .vmem S2048x896 .fp8e4m3) (harg4 : arg4.IsWhole) (arg5 : Memref sig .tc .vmem S16x128 .f32) (harg5 : arg5.IsWhole) (arg6 : Memref sig .tc .vmem S16x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S256x2048 .fp8e4m3) (harg10 : arg10.IsWhole) (arg11 : Memref sig .tc .vmem S2x128 .f32) (harg11 : arg11.IsWhole) (arg12 : Memref sig .tc .vmem S256x896 .fp8e4m3) (harg12 : arg12.IsWhole) (arg13 : Memref sig .tc .vmem S2x128 .f32) (harg13 : arg13.IsWhole) (arg14 : Memref sig .tc .vmem S5x8x256 .f32) (harg14 : arg14.IsWhole) (arg15 : Memref sig .tc .vmem S2x8x256 .f32) (harg15 : arg15.IsWhole) (hcA : ¬condA i) (hcF : ¬condF i) (hcL : condL i)
    (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) :
    (runC.sl.H13_5 (F := F) c arg3 harg3 arg4 harg4 arg5 harg5 arg6 harg6 arg10 harg10 arg12 harg12 arg14 harg14 arg15 harg15 x2 x3 x4 x5 xo9 xo11 xs0 xs1) = pieces (chunk (tGroups3 (View.readAt (Elt F) arg3.view (Rect.unit (s := S2048x2048) ![0, 0] S384x2048.size inb_S2048x2048_S384x2048_0_0).toLoadRect (harg3.unread x2)) (View.readAt (Elt F) arg10.view (Rect.unit (s := S256x2048) ![0, 0] S256x2048.size inb_S256x2048_S256x2048_0_0).toLoadRect (harg10.unread xo9)) (View.readAt (Elt F) arg5.view (Rect.unit (s := S16x128) ![0, 0] ![16, 128] inb_S16x128_S16x128_0_0).toLoadRect (harg5.unread x4)))
        (sGroups3 (View.readAt (Elt F) arg4.view (Rect.unit (s := S2048x896) ![0, 0] S384x896.size inb_S2048x896_S384x896_0_0).toLoadRect (harg4.unread x3)) (View.readAt (Elt F) arg12.view (Rect.unit (s := S256x896) ![0, 0] S256x896.size inb_S256x896_S256x896_0_0).toLoadRect (harg12.unread xo11)) (View.readAt (Elt F) arg6.view (Rect.unit (s := S16x128) ![0, 0] ![16, 128] inb_S16x128_S16x128_0_0).toLoadRect (harg6.unread x5))) (plane (View.readAt (Elt F) arg15.view (Rect.unit (s := S2x8x256) ![0, 0, 0] S1x8x256.size inb_S2x8x256_S1x8x256_0_0_0).toLoadRect (harg15.unread xs1))) (plane (View.readAt (Elt F) arg15.view (Rect.unit (s := S2x8x256) ![1, 0, 0] S1x8x256.size inb_S2x8x256_S1x8x256_1_0_0).toLoadRect (harg15.unread xs1))) (ofBuf arg14 (harg14.unread xs0))) [] := rfl

theorem runC_stats  (c : Dev nD) (i : grid0.Coords) (arg1 : Memref sig .tc .vmem S256x2048 .bf16) (harg1 : arg1.IsWhole) (arg2 : Memref sig .tc .vmem S256x896 .bf16) (harg2 : arg2.IsWhole) (arg3 : Memref sig .tc .vmem S2048x2048 .fp8e4m3) (harg3 : arg3.IsWhole) (arg4 : Memref sig .tc .vmem S2048x896 .fp8e4m3) (harg4 : arg4.IsWhole) (arg5 : Memref sig .tc .vmem S16x128 .f32) (harg5 : arg5.IsWhole) (arg6 : Memref sig .tc .vmem S16x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S256x2048 .fp8e4m3) (harg10 : arg10.IsWhole) (arg11 : Memref sig .tc .vmem S2x128 .f32) (harg11 : arg11.IsWhole) (arg12 : Memref sig .tc .vmem S256x896 .fp8e4m3) (harg12 : arg12.IsWhole) (arg13 : Memref sig .tc .vmem S2x128 .f32) (harg13 : arg13.IsWhole) (arg14 : Memref sig .tc .vmem S5x8x256 .f32) (harg14 : arg14.IsWhole) (arg15 : Memref sig .tc .vmem S2x8x256 .f32) (harg15 : arg15.IsWhole) (hcA : ¬condA i) (hcF : ¬condF i) (hcL : condL i)
    (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) :
    (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA hcF hcL x0 x1 x2 x3 x4 x5 xo9 xo11 xs0 xs1).2.2.2.1 = (runC.sl.H13_5 (F := F) c arg3 harg3 arg4 harg4 arg5 harg5 arg6 harg6 arg10 harg10 arg12 harg12 arg14 harg14 arg15 harg15 x2 x3 x4 x5 xo9 xo11 xs0 xs1) := rfl

end Cert.KernelIdeal.Hand
-- ==== Proof.KernelIdeal.Fold.lean ====
module

public import proofs.«01_k».proof.Proof.KernelIdeal.PiecesA
public import proofs.«01_k».proof.Proof.KernelIdeal.PiecesB
public import proofs.«01_k».proof.Proof.KernelIdeal.PiecesC
public import Idealize.ShloMosaic.Lib.WholeRead

@[expose] public section

set_option maxRecDepth 16384

noncomputable section

namespace Cert.KernelIdeal.Hand

open Idealize.ShloMosaic Idealize.ShloMosaic.TcCoe
open Cert.KernelIdeal.Gen

variable {F : FTy → Type} [FloatOps F] [Named F]

/-! The statistics that a run of the body leaves, as the chunks of its block folded into the statistics it found. -/

/-- A load of part of a buffer that holds `X`. -/
theorem readAt_unread_ld {sp : Space} {s : Shape} {e : EltTy} {m : Memref sig .tc sp s e} (h : m.IsWhole) (X : s.Idx → Elt F e) (r : Rect s) :
    View.readAt (Elt F) m.view r.toLoadRect (h.unread X) = View.ld X r :=
  funext fun x => Memref.IsWhole.readAt_unread h X r.toLoadRect x

/-- A load of part of a stored buffer. -/
theorem readCov_ld {sp : Space} {s : Shape} {e : EltTy} (v : View sig .tc sp s e) (L : List (View.Piece (Elt F) s e)) (r : Rect s) :
    v.readCov L r.toLoadRect = View.ld (View.canon L) r := View.readCov_eq_canon' v L r.toLoadRect

/-- The statistics that a buffer holds. -/
def stOf (x : Vec F S5x8x256 .f32) : St F where
  mt := plane (View.ld x (Rect.unit (s := S5x8x256) ![0, 0, 0] S1x8x256.size inb_S5x8x256_S1x8x256_0_0_0))
  ms := plane (View.ld x (Rect.unit (s := S5x8x256) ![1, 0, 0] S1x8x256.size inb_S5x8x256_S1x8x256_1_0_0))
  st := plane (View.ld x (Rect.unit (s := S5x8x256) ![2, 0, 0] S1x8x256.size inb_S5x8x256_S1x8x256_2_0_0))
  ss := plane (View.ld x (Rect.unit (s := S5x8x256) ![3, 0, 0] S1x8x256.size inb_S5x8x256_S1x8x256_3_0_0))
  dd := plane (View.ld x (Rect.unit (s := S5x8x256) ![4, 0, 0] S1x8x256.size inb_S5x8x256_S1x8x256_4_0_0))

theorem ofCov_eq (v : Memref sig .tc .vmem S5x8x256 .f32) (L : List (View.Piece (Elt F) S5x8x256 .f32)) : ofCov v L = stOf (View.canon L) := by
  unfold ofCov stOf; simp only [readCov_ld]

theorem ofBuf_eq (v : Memref sig .tc .vmem S5x8x256 .f32) (h : v.IsWhole) (x : Vec F S5x8x256 .f32) : ofBuf v (h.unread x) = stOf x := by
  unfold ofBuf stOf; simp only [readAt_unread_ld]

theorem stOf_pieces (s : St F) (L : List (View.Piece (Elt F) S5x8x256 .f32)) : stOf (View.canon (pieces s L)) = s := by
  rw [← ofCov_eq scM0_0, ofCov_pieces]

/-- The teacher's token factors. -/
def tok0 (x : Vec F S2x8x256 .f32) : FVec F S8x256 .f32 := plane (View.ld x (Rect.unit (s := S2x8x256) ![0, 0, 0] S1x8x256.size inb_S2x8x256_S1x8x256_0_0_0))
/-- The student's. -/
def tok1 (x : Vec F S2x8x256 .f32) : FVec F S8x256 .f32 := plane (View.ld x (Rect.unit (s := S2x8x256) ![1, 0, 0] S1x8x256.size inb_S2x8x256_S1x8x256_1_0_0))

theorem tok0_buf (v : Memref sig .tc .vmem S2x8x256 .f32) (h : v.IsWhole) (x : Vec F S2x8x256 .f32) :
    plane (View.readAt (Elt F) v.view (Rect.unit (s := S2x8x256) ![0, 0, 0] S1x8x256.size inb_S2x8x256_S1x8x256_0_0_0).toLoadRect (h.unread x)) = tok0 x := by unfold tok0; rw [readAt_unread_ld]

theorem tok0_cov (v : Memref sig .tc .vmem S2x8x256 .f32) (L : List (View.Piece (Elt F) S2x8x256 .f32)) :
    plane (v.view.readCov L (Rect.unit (s := S2x8x256) ![0, 0, 0] S1x8x256.size inb_S2x8x256_S1x8x256_0_0_0).toLoadRect) = tok0 (View.canon L) := by unfold tok0; rw [readCov_ld]

theorem tok1_buf (v : Memref sig .tc .vmem S2x8x256 .f32) (h : v.IsWhole) (x : Vec F S2x8x256 .f32) :
    plane (View.readAt (Elt F) v.view (Rect.unit (s := S2x8x256) ![1, 0, 0] S1x8x256.size inb_S2x8x256_S1x8x256_1_0_0).toLoadRect (h.unread x)) = tok1 x := by unfold tok1; rw [readAt_unread_ld]

theorem tok1_cov (v : Memref sig .tc .vmem S2x8x256 .f32) (L : List (View.Piece (Elt F) S2x8x256 .f32)) :
    plane (v.view.readCov L (Rect.unit (s := S2x8x256) ![1, 0, 0] S1x8x256.size inb_S2x8x256_S1x8x256_1_0_0).toLoadRect) = tok1 (View.canon L) := by unfold tok1; rw [readCov_ld]

/-- A whole block folded in, chunk by chunk. -/
def fold4 (x2 : Vec F S2048x2048 .fp8e4m3) (x3 : Vec F S2048x896 .fp8e4m3) (ct : Vec F S256x2048 .fp8e4m3) (cs : Vec F S256x896 .fp8e4m3)
    (x4 x5 : Vec F S16x128 .f32) (tokT tokS : FVec F S8x256 .f32) (s : St F) : St F :=
  (blockChunk (View.ld x2 (Rect.unit (s := S2048x2048) ![1536, 0] S512x2048.size inb_S2048x2048_S512x2048_1536_0)) (View.ld x3 (Rect.unit (s := S2048x896) ![1536, 0] S512x896.size inb_S2048x896_S512x896_1536_0)) ct cs x4 x5 tokT tokS 12 (by omega)
    (blockChunk (View.ld x2 (Rect.unit (s := S2048x2048) ![1024, 0] S512x2048.size inb_S2048x2048_S512x2048_1024_0)) (View.ld x3 (Rect.unit (s := S2048x896) ![1024, 0] S512x896.size inb_S2048x896_S512x896_1024_0)) ct cs x4 x5 tokT tokS 8 (by omega)
    (blockChunk (View.ld x2 (Rect.unit (s := S2048x2048) ![512, 0] S512x2048.size inb_S2048x2048_S512x2048_512_0)) (View.ld x3 (Rect.unit (s := S2048x896) ![512, 0] S512x896.size inb_S2048x896_S512x896_512_0)) ct cs x4 x5 tokT tokS 4 (by omega)
    (blockChunk (View.ld x2 (Rect.unit (s := S2048x2048) ![0, 0] S512x2048.size inb_S2048x2048_S512x2048_0_0)) (View.ld x3 (Rect.unit (s := S2048x896) ![0, 0] S512x896.size inb_S2048x896_S512x896_0_0)) ct cs x4 x5 tokT tokS 0 (by omega)
    s))))

/-- The last block's 384 rows folded in. -/
def fold3 (x2 : Vec F S2048x2048 .fp8e4m3) (x3 : Vec F S2048x896 .fp8e4m3) (ct : Vec F S256x2048 .fp8e4m3) (cs : Vec F S256x896 .fp8e4m3)
    (x4 x5 : Vec F S16x128 .f32) (tokT tokS : FVec F S8x256 .f32) (s : St F) : St F :=
  chunk (tGroups3 (View.ld x2 (Rect.unit (s := S2048x2048) ![0, 0] S384x2048.size inb_S2048x2048_S384x2048_0_0)) ct x4)
    (sGroups3 (View.ld x3 (Rect.unit (s := S2048x896) ![0, 0] S384x896.size inb_S2048x896_S384x896_0_0)) cs x5) tokT tokS s

theorem zero2 {a b : ℕ} : (![0, 0] : Fin (⟨2, ![a, b]⟩ : Shape).rank → ℕ) = fun _ => 0 := funext fun i => by fin_cases i <;> rfl

theorem ld2 {a b : ℕ} {e : EltTy} (X : Vec F ⟨2, ![a, b]⟩ e) (inb) : View.ld X (Rect.unit (s := ⟨2, ![a, b]⟩) ![0, 0] ![a, b] inb) = X :=
  View.ld_unit_zero (zero2 (a := a) (b := b)) inb X

theorem oB_stats (c : Dev nD) (t : Fin cfg0.N) (h : 0 < t.val ∧ t.val < 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) :
    stOf (oB_13 c t h x0 x1 x2 x3 x4 x5 xo9 xo11 xs0 xs1) = fold4 x2 x3 xo9 xo11 x4 x5 (tok0 xs1) (tok1 xs1) (stOf xs0) := by
  unfold oB_13 rB
  rw [runB_pieces3, stOf_pieces, runB_pieces2 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h2 => by have := (hcondA t).mp h2; omega) ((hcondF t).mpr h.2) (fun h2 => by have := (hcondL t).mp h2; omega) x0 x1 x2 x3 x4 x5 xo9 xo11 xs0 xs1, ofCov_pieces, runB_pieces1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h2 => by have := (hcondA t).mp h2; omega) ((hcondF t).mpr h.2) (fun h2 => by have := (hcondL t).mp h2; omega) x0 x1 x2 x3 x4 x5 xo9 xo11 xs0 xs1, ofCov_pieces, runB_pieces0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h2 => by have := (hcondA t).mp h2; omega) ((hcondF t).mpr h.2) (fun h2 => by have := (hcondL t).mp h2; omega) x0 x1 x2 x3 x4 x5 xo9 xo11 xs0 xs1, ofCov_pieces, ofBuf_eq, tok0_buf, tok1_buf]
  simp only [readAt_unread_ld, ld2]
  rfl

theorem oA_stats (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) :
    stOf (oA_13 c t h x0 x1 x2 x3 x4 x5) = fold4 x2 x3 (oA_9 c t h x0 x1 x2 x3 x4 x5) (oA_11 c t h x0 x1 x2 x3 x4 x5) x4 x5
      (tok0 (oA_14 c t h x0 x1 x2 x3 x4 x5)) (tok1 (oA_14 c t h x0 x1 x2 x3 x4 x5)) (stOf (View.canon (runA.sl.H13_2 (F := F)))) := by
  unfold oA_13 rA
  rw [runA_pieces3, stOf_pieces, runA_pieces2 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcondA t).mpr h) ((hcondF t).mpr (by omega)) (fun h2 => by have := (hcondL t).mp h2; omega) x0 x1 x2 x3 x4 x5, ofCov_pieces, runA_pieces1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcondA t).mpr h) ((hcondF t).mpr (by omega)) (fun h2 => by have := (hcondL t).mp h2; omega) x0 x1 x2 x3 x4 x5, ofCov_pieces, runA_pieces0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) ((hcondA t).mpr h) ((hcondF t).mpr (by omega)) (fun h2 => by have := (hcondL t).mp h2; omega) x0 x1 x2 x3 x4 x5, ofCov_pieces, ofCov_eq, tok0_cov, tok1_cov]
  simp only [readAt_unread_ld, readCov_ld, ld2]
  rfl

theorem runC_fold (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) :
    (rC c t h x0 x1 x2 x3 x4 x5 xo9 xo11 xs0 xs1).2.2.2.1 = pieces (fold3 x2 x3 xo9 xo11 x4 x5 (tok0 xs1) (tok1 xs1) (stOf xs0)) [] := by
  unfold rC
  rw [runC_stats, runC_pieces (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h2 => by have := (hcondA t).mp h2; omega) (fun h2 => by have := (hcondF t).mp h2; omega) ((hcondL t).mpr h) x0 x1 x2 x3 x4 x5 xo9 xo11 xs0 xs1, ofBuf_eq, tok0_buf, tok1_buf]
  simp only [readAt_unread_ld, ld2]
  rfl

end Cert.KernelIdeal.Hand
-- ==== Proof.Math.Stream.lean ====
module

public import Idealize.ShloMosaic.PureOps.Ideal

@[expose] public section

noncomputable section

namespace Cert.Stream

open Idealize.ShloMosaic Finset

/-! Sums of powers of two relative to a running maximum, over the extended reals, and what a change of the maximum does
    to them. -/

/-- Two to an extended real. -/
abbrev E (x : EReal) : EReal := Ideal.exp2 x

theorem E_nonneg (x : EReal) : 0 ≤ E x := by
  induction x with
  | bot => simp [E]
  | top => simp [E]
  | coe r => simp only [E, Ideal.exp2_coe]; exact_mod_cast Real.rpow_nonneg (by norm_num) r

theorem bot_mul_pos {τ : ℝ} (hτ : 0 < τ) : (⊥ : EReal) * (τ : EReal) = ⊥ := EReal.bot_mul_coe_of_pos hτ
theorem top_mul_pos {τ : ℝ} (hτ : 0 < τ) : (⊤ : EReal) * (τ : EReal) = ⊤ := EReal.top_mul_coe_of_pos hτ

/-- The scaled distance of `u` to the maximum `m`. -/
def ex (u m : EReal) (τ : ℝ) : EReal := (u - m) * (τ : EReal)

theorem ex_top {τ : ℝ} (hτ : 0 < τ) (u : EReal) : ex u ⊤ τ = ⊥ := by
  unfold ex; rw [sub_eq_add_neg, EReal.neg_top, EReal.add_bot, bot_mul_pos hτ]
theorem ex_bot {τ : ℝ} (hτ : 0 < τ) (m : EReal) : ex ⊥ m τ = ⊥ := by
  unfold ex; rw [sub_eq_add_neg, EReal.bot_add, bot_mul_pos hτ]
theorem ex_coe (u m τ : ℝ) : ex (u : EReal) (m : EReal) τ = (((u - m) * τ : ℝ) : EReal) := by
  unfold ex; push_cast; rfl

theorem E_coe (r : ℝ) : E (r : EReal) = ((2 : ℝ) ^ r : ℝ) := rfl
theorem E_bot : E ⊥ = 0 := rfl

/-- A nonnegative finite factor distributes over any finite sum. -/
theorem mul_sum_fin {ι : Type} (S : Finset ι) (f : ι → EReal) {c : EReal} (h0 : 0 ≤ c) (ht : c ≠ ⊤) :
    c * ∑ v ∈ S, f v = ∑ v ∈ S, c * f v := by
  classical
  induction S using Finset.induction_on with
  | empty => simp
  | insert a s ha ih => rw [sum_insert ha, sum_insert ha, EReal.left_distrib_of_nonneg_of_ne_top h0 ht, ih]

/-- Any factor distributes over a finite sum of nonnegative terms. -/
theorem sum_mul_nonneg {ι : Type} (S : Finset ι) (f : ι → EReal) (hf : ∀ v ∈ S, 0 ≤ f v) (c : EReal) :
    (∑ v ∈ S, f v) * c = ∑ v ∈ S, f v * c := by
  classical
  induction S using Finset.induction_on with
  | empty => simp
  | insert a s ha ih =>
    rw [sum_insert ha, sum_insert ha, EReal.right_distrib_of_nonneg (hf a (mem_insert_self _ _))
      (sum_nonneg fun v hv => hf v (mem_insert_of_mem hv)), ih fun v hv => hf v (mem_insert_of_mem hv)]

theorem E_ne_top_of_ne_top {x : EReal} (h : x ≠ ⊤) : E x ≠ ⊤ := by
  induction x with
  | bot => simp [E]
  | top => exact absurd rfl h
  | coe r => exact EReal.coe_ne_top _

/-- A distance to a larger number that is not `⊥` is at most `0`. -/
theorem ex_nonpos {u m : EReal} {τ : ℝ} (hτ : 0 < τ) (h : u ≤ m) (hm : m ≠ ⊥) : ex u m τ ≤ 0 := by
  induction m with
  | bot => exact absurd rfl hm
  | top => rw [ex_top hτ]; exact bot_le
  | coe m =>
    induction u with
    | bot => rw [ex_bot hτ]; exact bot_le
    | top => exact absurd h (by simp)
    | coe u =>
      rw [ex_coe]; have : u ≤ m := by exact_mod_cast h
      exact_mod_cast mul_nonpos_of_nonpos_of_nonneg (by linarith) hτ.le

theorem ex_ne_top {u m : EReal} {τ : ℝ} (hτ : 0 < τ) (h : u ≤ m) (hm : m ≠ ⊥) : ex u m τ ≠ ⊤ :=
  ne_top_of_le_ne_top (by simp) (ex_nonpos hτ h hm)

/-- One term moved to a new maximum. -/
theorem term_rescale {u m m' : EReal} {τ : ℝ} (hτ : 0 < τ) (hu : u ≤ m) (hm : m ≠ ⊥) (hmm : m ≤ m') :
    E (ex m m' τ) * E (ex u m τ) = E (ex u m' τ) := by
  induction m' with
  | bot => exact absurd (le_bot_iff.mp hmm) hm
  | top => rw [ex_top hτ, ex_top hτ, E_bot, zero_mul]
  | coe m' =>
    induction m with
    | bot => exact absurd rfl hm
    | top => exact absurd hmm (by simp)
    | coe m =>
      induction u with
      | bot => rw [ex_bot hτ, ex_bot hτ, E_bot, mul_zero]
      | top => exact absurd hu (by simp)
      | coe u =>
        rw [ex_coe, ex_coe, ex_coe, E_coe, E_coe, E_coe, ← EReal.coe_mul, ← Real.rpow_add (by norm_num)]
        congr 2; ring

/-- A sum of exponentials moved to a new maximum. -/
theorem sum_rescale {ι : Type} (S : Finset ι) (u : ι → EReal) {m m' : EReal} {τ : ℝ} (hτ : 0 < τ)
    (hu : ∀ v ∈ S, u v ≤ m) (hm : m ≠ ⊥) (hmm : m ≤ m') :
    E (ex m m' τ) * ∑ v ∈ S, E (ex (u v) m τ) = ∑ v ∈ S, E (ex (u v) m' τ) := by
  rw [mul_sum_fin S _ (E_nonneg _) (E_ne_top_of_ne_top (ex_ne_top hτ hmm (ne_bot_of_le_ne_bot hm hmm)))]
  exact sum_congr rfl fun v hv => term_rescale hτ (hu v hv) hm hmm

theorem pos_mul_top {x : ℝ} (hx : 0 < x) : (x : EReal) * ⊤ = ⊤ := EReal.coe_mul_top_of_pos hx

/-- One weighted difference moved to new maxima. -/
theorem term_diff {ut us mt ms mt' ms' : EReal} {τ σ : ℝ} (hτ : 0 < τ) (hσ : 0 < σ)
    (hut : ut ≤ mt) (hmt : mt ≠ ⊥) (hmmt : mt ≤ mt') (hus : us ≤ ms) (hms : ms ≠ ⊥) (hmms : ms ≤ ms') :
    E (ex mt mt' τ) * (E (ex ut mt τ) * (ex ut mt τ - ex us ms σ) + E (ex ut mt τ) * (ex mt mt' τ - ex ms ms' σ))
      = E (ex ut mt' τ) * (ex ut mt' τ - ex us ms' σ) := by
  induction mt' with
  | bot => exact absurd (le_bot_iff.mp hmmt) hmt
  | top => rw [ex_top hτ, ex_top hτ, E_bot, zero_mul, zero_mul]
  | coe mt' =>
    induction mt with
    | bot => exact absurd rfl hmt
    | top => exact absurd hmmt (by simp)
    | coe mt =>
      induction ut with
      | bot => simp [ex_bot hτ, E_bot]
      | top => exact absurd hut (by simp)
      | coe ut =>
        have hp : ∀ r : ℝ, (0 : ℝ) < (2 : ℝ) ^ r := fun r => Real.rpow_pos_of_pos (by norm_num) r
        simp only [ex_coe, E_coe]
        induction ms' with
        | bot => exact absurd (le_bot_iff.mp hmms) hms
        | top =>
          rw [ex_top hσ, ex_top hσ]
          have hne : ex us ms σ ≠ ⊤ := ex_ne_top hσ hus hms
          have e1 : ∀ r : ℝ, (r : EReal) - ⊥ = ⊤ := fun r => by rw [sub_eq_add_neg, EReal.neg_bot, EReal.coe_add_top]
          rw [e1, e1, pos_mul_top (hp _), pos_mul_top (hp _)]
          generalize ex us ms σ = b at hne
          induction b with
          | bot => rw [e1, pos_mul_top (hp _), EReal.top_add_top, pos_mul_top (hp _)]
          | top => exact absurd rfl hne
          | coe b => rw [← EReal.coe_sub, ← EReal.coe_mul, EReal.coe_add_top, pos_mul_top (hp _)]
        | coe ms' =>
          induction ms with
          | bot => exact absurd rfl hms
          | top => exact absurd hmms (by simp)
          | coe ms =>
            induction us with
            | bot =>
              have e1 : ∀ r : ℝ, (r : EReal) - ⊥ = ⊤ := fun r => by rw [sub_eq_add_neg, EReal.neg_bot, EReal.coe_add_top]
              rw [ex_bot hσ, ex_bot hσ, e1, e1, pos_mul_top (hp _), pos_mul_top (hp _), ex_coe, ← EReal.coe_sub, ← EReal.coe_mul,
                EReal.top_add_coe, pos_mul_top (hp _)]
            | top => exact absurd hus (by simp)
            | coe us =>
              simp only [ex_coe]
              have h2 : (2 : ℝ) ^ ((ut - mt') * τ) = (2 : ℝ) ^ ((mt - mt') * τ) * (2 : ℝ) ^ ((ut - mt) * τ) := by
                rw [← Real.rpow_add (by norm_num)]; congr 1; ring
              rw [h2]
              norm_cast
              ring

/-- The weighted sum of differences moved to new maxima. -/
theorem diff_rescale {ι : Type} (S : Finset ι) (ut us : ι → EReal) {mt ms mt' ms' : EReal} {τ σ : ℝ} (hτ : 0 < τ) (hσ : 0 < σ)
    (hut : ∀ v ∈ S, ut v ≤ mt) (hmt : mt ≠ ⊥) (hmmt : mt ≤ mt') (hus : ∀ v ∈ S, us v ≤ ms) (hms : ms ≠ ⊥) (hmms : ms ≤ ms') :
    E (ex mt mt' τ) * ((∑ v ∈ S, E (ex (ut v) mt τ) * (ex (ut v) mt τ - ex (us v) ms σ))
        + (∑ v ∈ S, E (ex (ut v) mt τ)) * (ex mt mt' τ - ex ms ms' σ))
      = ∑ v ∈ S, E (ex (ut v) mt' τ) * (ex (ut v) mt' τ - ex (us v) ms' σ) := by
  rw [sum_mul_nonneg S _ (fun _ _ => E_nonneg _), ← sum_add_distrib,
    mul_sum_fin S _ (E_nonneg _) (E_ne_top_of_ne_top (ex_ne_top hτ hmmt (ne_bot_of_le_ne_bot hmt hmmt)))]
  exact sum_congr rfl fun v hv => term_diff hτ hσ (hut v hv) hmt hmmt (hus v hv) hms hmms

end Cert.Stream
-- ==== Proof.KernelIdeal.ChunkAt.lean ====
module

public import proofs.«01_k».proof.Proof.KernelIdeal.Blocks
public import proofs.«01_k».proof.Proof.Math.Stream
public import Idealize.ShloMosaic.Lib.Pointwise

@[expose] public section

set_option maxRecDepth 16384

noncomputable section

namespace Cert.KernelIdeal.Hand

open Idealize.ShloMosaic Idealize.ShloMosaic.TcCoe Finset
open Cert.KernelIdeal.Gen Cert.Stream

/-! The folding of a chunk read at one sublane `a` and one column `n`, over the extended reals: a chunk's groups hold
    the values `U q` of consecutive `q`, row `8 q + a` of the vocabulary. -/

/-- Row `8 k + a` of a group. -/
def row8 (k : Fin 16) (a : Fin 8) : Fin 128 := ⟨k.val * 8 + a.val, by omega⟩

theorem ofBits_ninf : Ideal.ofBits .f32 0xFF800000#32 = ⊥ := by simp [Ideal.ofBits, Ideal.ieee]

/-- A fold of `max` from `⊥` is the supremum. -/
theorem fold_max_bot {ι : Type} (S : Finset ι) (f : ι → EReal) : S.fold max ⊥ f = S.sup f := by
  classical
  induction S using Finset.induction_on with
  | empty => simp
  | insert a s ha ih => rw [Finset.fold_insert ha, Finset.sup_insert, ih]

theorem scaled_apply (x : FVec Ideal S128x256 .f32) (cols : FVec Ideal S128x16 .f32) (c : ℕ) (h : S128x16.Slices ![0, c] S128x1) (hc : c < 16)
    (r : Fin 128) (n : Fin 256) : scaled x cols c h (ix2 r n) = (x (ix2 r n) * cols (ix2 r ⟨c, hc⟩) : EReal) := by
  pointwise [scaled]

theorem groupMax_apply (u : FVec Ideal S128x256 .f32) (a : Fin 8) (n : Fin 256) :
    groupMax u (ix2 a n) = (univ.sup fun k : Fin 16 => (u (ix2 (row8 k a) n) : EReal)) := by
  pointwise [groupMax]
  rw [ofBits_ninf]
  exact fold_max_bot _ _

theorem groupSum_apply (p : FVec Ideal S16x8x256 .f32) (a : Fin 8) (n : Fin 256) :
    groupSum p (ix2 a n) = (∑ k : Fin 16, (p (ix3 k a n) : EReal)) := by
  pointwise [groupSum]

theorem expo_apply (u : FVec Ideal S128x256 .f32) (m tok : FVec Ideal S8x256 .f32) (k : Fin 16) (a : Fin 8) (n : Fin 256) :
    expo u m tok (ix3 k a n) = ((u (ix2 (row8 k a) n) - m (ix2 a n)) * tok (ix2 a n) : EReal) := by
  pointwise [expo, row8]

/-- The groups hold the values `U` of the numbers from `16 G` on. -/
def Reads (U : ℕ → EReal) (a : Fin 8) (n : Fin 256) : ℕ → List (FVec Ideal S128x256 .f32) → Prop
  | _, [] => True
  | G, u :: us => (∀ k : Fin 16, (u (ix2 (row8 k a) n) : EReal) = U (16 * G + k.val)) ∧ Reads U a n (G + 1) us

theorem sum_group (f : ℕ → EReal) (G : ℕ) : ∑ k : Fin 16, f (16 * G + k.val) = ∑ q ∈ Ico (16 * G) (16 * (G + 1)), f q := by
  rw [Finset.sum_Ico_eq_sum_range, show 16 * (G + 1) - 16 * G = 16 by omega]
  exact Fin.sum_univ_eq_sum_range (fun i => f (16 * G + i)) 16

theorem sup_group (f : ℕ → EReal) (G : ℕ) : (univ.sup fun k : Fin 16 => f (16 * G + k.val)) = (Ico (16 * G) (16 * (G + 1))).sup f := by
  apply le_antisymm
  · exact Finset.sup_le fun k _ => Finset.le_sup (f := f) (by rw [mem_Ico]; omega)
  · refine Finset.sup_le fun q hq => ?_
    rw [mem_Ico] at hq
    have := Finset.le_sup (f := fun k : Fin 16 => f (16 * G + k.val)) (mem_univ (⟨q - 16 * G, by omega⟩ : Fin 16))
    simpa [show 16 * G + (q - 16 * G) = q by omega] using this

theorem Ico_step (G L : ℕ) : Ico (16 * G) (16 * (G + (L + 1))) = Ico (16 * G) (16 * (G + 1)) ∪ Ico (16 * (G + 1)) (16 * (G + 1 + L)) := by
  ext q; simp only [mem_union, mem_Ico]; omega

theorem Ico_disj (G L : ℕ) : Disjoint (Ico (16 * G) (16 * (G + 1))) (Ico (16 * (G + 1)) (16 * (G + 1 + L))) := by
  rw [Finset.disjoint_left]; intro q; simp only [mem_Ico]; omega

theorem newMax_apply (U : ℕ → EReal) (a : Fin 8) (n : Fin 256) (us : List (FVec Ideal S128x256 .f32)) :
    ∀ (G : ℕ) (m : FVec Ideal S8x256 .f32), Reads U a n G us →
      newMax us m (ix2 a n) = ((m (ix2 a n) : EReal) ⊔ (Ico (16 * G) (16 * (G + us.length))).sup U) := by
  induction us with
  | nil => intro G m _; simp [newMax]
  | cons u us ih =>
    intro G m h
    have e : newMax (u :: us) m = newMax us (maximumf m (groupMax u)) := rfl
    have h1 : (maximumf m (groupMax u) (ix2 a n) : EReal) = (m (ix2 a n) : EReal) ⊔ groupMax u (ix2 a n) := rfl
    rw [e, ih (G + 1) _ h.2, h1, groupMax_apply, List.length_cons, Ico_step, Finset.sup_union, ← sup_group U G, sup_assoc]
    simp only [h.1]

theorem newSum_apply (U : ℕ → EReal) (a : Fin 8) (n : Fin 256) (m tok : FVec Ideal S8x256 .f32) (τ : ℝ) (ht : tok (ix2 a n) = (τ : EReal))
    (us : List (FVec Ideal S128x256 .f32)) :
    ∀ (G : ℕ) (s : FVec Ideal S8x256 .f32), Reads U a n G us →
      newSum us m tok s (ix2 a n) = ((s (ix2 a n) : EReal) + ∑ q ∈ Ico (16 * G) (16 * (G + us.length)), E (ex (U q) (m (ix2 a n)) τ)) := by
  induction us with
  | nil => intro G s _; simp [newSum]
  | cons u us ih =>
    intro G s h
    have e : newSum (u :: us) m tok s = newSum us m tok (addf s (groupSum (exp2 (expo u m tok)))) := rfl
    have h1 : (addf s (groupSum (exp2 (expo u m tok))) (ix2 a n) : EReal) = (s (ix2 a n) : EReal) + groupSum (exp2 (expo u m tok)) (ix2 a n) := rfl
    have h2 : ∀ k : Fin 16, (exp2 (expo u m tok) (ix3 k a n) : EReal) = E (ex (U (16 * G + k.val)) (m (ix2 a n)) τ) := fun k => by
      rw [← h.1 k]; show E (expo u m tok (ix3 k a n)) = _
      rw [expo_apply, ht]; rfl
    rw [e, ih (G + 1) _ h.2, h1, groupSum_apply, List.length_cons, Ico_step, Finset.sum_union (Ico_disj _ _),
      ← sum_group (fun q => E (ex (U q) (m (ix2 a n)) τ)) G, add_assoc]
    simp only [h2]

theorem newDiff_apply (U W : ℕ → EReal) (a : Fin 8) (n : Fin 256) (mt ms tokT tokS : FVec Ideal S8x256 .f32) (τ σ : ℝ)
    (ht : tokT (ix2 a n) = (τ : EReal)) (hs : tokS (ix2 a n) = (σ : EReal)) (us : List (FVec Ideal S128x256 .f32)) :
    ∀ (ws : List (FVec Ideal S128x256 .f32)) (G : ℕ) (d : FVec Ideal S8x256 .f32), us.length = ws.length → Reads U a n G us → Reads W a n G ws →
      newDiff (us.zip ws) mt ms tokT tokS d (ix2 a n) = ((d (ix2 a n) : EReal) + ∑ q ∈ Ico (16 * G) (16 * (G + us.length)),
        E (ex (U q) (mt (ix2 a n)) τ) * (ex (U q) (mt (ix2 a n)) τ - ex (W q) (ms (ix2 a n)) σ)) := by
  induction us with
  | nil => intro ws G d hl _ _; simp [newDiff]
  | cons u us ih =>
    intro ws G d hl h h'
    cases ws with
    | nil => simp at hl
    | cons w ws =>
      have e : newDiff ((u :: us).zip (w :: ws)) mt ms tokT tokS d = newDiff (us.zip ws) mt ms tokT tokS
        (addf d (groupSum (mulf (exp2 (expo u mt tokT)) (subf (expo u mt tokT) (expo w ms tokS))))) := rfl
      have h1 : (addf d (groupSum (mulf (exp2 (expo u mt tokT)) (subf (expo u mt tokT) (expo w ms tokS)))) (ix2 a n) : EReal)
        = (d (ix2 a n) : EReal) + groupSum (mulf (exp2 (expo u mt tokT)) (subf (expo u mt tokT) (expo w ms tokS))) (ix2 a n) := rfl
      have h2 : ∀ k : Fin 16, (mulf (exp2 (expo u mt tokT)) (subf (expo u mt tokT) (expo w ms tokS)) (ix3 k a n) : EReal)
          = E (ex (U (16 * G + k.val)) (mt (ix2 a n)) τ) * (ex (U (16 * G + k.val)) (mt (ix2 a n)) τ - ex (W (16 * G + k.val)) (ms (ix2 a n)) σ) := fun k => by
        rw [← h.1 k, ← h'.1 k]
        show E (expo u mt tokT (ix3 k a n)) * ((expo u mt tokT (ix3 k a n) : EReal) - expo w ms tokS (ix3 k a n)) = _
        rw [expo_apply, expo_apply, ht, hs]; rfl
      rw [e, ih ws (G + 1) _ (by simpa using hl) h.2 h'.2, h1, groupSum_apply, List.length_cons, Ico_step, Finset.sum_union (Ico_disj _ _),
        ← sum_group (fun q => E (ex (U q) (mt (ix2 a n)) τ) * (ex (U q) (mt (ix2 a n)) τ - ex (W q) (ms (ix2 a n)) σ)) G, add_assoc]
      simp only [h2]

/-- The statistics, at sublane `a` and column `n`, of the first `16 G` values: the maxima of the values and of `B`, and
    the sums relative to those maxima. -/
structure Holds (B : ℝ) (U W : ℕ → EReal) (τ σ : ℝ) (a : Fin 8) (n : Fin 256) (G : ℕ) (s : St Ideal) : Prop where
  mt : s.mt (ix2 a n) = ((B : EReal) ⊔ (range (16 * G)).sup U)
  ms : s.ms (ix2 a n) = ((B : EReal) ⊔ (range (16 * G)).sup W)
  st : s.st (ix2 a n) = ∑ q ∈ range (16 * G), E (ex (U q) ((B : EReal) ⊔ (range (16 * G)).sup U) τ)
  ss : s.ss (ix2 a n) = ∑ q ∈ range (16 * G), E (ex (W q) ((B : EReal) ⊔ (range (16 * G)).sup W) σ)
  dd : s.dd (ix2 a n) = ∑ q ∈ range (16 * G), E (ex (U q) ((B : EReal) ⊔ (range (16 * G)).sup U) τ)
    * (ex (U q) ((B : EReal) ⊔ (range (16 * G)).sup U) τ - ex (W q) ((B : EReal) ⊔ (range (16 * G)).sup W) σ)

theorem sup_range_step (B : ℝ) (U : ℕ → EReal) (G L : ℕ) :
    ((B : EReal) ⊔ (range (16 * G)).sup U) ⊔ (Ico (16 * G) (16 * (G + L))).sup U = (B : EReal) ⊔ (range (16 * (G + L))).sup U := by
  rw [sup_assoc, ← Finset.sup_union]; congr 2
  ext q; simp only [mem_union, mem_Ico, mem_range]; omega

theorem sum_range_step (f : ℕ → EReal) (G L : ℕ) :
    ∑ q ∈ range (16 * G), f q + ∑ q ∈ Ico (16 * G) (16 * (G + L)), f q = ∑ q ∈ range (16 * (G + L)), f q :=
  Finset.sum_range_add_sum_Ico f (by omega)

theorem base_ne_bot (B : ℝ) (x : EReal) : (B : EReal) ⊔ x ≠ ⊥ := ne_bot_of_le_ne_bot (EReal.coe_ne_bot B) le_sup_left

/-- A chunk folds its values in. -/
theorem Holds.chunk {B : ℝ} {U W : ℕ → EReal} {τ σ : ℝ} {a : Fin 8} {n : Fin 256} {G L : ℕ} {s : St Ideal} (h : Holds B U W τ σ a n G s)
    (hτ : 0 < τ) (hσ : 0 < σ) {ts ss : List (FVec Ideal S128x256 .f32)} {tokT tokS : FVec Ideal S8x256 .f32}
    (ht : tokT (ix2 a n) = (τ : EReal)) (hs : tokS (ix2 a n) = (σ : EReal)) (hL : ts.length = L) (hL' : ss.length = L)
    (hU : Reads U a n G ts) (hW : Reads W a n G ss) : Holds B U W τ σ a n (G + L) (Hand.chunk ts ss tokT tokS s) := by
  have em : newMax ts s.mt (ix2 a n) = ((B : EReal) ⊔ (range (16 * (G + L))).sup U) := by
    rw [newMax_apply U a n ts G _ hU, h.mt, hL, sup_range_step]
  have em' : newMax ss s.ms (ix2 a n) = ((B : EReal) ⊔ (range (16 * (G + L))).sup W) := by
    rw [newMax_apply W a n ss G _ hW, h.ms, hL', sup_range_step]
  have ed : shift s.mt (newMax ts s.mt) tokT (ix2 a n) = ex ((B : EReal) ⊔ (range (16 * G)).sup U) ((B : EReal) ⊔ (range (16 * (G + L))).sup U) τ := by
    show ((s.mt (ix2 a n) : EReal) - newMax ts s.mt (ix2 a n)) * tokT (ix2 a n) = _
    rw [em, h.mt, ht]; rfl
  have ed' : shift s.ms (newMax ss s.ms) tokS (ix2 a n) = ex ((B : EReal) ⊔ (range (16 * G)).sup W) ((B : EReal) ⊔ (range (16 * (G + L))).sup W) σ := by
    show ((s.ms (ix2 a n) : EReal) - newMax ss s.ms (ix2 a n)) * tokS (ix2 a n) = _
    rw [em', h.ms, hs]; rfl
  have sub : ∀ V : ℕ → EReal, ((B : EReal) ⊔ (range (16 * G)).sup V) ≤ (B : EReal) ⊔ (range (16 * (G + L))).sup V := fun V =>
    sup_le_sup_left (Finset.sup_mono fun q => by simp only [mem_range]; omega) _
  have le : ∀ V : ℕ → EReal, ∀ q ∈ range (16 * G), V q ≤ (B : EReal) ⊔ (range (16 * G)).sup V := fun V q hq =>
    (Finset.le_sup hq).trans le_sup_right
  refine ⟨em, em', ?_, ?_, ?_⟩
  · show newSum ts _ tokT _ (ix2 a n) = _
    rw [newSum_apply U a n _ tokT τ ht ts G _ hU, em, hL]
    show E (shift s.mt (newMax ts s.mt) tokT (ix2 a n)) * (s.st (ix2 a n) : EReal) + _ = _
    rw [ed, h.st, sum_rescale _ U hτ (le U) (base_ne_bot B _) (sub U), sum_range_step]
  · show newSum ss _ tokS _ (ix2 a n) = _
    rw [newSum_apply W a n _ tokS σ hs ss G _ hW, em', hL']
    show E (shift s.ms (newMax ss s.ms) tokS (ix2 a n)) * (s.ss (ix2 a n) : EReal) + _ = _
    rw [ed', h.ss, sum_rescale _ W hσ (le W) (base_ne_bot B _) (sub W), sum_range_step]
  · show newDiff _ _ _ tokT tokS _ (ix2 a n) = _
    rw [newDiff_apply U W a n _ _ tokT tokS τ σ ht hs ts ss G _ (hL.trans hL'.symm) hU hW, em, em', hL]
    show E (shift s.mt (newMax ts s.mt) tokT (ix2 a n)) * ((s.dd (ix2 a n) : EReal) + (s.st (ix2 a n) : EReal)
      * ((shift s.mt (newMax ts s.mt) tokT (ix2 a n) : EReal) - shift s.ms (newMax ss s.ms) tokS (ix2 a n))) + _ = _
    rw [ed, ed', h.st, h.dd, diff_rescale _ U W hτ hσ (le U) (base_ne_bot B _) (sub U) (le W) (base_ne_bot B _) (sub W)]
    exact sum_range_step _ G L

end Cert.KernelIdeal.Hand
-- ==== Proof.KernelIdeal.Rows.lean ====
module

public import proofs.«01_k».proof.Proof.KernelIdeal.Fold
public import proofs.«01_k».proof.Proof.KernelIdeal.ChunkAt
public import Idealize.ShloMosaic.Lib.Pipeline.ValueKit.Tiles

@[expose] public section

set_option maxRecDepth 16384

noncomputable section

namespace Cert.KernelIdeal.Hand

open Idealize.ShloMosaic Idealize.ShloMosaic.TcCoe
open Cert.KernelIdeal.Gen

variable {F : FTy → Type} [FloatOps F] [Named F]

/-! The three rows that the last point computes from the final statistics, and what they hold at a column. -/

/-- The divergence of each column, from the five loaded statistics and the two loaded token factors. -/
def klRow (v0 : Vec F S1x8x256 .f32) (v1 : Vec F S1x8x256 .f32) (v2 : Vec F S1x8x256 .f32) (v3 : Vec F S1x8x256 .f32) (v4 : Vec F S1x8x256 .f32) (t0 : Vec F S1x8x256 .f32) (t1 : Vec F S1x8x256 .f32) : FVec F S1x256 .f32 :=
  k0_pay279 (k0_pay271 v0 v0 t0) (k0_pay272 v1 v1) (k0_pay273 t1) v2 v3 v4 v2

/-- The teacher's logarithm of the sum of exponentials. -/
def lseTRow (v0 : Vec F S1x8x256 .f32) (v2 : Vec F S1x8x256 .f32) (t0 : Vec F S1x8x256 .f32) (u : Vec F S1x1x256 .f32) : FVec F S1x256 .f32 := k0_pay280 (k0_pay269 v0) (k0_pay271 v0 v0 t0) v2 u

/-- The student's. -/
def lseSRow (v1 : Vec F S1x8x256 .f32) (v3 : Vec F S1x8x256 .f32) (t1 : Vec F S1x8x256 .f32) (u : Vec F S1x1x256 .f32) : FVec F S1x256 .f32 := k0_pay6 (k0_pay270 v1) (k0_pay278 (k0_pay272 v1 v1) (k0_pay273 t1) v3) u

/-- A row of 256 columns stored as two rows of 128. -/
def rows2L (v : FVec F S1x256 .f32) : List (View.Piece (Elt F) S2x128 .f32) :=
  [⟨(Rect.unit (s := S2x128) ![1, 0] S1x128.size inb_S2x128_S1x128_1_0), k0_pay8 v⟩, ⟨(Rect.unit (s := S2x128) ![0, 0] S1x128.size inb_S2x128_S1x128_0_0), k0_pay7 v⟩]

set_option maxHeartbeats 4000000 in
theorem runC_out6  (c : Dev nD) (i : grid0.Coords) (arg1 : Memref sig .tc .vmem S256x2048 .bf16) (harg1 : arg1.IsWhole) (arg2 : Memref sig .tc .vmem S256x896 .bf16) (harg2 : arg2.IsWhole) (arg3 : Memref sig .tc .vmem S2048x2048 .fp8e4m3) (harg3 : arg3.IsWhole) (arg4 : Memref sig .tc .vmem S2048x896 .fp8e4m3) (harg4 : arg4.IsWhole) (arg5 : Memref sig .tc .vmem S16x128 .f32) (harg5 : arg5.IsWhole) (arg6 : Memref sig .tc .vmem S16x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S256x2048 .fp8e4m3) (harg10 : arg10.IsWhole) (arg11 : Memref sig .tc .vmem S2x128 .f32) (harg11 : arg11.IsWhole) (arg12 : Memref sig .tc .vmem S256x896 .fp8e4m3) (harg12 : arg12.IsWhole) (arg13 : Memref sig .tc .vmem S2x128 .f32) (harg13 : arg13.IsWhole) (arg14 : Memref sig .tc .vmem S5x8x256 .f32) (harg14 : arg14.IsWhole) (arg15 : Memref sig .tc .vmem S2x8x256 .f32) (harg15 : arg15.IsWhole) (hcA : ¬condA i) (hcF : ¬condF i) (hcL : condL i)
    (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) :
    (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA hcF hcL x0 x1 x2 x3 x4 x5 xo9 xo11 xs0 xs1).1 = rows2L (klRow (arg14.view.readCov (runC.sl.H13_5 (F := F) c arg3 harg3 arg4 harg4 arg5 harg5 arg6 harg6 arg10 harg10 arg12 harg12 arg14 harg14 arg15 harg15 x2 x3 x4 x5 xo9 xo11 xs0 xs1) (Rect.unit (s := S5x8x256) ![0, 0, 0] S1x8x256.size inb_S5x8x256_S1x8x256_0_0_0).toLoadRect) (arg14.view.readCov (runC.sl.H13_5 (F := F) c arg3 harg3 arg4 harg4 arg5 harg5 arg6 harg6 arg10 harg10 arg12 harg12 arg14 harg14 arg15 harg15 x2 x3 x4 x5 xo9 xo11 xs0 xs1) (Rect.unit (s := S5x8x256) ![1, 0, 0] S1x8x256.size inb_S5x8x256_S1x8x256_1_0_0).toLoadRect) (arg14.view.readCov (runC.sl.H13_5 (F := F) c arg3 harg3 arg4 harg4 arg5 harg5 arg6 harg6 arg10 harg10 arg12 harg12 arg14 harg14 arg15 harg15 x2 x3 x4 x5 xo9 xo11 xs0 xs1) (Rect.unit (s := S5x8x256) ![2, 0, 0] S1x8x256.size inb_S5x8x256_S1x8x256_2_0_0).toLoadRect) (arg14.view.readCov (runC.sl.H13_5 (F := F) c arg3 harg3 arg4 harg4 arg5 harg5 arg6 harg6 arg10 harg10 arg12 harg12 arg14 harg14 arg15 harg15 x2 x3 x4 x5 xo9 xo11 xs0 xs1) (Rect.unit (s := S5x8x256) ![3, 0, 0] S1x8x256.size inb_S5x8x256_S1x8x256_3_0_0).toLoadRect) (arg14.view.readCov (runC.sl.H13_5 (F := F) c arg3 harg3 arg4 harg4 arg5 harg5 arg6 harg6 arg10 harg10 arg12 harg12 arg14 harg14 arg15 harg15 x2 x3 x4 x5 xo9 xo11 xs0 xs1) (Rect.unit (s := S5x8x256) ![4, 0, 0] S1x8x256.size inb_S5x8x256_S1x8x256_4_0_0).toLoadRect) (View.readAt (Elt F) arg15.view (Rect.unit (s := S2x8x256) ![0, 0, 0] S1x8x256.size inb_S2x8x256_S1x8x256_0_0_0).toLoadRect (harg15.unread xs1)) (View.readAt (Elt F) arg15.view (Rect.unit (s := S2x8x256) ![1, 0, 0] S1x8x256.size inb_S2x8x256_S1x8x256_1_0_0).toLoadRect (harg15.unread xs1))) := rfl

theorem oC_6_eq (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) (X : Vec F S5x8x256 .f32) (hX : X = oC_13 c t h x0 x1 x2 x3 x4 x5 xo9 xo11 xs0 xs1) :
    oC_6 c t h x0 x1 x2 x3 x4 x5 xo9 xo11 xs0 xs1 = View.canon (rows2L (klRow (View.ld X (Rect.unit (s := S5x8x256) ![0, 0, 0] S1x8x256.size inb_S5x8x256_S1x8x256_0_0_0)) (View.ld X (Rect.unit (s := S5x8x256) ![1, 0, 0] S1x8x256.size inb_S5x8x256_S1x8x256_1_0_0)) (View.ld X (Rect.unit (s := S5x8x256) ![2, 0, 0] S1x8x256.size inb_S5x8x256_S1x8x256_2_0_0)) (View.ld X (Rect.unit (s := S5x8x256) ![3, 0, 0] S1x8x256.size inb_S5x8x256_S1x8x256_3_0_0)) (View.ld X (Rect.unit (s := S5x8x256) ![4, 0, 0] S1x8x256.size inb_S5x8x256_S1x8x256_4_0_0)) (View.ld xs1 (Rect.unit (s := S2x8x256) ![0, 0, 0] S1x8x256.size inb_S2x8x256_S1x8x256_0_0_0)) (View.ld xs1 (Rect.unit (s := S2x8x256) ![1, 0, 0] S1x8x256.size inb_S2x8x256_S1x8x256_1_0_0)))) := by
  unfold oC_6 rC
  unfold oC_13 rC at hX
  rw [runC_stats] at hX
  rw [runC_out6, readAt_unread_ld, readAt_unread_ld]
  simp only [readCov_ld]
  rw [← hX]

set_option maxHeartbeats 4000000 in
theorem runC_out7  (c : Dev nD) (i : grid0.Coords) (arg1 : Memref sig .tc .vmem S256x2048 .bf16) (harg1 : arg1.IsWhole) (arg2 : Memref sig .tc .vmem S256x896 .bf16) (harg2 : arg2.IsWhole) (arg3 : Memref sig .tc .vmem S2048x2048 .fp8e4m3) (harg3 : arg3.IsWhole) (arg4 : Memref sig .tc .vmem S2048x896 .fp8e4m3) (harg4 : arg4.IsWhole) (arg5 : Memref sig .tc .vmem S16x128 .f32) (harg5 : arg5.IsWhole) (arg6 : Memref sig .tc .vmem S16x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S256x2048 .fp8e4m3) (harg10 : arg10.IsWhole) (arg11 : Memref sig .tc .vmem S2x128 .f32) (harg11 : arg11.IsWhole) (arg12 : Memref sig .tc .vmem S256x896 .fp8e4m3) (harg12 : arg12.IsWhole) (arg13 : Memref sig .tc .vmem S2x128 .f32) (harg13 : arg13.IsWhole) (arg14 : Memref sig .tc .vmem S5x8x256 .f32) (harg14 : arg14.IsWhole) (arg15 : Memref sig .tc .vmem S2x8x256 .f32) (harg15 : arg15.IsWhole) (hcA : ¬condA i) (hcF : ¬condF i) (hcL : condL i)
    (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) :
    (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA hcF hcL x0 x1 x2 x3 x4 x5 xo9 xo11 xs0 xs1).2.1 = rows2L (lseTRow (arg14.view.readCov (runC.sl.H13_5 (F := F) c arg3 harg3 arg4 harg4 arg5 harg5 arg6 harg6 arg10 harg10 arg12 harg12 arg14 harg14 arg15 harg15 x2 x3 x4 x5 xo9 xo11 xs0 xs1) (Rect.unit (s := S5x8x256) ![0, 0, 0] S1x8x256.size inb_S5x8x256_S1x8x256_0_0_0).toLoadRect) (arg14.view.readCov (runC.sl.H13_5 (F := F) c arg3 harg3 arg4 harg4 arg5 harg5 arg6 harg6 arg10 harg10 arg12 harg12 arg14 harg14 arg15 harg15 x2 x3 x4 x5 xo9 xo11 xs0 xs1) (Rect.unit (s := S5x8x256) ![2, 0, 0] S1x8x256.size inb_S5x8x256_S1x8x256_2_0_0).toLoadRect) (View.readAt (Elt F) arg15.view (Rect.unit (s := S2x8x256) ![0, 0, 0] S1x8x256.size inb_S2x8x256_S1x8x256_0_0_0).toLoadRect (harg15.unread xs1)) (View.readAt (Elt F) arg15.view (Rect.unit (s := S2x8x256) ![0, 0, 0] S1x1x256.size inb_S2x8x256_S1x1x256_0_0_0).toLoadRect (harg15.unread xs1))) := rfl

theorem oC_7_eq (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) (X : Vec F S5x8x256 .f32) (hX : X = oC_13 c t h x0 x1 x2 x3 x4 x5 xo9 xo11 xs0 xs1) :
    oC_7 c t h x0 x1 x2 x3 x4 x5 xo9 xo11 xs0 xs1 = View.canon (rows2L (lseTRow (View.ld X (Rect.unit (s := S5x8x256) ![0, 0, 0] S1x8x256.size inb_S5x8x256_S1x8x256_0_0_0)) (View.ld X (Rect.unit (s := S5x8x256) ![2, 0, 0] S1x8x256.size inb_S5x8x256_S1x8x256_2_0_0)) (View.ld xs1 (Rect.unit (s := S2x8x256) ![0, 0, 0] S1x8x256.size inb_S2x8x256_S1x8x256_0_0_0)) (View.ld xs1 (Rect.unit (s := S2x8x256) ![0, 0, 0] S1x1x256.size inb_S2x8x256_S1x1x256_0_0_0)))) := by
  unfold oC_7 rC
  unfold oC_13 rC at hX
  rw [runC_stats] at hX
  rw [runC_out7, readAt_unread_ld, readAt_unread_ld]
  simp only [readCov_ld]
  rw [← hX]

set_option maxHeartbeats 4000000 in
theorem runC_out8  (c : Dev nD) (i : grid0.Coords) (arg1 : Memref sig .tc .vmem S256x2048 .bf16) (harg1 : arg1.IsWhole) (arg2 : Memref sig .tc .vmem S256x896 .bf16) (harg2 : arg2.IsWhole) (arg3 : Memref sig .tc .vmem S2048x2048 .fp8e4m3) (harg3 : arg3.IsWhole) (arg4 : Memref sig .tc .vmem S2048x896 .fp8e4m3) (harg4 : arg4.IsWhole) (arg5 : Memref sig .tc .vmem S16x128 .f32) (harg5 : arg5.IsWhole) (arg6 : Memref sig .tc .vmem S16x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S256x2048 .fp8e4m3) (harg10 : arg10.IsWhole) (arg11 : Memref sig .tc .vmem S2x128 .f32) (harg11 : arg11.IsWhole) (arg12 : Memref sig .tc .vmem S256x896 .fp8e4m3) (harg12 : arg12.IsWhole) (arg13 : Memref sig .tc .vmem S2x128 .f32) (harg13 : arg13.IsWhole) (arg14 : Memref sig .tc .vmem S5x8x256 .f32) (harg14 : arg14.IsWhole) (arg15 : Memref sig .tc .vmem S2x8x256 .f32) (harg15 : arg15.IsWhole) (hcA : ¬condA i) (hcF : ¬condF i) (hcL : condL i)
    (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) :
    (runC (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA hcF hcL x0 x1 x2 x3 x4 x5 xo9 xo11 xs0 xs1).2.2.1 = rows2L (lseSRow (arg14.view.readCov (runC.sl.H13_5 (F := F) c arg3 harg3 arg4 harg4 arg5 harg5 arg6 harg6 arg10 harg10 arg12 harg12 arg14 harg14 arg15 harg15 x2 x3 x4 x5 xo9 xo11 xs0 xs1) (Rect.unit (s := S5x8x256) ![1, 0, 0] S1x8x256.size inb_S5x8x256_S1x8x256_1_0_0).toLoadRect) (arg14.view.readCov (runC.sl.H13_5 (F := F) c arg3 harg3 arg4 harg4 arg5 harg5 arg6 harg6 arg10 harg10 arg12 harg12 arg14 harg14 arg15 harg15 x2 x3 x4 x5 xo9 xo11 xs0 xs1) (Rect.unit (s := S5x8x256) ![3, 0, 0] S1x8x256.size inb_S5x8x256_S1x8x256_3_0_0).toLoadRect) (View.readAt (Elt F) arg15.view (Rect.unit (s := S2x8x256) ![1, 0, 0] S1x8x256.size inb_S2x8x256_S1x8x256_1_0_0).toLoadRect (harg15.unread xs1)) (View.readAt (Elt F) arg15.view (Rect.unit (s := S2x8x256) ![1, 0, 0] S1x1x256.size inb_S2x8x256_S1x1x256_1_0_0).toLoadRect (harg15.unread xs1))) := rfl

theorem oC_8_eq (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) (X : Vec F S5x8x256 .f32) (hX : X = oC_13 c t h x0 x1 x2 x3 x4 x5 xo9 xo11 xs0 xs1) :
    oC_8 c t h x0 x1 x2 x3 x4 x5 xo9 xo11 xs0 xs1 = View.canon (rows2L (lseSRow (View.ld X (Rect.unit (s := S5x8x256) ![1, 0, 0] S1x8x256.size inb_S5x8x256_S1x8x256_1_0_0)) (View.ld X (Rect.unit (s := S5x8x256) ![3, 0, 0] S1x8x256.size inb_S5x8x256_S1x8x256_3_0_0)) (View.ld xs1 (Rect.unit (s := S2x8x256) ![1, 0, 0] S1x8x256.size inb_S2x8x256_S1x8x256_1_0_0)) (View.ld xs1 (Rect.unit (s := S2x8x256) ![1, 0, 0] S1x1x256.size inb_S2x8x256_S1x1x256_1_0_0)))) := by
  unfold oC_8 rC
  unfold oC_13 rC at hX
  rw [runC_stats] at hX
  rw [runC_out8, readAt_unread_ld, readAt_unread_ld]
  simp only [readCov_ld]
  rw [← hX]

theorem stOf_oC_13 (c : Dev nD) (t : Fin cfg0.N) (h : t.val = 74) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) (xo9 : Vec F S256x2048 .fp8e4m3) (xo11 : Vec F S256x896 .fp8e4m3) (xs0 : Vec F S5x8x256 .f32) (xs1 : Vec F S2x8x256 .f32) :
    stOf (oC_13 c t h x0 x1 x2 x3 x4 x5 xo9 xo11 xs0 xs1) = fold3 x2 x3 xo9 xo11 x4 x5 (tok0 xs1) (tok1 xs1) (stOf xs0) := by
  unfold oC_13
  rw [runC_fold, stOf_pieces]

theorem rows2_apply (v : FVec F S1x256 .f32) (b : Fin 2) (i : Fin 128) :
    View.canon (rows2L v) (ix2 b i) = v (ix2 0 ⟨b.val * 128 + i.val, by omega⟩) := by
  refine View.canon_eq_of_allAt _ _ _ (View.cover_of_tiled_head _ _ _ rfl _) ?_
  refine View.allAt_cons_unit _ _ _ _ _ ?_ (View.allAt_cons_unit _ _ _ _ _ ?_ (View.allAt_nil _ _)) <;> intro x hx
  · idx_vars x
    have h0 : b.val = 1 + x0.val := hx 0
    have h1 : i.val = 0 + x1.val := hx 1
    pointwise [k0_pay8]
    congr 2; apply Fin.ext; simp only; omega
  · idx_vars x
    have h0 : b.val = 0 + x0.val := hx 0
    have h1 : i.val = 0 + x1.val := hx 1
    pointwise [k0_pay7]
    congr 2; apply Fin.ext; simp only; omega

/-- The divergence from eight sublanes' statistics. -/
def klOf (mt ms st ss dd tt ts : Fin 8 → EReal) : EReal :=
  (Real.log 2 : ℝ) * Ideal.div (∑ a, Stream.E ((mt a - Finset.univ.sup mt) * tt a) * (dd a + st a * ((mt a - Finset.univ.sup mt) * tt a - (ms a - Finset.univ.sup ms) * ts a)))
      (∑ a, Stream.E ((mt a - Finset.univ.sup mt) * tt a) * st a)
    - Ideal.log (∑ a, Stream.E ((mt a - Finset.univ.sup mt) * tt a) * st a) + Ideal.log (∑ a, Stream.E ((ms a - Finset.univ.sup ms) * ts a) * ss a)

/-- The logarithm of the sum of exponentials from eight sublanes' statistics, less the vocabulary's logarithm. -/
def lseOf (m s t : Fin 8 → EReal) (u : EReal) : EReal :=
  Finset.univ.sup m * u * (Real.log 2 : ℝ) + Ideal.log (∑ a, Stream.E ((m a - Finset.univ.sup m) * t a) * s a) - (Real.log 151936 : ℝ)

theorem ln2_named : (Named.named (F := Ideal) (φ := .f32) κ "ln2" 0x3F317218#32 : EReal) = (Real.log 2 : ℝ) := IdealRules.named_const.ideal_named_scalar _ _ _ _ rfl
theorem logv_named : (Named.named (F := Ideal) (φ := .f32) κ "log_v" 0x413EE641#32 : EReal) = (Real.log 151936 : ℝ) := IdealRules.named_const.ideal_named_scalar _ _ _ _ rfl

theorem klRow_apply (v0 v1 v2 v3 v4 t0 t1 : Vec Ideal S1x8x256 .f32) (n : Fin 256) :
    klRow v0 v1 v2 v3 v4 t0 t1 (ix2 0 n) = klOf (fun a => v0 (ix3 0 a n)) (fun a => v1 (ix3 0 a n)) (fun a => v2 (ix3 0 a n)) (fun a => v3 (ix3 0 a n))
      (fun a => v4 (ix3 0 a n)) (fun a => t0 (ix3 0 a n)) (fun a => t1 (ix3 0 a n)) := by
  pointwise [klRow, klOf, k0_pay279, k0_pay271, k0_pay272, k0_pay273, k0_pay269, k0_pay270, k0_pay274, k0_pay275, k0_pay276, k0_pay277, k0_pay278]
  rw [ofBits_ninf]; simp only [fold_max_bot, ln2_named, logv_named]; rfl

theorem lseTRow_apply (v0 v2 t0 : Vec Ideal S1x8x256 .f32) (u : Vec Ideal S1x1x256 .f32) (n : Fin 256) :
    lseTRow v0 v2 t0 u (ix2 0 n) = lseOf (fun a => v0 (ix3 0 a n)) (fun a => v2 (ix3 0 a n)) (fun a => t0 (ix3 0 a n)) (u (ix3 0 0 n)) := by
  pointwise [lseTRow, lseOf, k0_pay280, k0_pay271, k0_pay269, k0_pay275, k0_pay276, k0_pay277]
  rw [ofBits_ninf]; simp only [fold_max_bot, ln2_named, logv_named]; rfl

theorem lseSRow_apply (v1 v3 t1 : Vec Ideal S1x8x256 .f32) (u : Vec Ideal S1x1x256 .f32) (n : Fin 256) :
    lseSRow v1 v3 t1 u (ix2 0 n) = lseOf (fun a => v1 (ix3 0 a n)) (fun a => v3 (ix3 0 a n)) (fun a => t1 (ix3 0 a n)) (u (ix3 0 0 n)) := by
  pointwise [lseSRow, lseOf, k0_pay6, k0_pay272, k0_pay273, k0_pay270, k0_pay274, k0_pay278]
  rw [ofBits_ninf]; simp only [fold_max_bot, ln2_named, logv_named]; rfl

end Cert.KernelIdeal.Hand
-- ==== Proof.KernelIdeal.First.lean ====
module

public import proofs.«01_k».proof.Proof.KernelIdeal.Rows

@[expose] public section

set_option maxRecDepth 16384

noncomputable section

namespace Cert.KernelIdeal.Hand

open Idealize.ShloMosaic Idealize.ShloMosaic.TcCoe
open Cert.KernelIdeal.Gen

variable {F : FTy → Type} [FloatOps F] [Named F]

/-! What the first point stores before it folds in its block: the codes, the scales and the token factors. -/

/-- The two planes of token factors. -/
def tokL (a b : FVec F S1x8x256 .f32) : List (View.Piece (Elt F) S2x8x256 .f32) :=
  [⟨(Rect.unit (s := S2x8x256) ![1, 0, 0] S1x8x256.size inb_S2x8x256_S1x8x256_1_0_0), b⟩, ⟨(Rect.unit (s := S2x8x256) ![0, 0, 0] S1x8x256.size inb_S2x8x256_S1x8x256_0_0_0), a⟩]

set_option maxHeartbeats 4000000 in
theorem runA_out9  (c : Dev nD) (i : grid0.Coords) (arg1 : Memref sig .tc .vmem S256x2048 .bf16) (harg1 : arg1.IsWhole) (arg2 : Memref sig .tc .vmem S256x896 .bf16) (harg2 : arg2.IsWhole) (arg3 : Memref sig .tc .vmem S2048x2048 .fp8e4m3) (harg3 : arg3.IsWhole) (arg4 : Memref sig .tc .vmem S2048x896 .fp8e4m3) (harg4 : arg4.IsWhole) (arg5 : Memref sig .tc .vmem S16x128 .f32) (harg5 : arg5.IsWhole) (arg6 : Memref sig .tc .vmem S16x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S256x2048 .fp8e4m3) (harg10 : arg10.IsWhole) (arg11 : Memref sig .tc .vmem S2x128 .f32) (harg11 : arg11.IsWhole) (arg12 : Memref sig .tc .vmem S256x896 .fp8e4m3) (harg12 : arg12.IsWhole) (arg13 : Memref sig .tc .vmem S2x128 .f32) (harg13 : arg13.IsWhole) (arg14 : Memref sig .tc .vmem S5x8x256 .f32) (harg14 : arg14.IsWhole) (arg15 : Memref sig .tc .vmem S2x8x256 .f32) (harg15 : arg15.IsWhole) (hcA : condA i) (hcF : condF i) (hcL : ¬condL i)
    (x0 : Vec F S256x2048 .bf16) (x1 : Vec F S256x896 .bf16) (x2 : Vec F S2048x2048 .fp8e4m3) (x3 : Vec F S2048x896 .fp8e4m3) (x4 : Vec F S16x128 .f32) (x5 : Vec F S16x128 .f32) :
    (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA hcF hcL x0 x1 x2 x3 x4 x5).1 = [⟨(Rect.unit (s := S256x2048) ![0, 0] S256x2048.size inb_S256x2048_S256x2048_0_0), k0_pay16 (View.readAt (Elt F) arg1.view (Rect.unit (s := S256x2048) ![0, 0] S256x2048.size inb_S256x2048_S256x2048_0_0).toLoadRect (harg1.unread x0))⟩] := rfl

theorem oA_9_eq (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) :
    oA_9 c t h x0 x1 x2 x3 x4 x5 = k0_pay16 x0 := by
  unfold oA_9 rA
  rw [runA_out9]
  rw [readAt_unread_ld, ld2]
  exact View.canon_unit_zero (S := S256x2048) (zero2 (a := 256) (b := 2048)) _ _

set_option maxHeartbeats 4000000 in
theorem runA_out10  (c : Dev nD) (i : grid0.Coords) (arg1 : Memref sig .tc .vmem S256x2048 .bf16) (harg1 : arg1.IsWhole) (arg2 : Memref sig .tc .vmem S256x896 .bf16) (harg2 : arg2.IsWhole) (arg3 : Memref sig .tc .vmem S2048x2048 .fp8e4m3) (harg3 : arg3.IsWhole) (arg4 : Memref sig .tc .vmem S2048x896 .fp8e4m3) (harg4 : arg4.IsWhole) (arg5 : Memref sig .tc .vmem S16x128 .f32) (harg5 : arg5.IsWhole) (arg6 : Memref sig .tc .vmem S16x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S256x2048 .fp8e4m3) (harg10 : arg10.IsWhole) (arg11 : Memref sig .tc .vmem S2x128 .f32) (harg11 : arg11.IsWhole) (arg12 : Memref sig .tc .vmem S256x896 .fp8e4m3) (harg12 : arg12.IsWhole) (arg13 : Memref sig .tc .vmem S2x128 .f32) (harg13 : arg13.IsWhole) (arg14 : Memref sig .tc .vmem S5x8x256 .f32) (harg14 : arg14.IsWhole) (arg15 : Memref sig .tc .vmem S2x8x256 .f32) (harg15 : arg15.IsWhole) (hcA : condA i) (hcF : condF i) (hcL : ¬condL i)
    (x0 : Vec F S256x2048 .bf16) (x1 : Vec F S256x896 .bf16) (x2 : Vec F S2048x2048 .fp8e4m3) (x3 : Vec F S2048x896 .fp8e4m3) (x4 : Vec F S16x128 .f32) (x5 : Vec F S16x128 .f32) :
    (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA hcF hcL x0 x1 x2 x3 x4 x5).2.1 = rows2L (k0_pay17 (k0_pay15 (View.readAt (Elt F) arg1.view (Rect.unit (s := S256x2048) ![0, 0] S256x2048.size inb_S256x2048_S256x2048_0_0).toLoadRect (harg1.unread x0)))) := rfl

theorem oA_10_eq (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) :
    oA_10 c t h x0 x1 x2 x3 x4 x5 = View.canon (rows2L (k0_pay17 (k0_pay15 x0))) := by
  unfold oA_10 rA
  rw [runA_out10]
  rw [readAt_unread_ld, ld2]

set_option maxHeartbeats 4000000 in
theorem runA_out11  (c : Dev nD) (i : grid0.Coords) (arg1 : Memref sig .tc .vmem S256x2048 .bf16) (harg1 : arg1.IsWhole) (arg2 : Memref sig .tc .vmem S256x896 .bf16) (harg2 : arg2.IsWhole) (arg3 : Memref sig .tc .vmem S2048x2048 .fp8e4m3) (harg3 : arg3.IsWhole) (arg4 : Memref sig .tc .vmem S2048x896 .fp8e4m3) (harg4 : arg4.IsWhole) (arg5 : Memref sig .tc .vmem S16x128 .f32) (harg5 : arg5.IsWhole) (arg6 : Memref sig .tc .vmem S16x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S256x2048 .fp8e4m3) (harg10 : arg10.IsWhole) (arg11 : Memref sig .tc .vmem S2x128 .f32) (harg11 : arg11.IsWhole) (arg12 : Memref sig .tc .vmem S256x896 .fp8e4m3) (harg12 : arg12.IsWhole) (arg13 : Memref sig .tc .vmem S2x128 .f32) (harg13 : arg13.IsWhole) (arg14 : Memref sig .tc .vmem S5x8x256 .f32) (harg14 : arg14.IsWhole) (arg15 : Memref sig .tc .vmem S2x8x256 .f32) (harg15 : arg15.IsWhole) (hcA : condA i) (hcF : condF i) (hcL : ¬condL i)
    (x0 : Vec F S256x2048 .bf16) (x1 : Vec F S256x896 .bf16) (x2 : Vec F S2048x2048 .fp8e4m3) (x3 : Vec F S2048x896 .fp8e4m3) (x4 : Vec F S16x128 .f32) (x5 : Vec F S16x128 .f32) :
    (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA hcF hcL x0 x1 x2 x3 x4 x5).2.2.1 = [⟨(Rect.unit (s := S256x896) ![0, 0] S256x896.size inb_S256x896_S256x896_0_0), k0_pay25 (k0_pay21 (View.readAt (Elt F) arg2.view (Rect.unit (s := S256x896) ![0, 0] S256x896.size inb_S256x896_S256x896_0_0).toLoadRect (harg2.unread x1))) (k0_pay22 (View.readAt (Elt F) arg2.view (Rect.unit (s := S256x896) ![0, 0] S256x896.size inb_S256x896_S256x896_0_0).toLoadRect (harg2.unread x1))) k0_pay23⟩] := rfl

theorem oA_11_eq (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) :
    oA_11 c t h x0 x1 x2 x3 x4 x5 = k0_pay25 (k0_pay21 x1) (k0_pay22 x1) k0_pay23 := by
  unfold oA_11 rA
  rw [runA_out11]
  rw [readAt_unread_ld, ld2]
  exact View.canon_unit_zero (S := S256x896) (zero2 (a := 256) (b := 896)) _ _

set_option maxHeartbeats 4000000 in
theorem runA_out12  (c : Dev nD) (i : grid0.Coords) (arg1 : Memref sig .tc .vmem S256x2048 .bf16) (harg1 : arg1.IsWhole) (arg2 : Memref sig .tc .vmem S256x896 .bf16) (harg2 : arg2.IsWhole) (arg3 : Memref sig .tc .vmem S2048x2048 .fp8e4m3) (harg3 : arg3.IsWhole) (arg4 : Memref sig .tc .vmem S2048x896 .fp8e4m3) (harg4 : arg4.IsWhole) (arg5 : Memref sig .tc .vmem S16x128 .f32) (harg5 : arg5.IsWhole) (arg6 : Memref sig .tc .vmem S16x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S256x2048 .fp8e4m3) (harg10 : arg10.IsWhole) (arg11 : Memref sig .tc .vmem S2x128 .f32) (harg11 : arg11.IsWhole) (arg12 : Memref sig .tc .vmem S256x896 .fp8e4m3) (harg12 : arg12.IsWhole) (arg13 : Memref sig .tc .vmem S2x128 .f32) (harg13 : arg13.IsWhole) (arg14 : Memref sig .tc .vmem S5x8x256 .f32) (harg14 : arg14.IsWhole) (arg15 : Memref sig .tc .vmem S2x8x256 .f32) (harg15 : arg15.IsWhole) (hcA : condA i) (hcF : condF i) (hcL : ¬condL i)
    (x0 : Vec F S256x2048 .bf16) (x1 : Vec F S256x896 .bf16) (x2 : Vec F S2048x2048 .fp8e4m3) (x3 : Vec F S2048x896 .fp8e4m3) (x4 : Vec F S16x128 .f32) (x5 : Vec F S16x128 .f32) :
    (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA hcF hcL x0 x1 x2 x3 x4 x5).2.2.2.1 = rows2L (k0_pay26 (k0_pay22 (View.readAt (Elt F) arg2.view (Rect.unit (s := S256x896) ![0, 0] S256x896.size inb_S256x896_S256x896_0_0).toLoadRect (harg2.unread x1))) k0_pay23) := rfl

theorem oA_12_eq (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) :
    oA_12 c t h x0 x1 x2 x3 x4 x5 = View.canon (rows2L (k0_pay26 (k0_pay22 x1) k0_pay23)) := by
  unfold oA_12 rA
  rw [runA_out12]
  rw [readAt_unread_ld, ld2]

set_option maxHeartbeats 4000000 in
theorem runA_out14  (c : Dev nD) (i : grid0.Coords) (arg1 : Memref sig .tc .vmem S256x2048 .bf16) (harg1 : arg1.IsWhole) (arg2 : Memref sig .tc .vmem S256x896 .bf16) (harg2 : arg2.IsWhole) (arg3 : Memref sig .tc .vmem S2048x2048 .fp8e4m3) (harg3 : arg3.IsWhole) (arg4 : Memref sig .tc .vmem S2048x896 .fp8e4m3) (harg4 : arg4.IsWhole) (arg5 : Memref sig .tc .vmem S16x128 .f32) (harg5 : arg5.IsWhole) (arg6 : Memref sig .tc .vmem S16x128 .f32) (harg6 : arg6.IsWhole) (arg7 : Memref sig .tc .vmem S2x128 .f32) (harg7 : arg7.IsWhole) (arg8 : Memref sig .tc .vmem S2x128 .f32) (harg8 : arg8.IsWhole) (arg9 : Memref sig .tc .vmem S2x128 .f32) (harg9 : arg9.IsWhole) (arg10 : Memref sig .tc .vmem S256x2048 .fp8e4m3) (harg10 : arg10.IsWhole) (arg11 : Memref sig .tc .vmem S2x128 .f32) (harg11 : arg11.IsWhole) (arg12 : Memref sig .tc .vmem S256x896 .fp8e4m3) (harg12 : arg12.IsWhole) (arg13 : Memref sig .tc .vmem S2x128 .f32) (harg13 : arg13.IsWhole) (arg14 : Memref sig .tc .vmem S5x8x256 .f32) (harg14 : arg14.IsWhole) (arg15 : Memref sig .tc .vmem S2x8x256 .f32) (harg15 : arg15.IsWhole) (hcA : condA i) (hcF : condF i) (hcL : ¬condL i)
    (x0 : Vec F S256x2048 .bf16) (x1 : Vec F S256x896 .bf16) (x2 : Vec F S2048x2048 .fp8e4m3) (x3 : Vec F S2048x896 .fp8e4m3) (x4 : Vec F S16x128 .f32) (x5 : Vec F S16x128 .f32) :
    (runA (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA hcF hcL x0 x1 x2 x3 x4 x5).2.2.2.2.2.1 = tokL (k0_pay20 (k0_pay15 (View.readAt (Elt F) arg1.view (Rect.unit (s := S256x2048) ![0, 0] S256x2048.size inb_S256x2048_S256x2048_0_0).toLoadRect (harg1.unread x0)))) (k0_pay29 (k0_pay22 (View.readAt (Elt F) arg2.view (Rect.unit (s := S256x896) ![0, 0] S256x896.size inb_S256x896_S256x896_0_0).toLoadRect (harg2.unread x1))) k0_pay23) := rfl

theorem oA_14_eq (c : Dev nD) (t : Fin cfg0.N) (h : t.val = 0) (x0 : Vec F S256x2048 .bf16) (x1 : Vec F S256x896 .bf16) (x2 : Vec F S2048x2048 .fp8e4m3) (x3 : Vec F S2048x896 .fp8e4m3) (x4 : Vec F S16x128 .f32) (x5 : Vec F S16x128 .f32) :
    oA_14 c t h x0 x1 x2 x3 x4 x5 = View.canon (tokL (k0_pay20 (k0_pay15 x0)) (k0_pay29 (k0_pay22 x1) k0_pay23)) := by
  unfold oA_14 rA
  rw [runA_out14]
  rw [readAt_unread_ld, readAt_unread_ld, ld2, ld2]

end Cert.KernelIdeal.Hand
-- ==== Proof.Math.Quant.lean ====
module

public import Idealize.ShloMosaic.PureOps.Ideal
public import Idealize.ShloMosaic.Lib.Pointwise

@[expose] public section

set_option maxRecDepth 16384

noncomputable section

namespace Cert.Quant

open Idealize.ShloMosaic Finset

/-! The power-of-two scale of a row, found two ways: by comparing the row's scaled maximum with every power of two that
    a biased exponent can name, and by the floor of a logarithm. -/

/-- The float whose biased exponent field is `k`. -/
def pow (k : BitVec 32) : EReal := Ideal.ofBits .f32 (IntOp.shli .vector k 23#32)

theorem shli_eq (k : BitVec 32) : IntOp.shli .vector k 23#32 = k <<< 23#32 := by
  unfold IntOp.shli; rw [if_pos (by decide)]

theorem bits_sign : ∀ k : Fin 256, (BitVec.ofNat 32 k.val <<< 23#32).extractLsb' 31 1 = 0#1 := by decide
theorem bits_exp : ∀ k : Fin 256, ((BitVec.ofNat 32 k.val <<< 23#32).extractLsb' 23 8).toNat = k.val := by decide
theorem bits_frac : ∀ k : Fin 256, ((BitVec.ofNat 32 k.val <<< 23#32).extractLsb' 0 23).toNat = 0 := by decide

theorem pow_eq (k : Fin 256) : pow (BitVec.ofNat 32 k.val)
    = if k.val = 255 then ⊤ else if k.val = 0 then 0 else (((2 : ℝ) ^ ((k.val : ℤ) - 127) : ℝ) : EReal) := by
  unfold pow; rw [shli_eq]
  show Ideal.ieee 8 23 (BitVec.ofNat 32 k.val <<< 23#32) = _
  unfold Ideal.ieee
  simp only [bits_sign k, bits_exp k, bits_frac k]
  by_cases h : k.val = 255
  · simp [h]
  · rw [if_neg (by norm_num; exact h), if_neg h]
    by_cases h0 : k.val = 0
    · simp [h0]
    · rw [if_neg h0, if_neg h0]
      congr 1
      have : ((2 : ℝ) ^ ((k.val : ℤ) - 127)) = (2 : ℝ) ^ (23 : ℤ) * (2 : ℝ) ^ ((k.val : ℤ) - 127 - 23) := by
        rw [← zpow_add₀ (by norm_num)]; congr 1; ring
      rw [this]; norm_num

/-- The largest biased exponent whose power of two is at most `x`. -/
def quantK (x : EReal) : BitVec 32 :=
  univ.fold IntOp.maxsi 2147483648#32 (fun k : Fin 256 => if pow (BitVec.ofNat 32 k.val) ≤ x then BitVec.ofNat 32 k.val else 0#32)

theorem toInt_maxsi (x y : BitVec 32) : (IntOp.maxsi x y).toInt = max x.toInt y.toInt := by
  unfold IntOp.maxsi
  simp only [BitVec.slt_iff_toInt_lt, Bool.cond_eq_ite]
  split <;> omega

theorem toInt_small (k : Fin 256) : (BitVec.ofNat 32 k.val).toInt = (k.val : ℤ) := by
  have := k.isLt
  rw [BitVec.toInt_eq_toNat_of_lt (by simp only [BitVec.toNat_ofNat]; omega)]
  simp only [BitVec.toNat_ofNat]; omega

theorem quantK_eq (x : EReal) (j : Fin 256) (h1 : pow (BitVec.ofNat 32 j.val) ≤ x) (h2 : ∀ k : Fin 256, j.val < k.val → ¬ pow (BitVec.ofNat 32 k.val) ≤ x) :
    quantK x = BitVec.ofNat 32 j.val := by
  apply BitVec.eq_of_toInt_eq
  unfold quantK
  rw [← Finset.fold_hom (op := IntOp.maxsi) (op' := (max : ℤ → ℤ → ℤ)) (m := BitVec.toInt) toInt_maxsi, toInt_small]
  apply le_antisymm
  · rw [Finset.fold_max_le]
    refine ⟨by rw [show (2147483648#32).toInt = -2147483648 from by decide]; omega, fun k _ => ?_⟩
    split
    · rename_i hk
      rw [toInt_small]
      by_contra hc
      exact h2 k (by omega) hk
    · rw [show (0#32).toInt = 0 from by decide]; omega
  · rw [Finset.le_fold_max]
    refine Or.inr ⟨j, mem_univ _, ?_⟩
    rw [if_pos h1, toInt_small]

/-- The exponent of the scale: `0` below the smallest normal number. -/
def expo (x : EReal) : BitVec 32 := Scalar.select (IntOp.cmpi .eq (quantK x) 0#32) 0#32 (IntOp.subi (quantK x) 126#32)

/-- The scale. -/
def scale (x : EReal) : EReal := pow (IntOp.addi (expo x) 127#32)
/-- The scale's inverse. -/
def inv (x : EReal) : EReal := pow (IntOp.subi 127#32 (expo x))

/-- The scale by the floor of the logarithm. -/
def scaleRef (x : EReal) : EReal :=
  Ideal.exp ((if x < (((2 : ℝ) ^ (-126 : ℤ) : ℝ) : EReal) then 0 else Ideal.liftRound Int.floor (Ideal.log x * (((Real.log 2)⁻¹ : ℝ) : EReal)) + 1) * (Real.log 2 : ℝ))

theorem up : ∀ j : Fin 256, 1 ≤ j.val → IntOp.addi (Scalar.select (IntOp.cmpi .eq (BitVec.ofNat 32 j.val) 0#32) 0#32 (IntOp.subi (BitVec.ofNat 32 j.val) 126#32)) 127#32 = BitVec.ofNat 32 (j.val + 1) := by decide
theorem down : ∀ j : Fin 256, 1 ≤ j.val → j.val ≤ 253 → IntOp.subi 127#32 (Scalar.select (IntOp.cmpi .eq (BitVec.ofNat 32 j.val) 0#32) 0#32 (IntOp.subi (BitVec.ofNat 32 j.val) 126#32)) = BitVec.ofNat 32 (253 - j.val) := by decide

/-- For a row's scaled maximum `x`, a nonnegative real below `2 ^ 124`, both ways give one power of two. -/
theorem scales (x : ℝ) (h0 : 0 ≤ x) (hx : x < (2 : ℝ) ^ (124 : ℤ)) :
    ∃ i : ℤ, scale x = (((2 : ℝ) ^ i : ℝ) : EReal) ∧ inv x = (((2 : ℝ) ^ (-i) : ℝ) : EReal) ∧ scaleRef x = (((2 : ℝ) ^ i : ℝ) : EReal) := by
  have h2 : 0 < Real.log 2 := Real.log_pos (by norm_num)
  have hinj : ∀ a b : ℤ, a ≤ b → (2 : ℝ) ^ a ≤ (2 : ℝ) ^ b := fun a b h => zpow_le_zpow_right₀ (by norm_num) h
  by_cases hs : x < (2 : ℝ) ^ (-126 : ℤ)
  · have hk : quantK x = 0#32 := by
      refine quantK_eq x 0 (by rw [pow_eq]; simpa using h0) fun k hk => ?_
      rw [pow_eq]
      split
      · simp
      · rw [if_neg (by simp at hk; omega)]
        rw [not_le]; exact EReal.coe_lt_coe_iff.mpr (hs.trans_le (hinj _ _ (by have hk' := hk; simp only [Fin.val_zero] at hk'; omega)))
    refine ⟨0, ?_, ?_, ?_⟩
    · unfold scale expo; rw [hk]
      show pow (BitVec.ofNat 32 (127 : Fin 256).val) = _
      rw [pow_eq]; norm_num
    · unfold inv expo; rw [hk]
      show pow (BitVec.ofNat 32 (127 : Fin 256).val) = _
      rw [pow_eq]; norm_num
    · unfold scaleRef
      rw [if_pos (by exact_mod_cast hs), zero_mul]
      simp [show (0 : EReal) = ((0 : ℝ) : EReal) from rfl, -EReal.coe_zero]
  · rw [not_lt] at hs
    have hp : 0 < x := lt_of_lt_of_le (zpow_pos (by norm_num) _) hs
    obtain ⟨i, hi, hi'⟩ := exists_mem_Ico_zpow hp (by norm_num : (1 : ℝ) < 2)
    have l1 : -126 ≤ i := by
      by_contra hc
      exact absurd (hs.trans_lt hi') (not_lt.mpr (hinj _ _ (by omega)))
    have l2 : i < 124 := by
      by_contra hc
      exact absurd (hi.trans_lt hx) (not_lt.mpr (hinj _ _ (by omega)))
    obtain ⟨j, hj⟩ : ∃ j : ℕ, (j : ℤ) = i + 127 := ⟨(i + 127).toNat, by omega⟩
    have hk : quantK x = BitVec.ofNat 32 j := by
      refine quantK_eq x ⟨j, by omega⟩ ?_ fun k hk => ?_
      · rw [pow_eq]; simp only
        rw [if_neg (by omega), if_neg (by omega), show (j : ℤ) - 127 = i from by omega]; exact_mod_cast hi
      · rw [pow_eq]
        split
        · simp
        · rw [if_neg (by simp at hk; omega)]
          rw [not_le]; exact EReal.coe_lt_coe_iff.mpr (hi'.trans_le (hinj _ _ (by have hk' : j < k.val := hk; omega)))
    refine ⟨i + 1, ?_, ?_, ?_⟩
    · unfold scale expo; rw [hk, up ⟨j, by omega⟩ (by simp only; omega)]
      have := pow_eq ⟨j + 1, by omega⟩
      simp only at this
      rw [this, if_neg (by omega), if_neg (by omega), show ((j + 1 : ℕ) : ℤ) - 127 = i + 1 from by omega]
    · unfold inv expo; rw [hk, down ⟨j, by omega⟩ (by simp only; omega) (by simp only; omega)]
      have := pow_eq ⟨253 - j, by omega⟩
      simp only at this
      rw [this, if_neg (by omega), if_neg (by omega), show ((253 - j : ℕ) : ℤ) - 127 = -(i + 1) from by omega]
    · unfold scaleRef
      rw [if_neg (by rw [not_lt]; exact_mod_cast hs), Ideal.log_coe, if_neg (not_le.mpr hp), ← EReal.coe_mul]
      have hf : Int.floor (Real.log x * (Real.log 2)⁻¹) = i := by
        rw [← div_eq_mul_inv, Int.floor_eq_iff, le_div_iff₀ h2, div_lt_iff₀ h2]
        constructor
        · rw [← Real.log_zpow]; exact Real.log_le_log (zpow_pos (by norm_num) _) hi
        · have := Real.log_lt_log hp hi'
          rw [Real.log_zpow] at this; push_cast at this; exact this
      show Ideal.exp ((((Int.floor (Real.log x * (Real.log 2)⁻¹) : ℤ) : ℝ) + 1 : EReal) * (Real.log 2 : ℝ)) = _
      rw [hf, show ((1 : EReal)) = ((1 : ℝ) : EReal) from rfl, ← EReal.coe_add, ← EReal.coe_mul, Ideal.exp_coe]
      congr 1
      rw [show ((i : ℝ) + 1) * Real.log 2 = ((i + 1 : ℤ) : ℝ) * Real.log 2 from by push_cast; ring, ← Real.log_zpow, Real.exp_log (zpow_pos (by norm_num) _)]

theorem recip_eq : Ideal.ofBits .f32 0x3B124925#32 = (((9586981 : ℝ) * (2 : ℝ) ^ (-32 : ℤ) : ℝ) : EReal) := by
  simp [Ideal.ofBits, Ideal.ieee, -EReal.coe_mul]

theorem tiny_eq : Ideal.ofBits .f32 0x00800000#32 = (((2 : ℝ) ^ (-126 : ℤ) : ℝ) : EReal) := by
  have h : IntOp.shli .vector (BitVec.ofNat 32 (1 : Fin 256).val) 23#32 = 0x00800000#32 := by decide
  have := pow_eq 1
  unfold pow at this; rw [h] at this; rw [this]; norm_num

/-- A row's largest magnitude, times the reciprocal of the largest code. -/
def rowMax {D : ℕ} (h : Fin D → EReal) : EReal := (univ.sup fun d => max (h d) (-(h d))) * Ideal.ofBits .f32 0x3B124925#32

theorem rowMax_real {D : ℕ} (d0 : Fin D) (h : Fin D → EReal) (hb : ∀ d, max (h d) (-(h d)) ≤ (((255 : ℝ) * 2 ^ 120 : ℝ) : EReal)) :
    ∃ x : ℝ, 0 ≤ x ∧ x < (2 : ℝ) ^ (124 : ℤ) ∧ rowMax h = (x : EReal) := by
  have l : (univ.sup fun d => max (h d) (-(h d))) ≤ (((255 : ℝ) * 2 ^ 120 : ℝ) : EReal) := Finset.sup_le fun d _ => hb d
  have g : (0 : EReal) ≤ univ.sup fun d => max (h d) (-(h d)) := by
    refine le_trans ?_ (le_sup (f := fun d => max (h d) (-(h d))) (mem_univ d0))
    rcases le_total (h d0) 0 with hd | hd
    · exact le_max_of_le_right (by rw [EReal.le_neg]; simpa using hd)
    · exact le_max_of_le_left hd
  unfold rowMax
  rw [recip_eq]
  generalize (univ.sup fun d => max (h d) (-(h d))) = y at l g
  induction y with
  | bot => exact absurd g (by simp)
  | top => exact absurd l (not_le.mpr (EReal.coe_lt_top _))
  | coe y =>
    have l' : y ≤ (255 : ℝ) * 2 ^ 120 := EReal.coe_le_coe_iff.mp l
    have g' : (0 : ℝ) ≤ y := EReal.coe_le_coe_iff.mp g
    refine ⟨y * (9586981 * (2 : ℝ) ^ (-32 : ℤ)), by positivity, ?_, (EReal.coe_mul _ _).symm⟩
    have : y * (9586981 * (2 : ℝ) ^ (-32 : ℤ)) ≤ (255 : ℝ) * 2 ^ 120 * (9586981 * (2 : ℝ) ^ (-32 : ℤ)) :=
      mul_le_mul_of_nonneg_right l' (by positivity)
    refine this.trans_lt ?_
    norm_num

/-- Clipping to the codes' range. -/
def clip (x : EReal) : EReal := min (Ideal.ofBits .f32 0x43E00000#32) (max (Ideal.ofBits .f32 0xC3E00000#32) x)

/-- For a row of finite hidden states both scales are one power of two, and both ways of scaling down give the same codes. -/
theorem row {D : ℕ} (d0 : Fin D) (h : Fin D → EReal) (hb : ∀ d, max (h d) (-(h d)) ≤ (((255 : ℝ) * 2 ^ 120 : ℝ) : EReal)) :
    ∃ s : ℝ, 0 < s ∧ scale (rowMax h) = (s : EReal) ∧ scaleRef (rowMax h) = (s : EReal)
      ∧ ∀ x : EReal, x * inv (rowMax h) = Ideal.div x (s : EReal) := by
  obtain ⟨x, h0, hx, e⟩ := rowMax_real d0 h hb
  obtain ⟨i, e1, e2, e3⟩ := scales x h0 hx
  have hp : (0 : ℝ) < (2 : ℝ) ^ i := zpow_pos (by norm_num) i
  rw [e]
  refine ⟨_, hp, e1, e3, fun y => ?_⟩
  rw [e2, Ideal.div_coe hp.ne', zpow_neg, one_div]

end Cert.Quant
-- ==== Proof.KernelIdeal.FirstAt.lean ====
module

public import proofs.«01_k».proof.Proof.KernelIdeal.First
public import proofs.«01_k».proof.Proof.Math.Quant
public import Idealize.ShloMosaic.Lib.Pointwise

@[expose] public section

set_option maxRecDepth 16384

noncomputable section

namespace Cert.KernelIdeal.Hand

open Idealize.ShloMosaic Idealize.ShloMosaic.TcCoe
open Cert.KernelIdeal.Gen Cert.Quant

/-! What the first point's quantiser computes, over the extended reals and at an index. -/

theorem halfLog2e_named : (Named.named (F := Ideal) (φ := .f32) κ "half_log2e" 0x3F38AA3B#32 : EReal) = ((Real.log 2)⁻¹ * (1 / 2) : ℝ) :=
  IdealRules.named_const.ideal_named_scalar _ _ _ _ rfl

/-- The exponent of a token's teacher scale. -/
theorem expoT_apply (v : Vec Ideal S256x2048 .bf16) (n : Fin 256) : k0_pay14 v (ix2 n 0) = Quant.expo (rowMax fun d => v (ix2 n d)) := by
  pointwise [k0_pay13, k0_pay14]
  rw [ofBits_ninf, fold_max_bot]; rfl

/-- The biased exponent of a token's student maximum. -/
theorem quantS_apply (v : Vec Ideal S256x896 .bf16) (n : Fin 256) : k0_pay22 v (ix2 n 0) = quantK (rowMax fun d => v (ix2 n d)) := by
  pointwise [k0_pay21, k0_pay22]
  rw [ofBits_ninf, fold_max_bot]; rfl

theorem scaleT_apply (v : Vec Ideal S256x2048 .bf16) (n : Fin 256) : k0_pay15 v (ix2 n 0) = scale (rowMax fun d => v (ix2 n d)) := by
  pointwise [k0_pay15]
  rw [expoT_apply]; rfl

theorem codesT_apply (v : Vec Ideal S256x2048 .bf16) (n : Fin 256) (d : Fin 2048) :
    k0_pay16 v (ix2 n d) = clip (v (ix2 n d) * Quant.inv (rowMax fun d => v (ix2 n d))) := by
  pointwise [k0_pay16, k0_pay13]
  rw [expoT_apply]; rfl

theorem codesS_apply (v : Vec Ideal S256x896 .bf16) (n : Fin 256) (d : Fin 896) :
    k0_pay25 (k0_pay21 v) (k0_pay22 v) k0_pay23 (ix2 n d) = clip (v (ix2 n d) * Quant.inv (rowMax fun d => v (ix2 n d))) := by
  pointwise [k0_pay25, k0_pay24, k0_pay23, k0_pay21]
  rw [quantS_apply]; rfl

theorem rowScaleT_apply (v : FVec Ideal S256x1 .f32) (n : Fin 256) : k0_pay17 v (ix2 0 n) = v (ix2 n 0) := by
  pointwise [k0_pay17]

theorem rowScaleS_apply (v : Vec Ideal S256x896 .bf16) (n : Fin 256) :
    k0_pay26 (F := Ideal) (k0_pay22 v) k0_pay23 (ix2 0 n) = scale (rowMax fun d => v (ix2 n d)) := by
  pointwise [k0_pay26, k0_pay24, k0_pay23]
  rw [quantS_apply]; rfl

theorem tokT_apply (v : FVec Ideal S256x1 .f32) (a : Fin 8) (n : Fin 256) : k0_pay20 v (ix3 0 a n) = (v (ix2 n 0) : EReal) * ((Real.log 2)⁻¹ * (1 / 2) : ℝ) := by
  pointwise [k0_pay20]
  rw [halfLog2e_named, rowScaleT_apply]

theorem tokS_apply (v : Vec Ideal S256x896 .bf16) (a : Fin 8) (n : Fin 256) :
    k0_pay29 (F := Ideal) (k0_pay22 v) k0_pay23 (ix3 0 a n) = scale (rowMax fun d => v (ix2 n d)) * ((Real.log 2)⁻¹ * (1 / 2) : ℝ) := by
  pointwise [k0_pay29]
  rw [halfLog2e_named, rowScaleS_apply]

end Cert.KernelIdeal.Hand
-- ==== Proof.KernelIdeal.BlocksAt.lean ====
module

public import proofs.«01_k».proof.Proof.KernelIdeal.ChunkAt

@[expose] public section

set_option maxRecDepth 16384

noncomputable section

namespace Cert.KernelIdeal.Hand

open Idealize.ShloMosaic Idealize.ShloMosaic.TcCoe Finset
open Cert.KernelIdeal.Gen Cert.Stream

/-! A chunk's groups read at a row: the product of a vocabulary row with a column's codes, times the row's scale. -/

/-- The teacher's four groups of a chunk hold the values `U` if the loaded rows, codes and scales do. -/
theorem tGroups_reads (U : ℕ → EReal) (a : Fin 8) (n : Fin 256) (G : ℕ) (w : Vec Ideal S512x2048 .fp8e4m3) (codes : Vec Ideal S256x2048 .fp8e4m3)
    (r : Vec Ideal S16x128 .f32) (c : ℕ) (h : c + 3 < 16)
    (hU : ∀ (i : Fin 4) (k : Fin 16), (∑ d : Fin 2048, (w (ix2 ⟨128 * i.val + (row8 k a).val, by omega⟩ d) : EReal) * codes (ix2 n d))
      * (r (ix2 ⟨c + i.val, by omega⟩ (row8 k a)) : EReal) = U (16 * (G + i.val) + k.val)) :
    Reads U a n G (tGroups w codes r c h) := by
  refine ⟨fun k => ?_, fun k => ?_, fun k => ?_, fun k => ?_, trivial⟩
  · rw [scaled_apply _ _ _ _ (by omega)]
    refine Eq.trans ?_ (hU 0 k)
    pointwise [k0_pay3, row8]
  · rw [scaled_apply _ _ _ _ (by omega)]
    refine Eq.trans ?_ (hU 1 k)
    pointwise [k0_pay3, row8]
  · rw [scaled_apply _ _ _ _ (by omega)]
    refine Eq.trans ?_ (hU 2 k)
    pointwise [k0_pay3, row8]
  · rw [scaled_apply _ _ _ _ (by omega)]
    refine Eq.trans ?_ (hU 3 k)
    pointwise [k0_pay3, row8]

/-- The student's four groups of a chunk hold the values `U` if the loaded rows, codes and scales do. -/
theorem sGroups_reads (U : ℕ → EReal) (a : Fin 8) (n : Fin 256) (G : ℕ) (w : Vec Ideal S512x896 .fp8e4m3) (codes : Vec Ideal S256x896 .fp8e4m3)
    (r : Vec Ideal S16x128 .f32) (c : ℕ) (h : c + 3 < 16)
    (hU : ∀ (i : Fin 4) (k : Fin 16), (∑ d : Fin 896, (w (ix2 ⟨128 * i.val + (row8 k a).val, by omega⟩ d) : EReal) * codes (ix2 n d))
      * (r (ix2 ⟨c + i.val, by omega⟩ (row8 k a)) : EReal) = U (16 * (G + i.val) + k.val)) :
    Reads U a n G (sGroups w codes r c h) := by
  refine ⟨fun k => ?_, fun k => ?_, fun k => ?_, fun k => ?_, trivial⟩
  · rw [scaled_apply _ _ _ _ (by omega)]
    refine Eq.trans ?_ (hU 0 k)
    pointwise [k0_pay4, row8]
  · rw [scaled_apply _ _ _ _ (by omega)]
    refine Eq.trans ?_ (hU 1 k)
    pointwise [k0_pay4, row8]
  · rw [scaled_apply _ _ _ _ (by omega)]
    refine Eq.trans ?_ (hU 2 k)
    pointwise [k0_pay4, row8]
  · rw [scaled_apply _ _ _ _ (by omega)]
    refine Eq.trans ?_ (hU 3 k)
    pointwise [k0_pay4, row8]

/-- The teacher's three groups of the last chunk hold the values `U` if the loaded rows, codes and scales do. -/
theorem tGroups3_reads (U : ℕ → EReal) (a : Fin 8) (n : Fin 256) (G : ℕ) (w : Vec Ideal S384x2048 .fp8e4m3) (codes : Vec Ideal S256x2048 .fp8e4m3)
    (r : Vec Ideal S16x128 .f32)
    (hU : ∀ (i : Fin 3) (k : Fin 16), (∑ d : Fin 2048, (w (ix2 ⟨128 * i.val + (row8 k a).val, by omega⟩ d) : EReal) * codes (ix2 n d))
      * (r (ix2 ⟨i.val, by omega⟩ (row8 k a)) : EReal) = U (16 * (G + i.val) + k.val)) :
    Reads U a n G (tGroups3 w codes r) := by
  refine ⟨fun k => ?_, fun k => ?_, fun k => ?_, trivial⟩
  · rw [scaled_apply _ _ _ _ (by omega)]
    refine Eq.trans ?_ (hU 0 k)
    pointwise [k0_pay3, row8]
  · rw [scaled_apply _ _ _ _ (by omega)]
    refine Eq.trans ?_ (hU 1 k)
    pointwise [k0_pay3, row8]
  · rw [scaled_apply _ _ _ _ (by omega)]
    refine Eq.trans ?_ (hU 2 k)
    pointwise [k0_pay3, row8]

/-- The student's three groups of the last chunk hold the values `U` if the loaded rows, codes and scales do. -/
theorem sGroups3_reads (U : ℕ → EReal) (a : Fin 8) (n : Fin 256) (G : ℕ) (w : Vec Ideal S384x896 .fp8e4m3) (codes : Vec Ideal S256x896 .fp8e4m3)
    (r : Vec Ideal S16x128 .f32)
    (hU : ∀ (i : Fin 3) (k : Fin 16), (∑ d : Fin 896, (w (ix2 ⟨128 * i.val + (row8 k a).val, by omega⟩ d) : EReal) * codes (ix2 n d))
      * (r (ix2 ⟨i.val, by omega⟩ (row8 k a)) : EReal) = U (16 * (G + i.val) + k.val)) :
    Reads U a n G (sGroups3 w codes r) := by
  refine ⟨fun k => ?_, fun k => ?_, fun k => ?_, trivial⟩
  · rw [scaled_apply _ _ _ _ (by omega)]
    refine Eq.trans ?_ (hU 0 k)
    pointwise [k0_pay4, row8]
  · rw [scaled_apply _ _ _ _ (by omega)]
    refine Eq.trans ?_ (hU 1 k)
    pointwise [k0_pay4, row8]
  · rw [scaled_apply _ _ _ _ (by omega)]
    refine Eq.trans ?_ (hU 2 k)
    pointwise [k0_pay4, row8]

end Cert.KernelIdeal.Hand
-- ==== Proof.Math.Final.lean ====
module

public import proofs.«01_k».proof.Proof.Math.Stream

@[expose] public section

noncomputable section

namespace Cert.Stream

open Idealize.ShloMosaic Finset

/-! The streamed sums, powers of two relative to a maximum that starts at a finite base, against the softmax sums taken
    relative to the exact maximum: logarithm of the sum of exponentials, and the divergence. -/

/-- The sum of exponentials of `U` relative to `m`. -/
def S1 {ι : Type} (S : Finset ι) (U : ι → EReal) (m : EReal) (τ : ℝ) : EReal := ∑ v ∈ S, E (ex (U v) m τ)

/-- The weighted sum of the differences of the scaled distances. -/
def D1 {ι : Type} (S : Finset ι) (U W : ι → EReal) (m m' : EReal) (τ σ : ℝ) : EReal :=
  ∑ v ∈ S, E (ex (U v) m τ) * (ex (U v) m τ - ex (W v) m' σ)

variable {ι : Type} (S : Finset ι) (U W : ι → EReal)

theorem S1_top {τ : ℝ} (hτ : 0 < τ) : S1 S U ⊤ τ = 0 := by
  unfold S1; refine sum_eq_zero fun v _ => ?_; rw [ex_top hτ, E_bot]

theorem D1_top {τ σ : ℝ} (hτ : 0 < τ) (m' : EReal) : D1 S U W ⊤ m' τ σ = 0 := by
  unfold D1; refine sum_eq_zero fun v _ => ?_; rw [ex_top hτ, E_bot, zero_mul]

theorem S1_bot {τ : ℝ} (hτ : 0 < τ) (h : S.sup U = ⊥) (m : EReal) : S1 S U m τ = 0 := by
  unfold S1; refine sum_eq_zero fun v hv => ?_
  have hb : U v = ⊥ := le_bot_iff.mp (h ▸ le_sup (f := U) hv)
  rw [hb, ex_bot hτ, E_bot]

theorem D1_bot {τ σ : ℝ} (hτ : 0 < τ) (h : S.sup U = ⊥) (m m' : EReal) : D1 S U W m m' τ σ = 0 := by
  unfold D1; refine sum_eq_zero fun v hv => ?_
  have hb : U v = ⊥ := le_bot_iff.mp (h ▸ le_sup (f := U) hv)
  rw [hb, ex_bot hτ, E_bot, zero_mul]

/-- Relative to an attained finite maximum the sum is a positive real. -/
theorem S1_real (hS : S.Nonempty) {τ : ℝ} (hτ : 0 < τ) {μ : ℝ} (h : S.sup U = (μ : EReal)) : ∃ s : ℝ, 0 < s ∧ S1 S U (μ : EReal) τ = (s : EReal) := by
  obtain ⟨v, hv, e⟩ := exists_mem_eq_sup S hS U
  have hle : ∀ w ∈ S, U w ≤ (μ : EReal) := fun w hw => h ▸ le_sup hw
  have h1 : (1 : EReal) ≤ S1 S U (μ : EReal) τ := by
    have : E (ex (U v) (μ : EReal) τ) = 1 := by
      rw [← e, h, ex_coe, E_coe]; simp
    rw [← this]
    exact single_le_sum (f := fun w => E (ex (U w) (μ : EReal) τ)) (fun w _ => E_nonneg _) hv
  have hne : S1 S U (μ : EReal) τ ≠ ⊤ := by
    unfold S1
    have key : ∀ T ⊆ S, (∑ w ∈ T, E (ex (U w) (μ : EReal) τ)) ≠ ⊤ := by
      classical
      intro T
      induction T using Finset.induction_on with
      | empty => intro _; simp
      | insert a s ha ih =>
        intro hs
        rw [sum_insert ha]
        exact EReal.add_ne_top (E_ne_top_of_ne_top (ex_ne_top hτ (hle a (hs (mem_insert_self _ _))) (EReal.coe_ne_bot _)))
          (ih fun x hx => hs (mem_insert_of_mem hx))
    exact key S subset_rfl
  generalize S1 S U (μ : EReal) τ = x at h1 hne
  induction x with
  | bot => exact absurd h1 (not_le.mpr (EReal.bot_lt_coe 1))
  | top => exact absurd rfl hne
  | coe s => exact ⟨s, by have : (1:ℝ) ≤ s := by exact_mod_cast h1
                          linarith, rfl⟩

theorem sup_mul {c : ℝ} (hc : 0 < c) : S.sup U * (c : EReal) = S.sup fun v => U v * (c : EReal) := by
  have hm : Monotone fun x : EReal => x * (c : EReal) := fun x y h => mul_le_mul_of_nonneg_right h (by exact_mod_cast hc.le)
  exact Finset.comp_sup_eq_sup_comp_of_is_total (fun x : EReal => x * (c : EReal)) hm (bot_mul_pos hc)

theorem sub_mul_real (x y : EReal) {c : ℝ} (hc : 0 < c) : (x - y) * (c : EReal) = x * c - y * c := by
  rw [sub_eq_add_neg, EReal.right_distrib_of_nonneg_of_ne_top (by exact_mod_cast hc.le) (EReal.coe_ne_top _), EReal.neg_mul, ← sub_eq_add_neg]

theorem exp_ln2 (x : EReal) : Ideal.exp (x * (Real.log 2 : ℝ)) = E x := by
  have h2 : 0 < Real.log 2 := Real.log_pos (by norm_num)
  induction x with
  | bot => rw [bot_mul_pos h2]; rfl
  | top => rw [top_mul_pos h2]; rfl
  | coe r =>
    rw [← EReal.coe_mul, Ideal.exp_coe, E_coe, Real.rpow_def_of_pos (by norm_num), mul_comm]

/-- A logit's distance to the exact maximum, in the natural scale. -/
theorem shifted {τ c : ℝ} (hc : 0 < c) (e : τ * Real.log 2 = c) (u m : EReal) : u * (c : EReal) - m * (c : EReal) = ex u m τ * (Real.log 2 : ℝ) := by
  rw [← sub_mul_real _ _ hc, ← e, EReal.coe_mul, ← mul_assoc]; rfl

theorem log_mul_E (r : ℝ) (s : ℝ) (hs : 0 < s) : Ideal.log (E (r : EReal) * (s : EReal)) = ((r * Real.log 2 + Real.log s : ℝ) : EReal) := by
  have hp : (0 : ℝ) < (2 : ℝ) ^ r := Real.rpow_pos_of_pos (by norm_num) r
  rw [E_coe, ← EReal.coe_mul, Ideal.log_coe, if_neg (not_le.mpr (mul_pos hp hs)), Real.log_mul hp.ne' hs.ne', Real.log_rpow (by norm_num)]

theorem log_pos_real (s : ℝ) (hs : 0 < s) : Ideal.log (s : EReal) = (Real.log s : ℝ) := by
  rw [Ideal.log_coe, if_neg (not_le.mpr hs)]

theorem log_zero : Ideal.log 0 = ⊥ := by
  rw [show (0 : EReal) = ((0 : ℝ) : EReal) from rfl, Ideal.log_coe]; simp

theorem S1_move {τ : ℝ} (hτ : 0 < τ) {μ : ℝ} (h : S.sup U = (μ : EReal)) (M : EReal) (hM : (μ : EReal) ≤ M) :
    S1 S U M τ = E (ex (μ : EReal) M τ) * S1 S U (μ : EReal) τ :=
  (sum_rescale S U hτ (fun v hv => h ▸ le_sup hv) (EReal.coe_ne_bot _) hM).symm

/-- The streamed logarithm is the softmax's. -/
theorem lse_eq (hS : S.Nonempty) {τ c : ℝ} (hτ : 0 < τ) (hc : 0 < c) (e : τ * Real.log 2 = c) (B lv : ℝ) :
    ((B : EReal) ⊔ S.sup U) * (τ : EReal) * (Real.log 2 : ℝ) + Ideal.log (S1 S U ((B : EReal) ⊔ S.sup U) τ) - (lv : EReal)
      = (S.sup fun v => U v * (c : EReal)) + Ideal.log (∑ v ∈ S, Ideal.exp (U v * (c : EReal) - S.sup fun v => U v * (c : EReal))) - (lv : EReal) := by
  have er : (∑ v ∈ S, Ideal.exp (U v * (c : EReal) - S.sup fun v => U v * (c : EReal))) = S1 S U (S.sup U) τ := by
    unfold S1; refine sum_congr rfl fun v _ => ?_; rw [← sup_mul S U hc, shifted hc e, exp_ln2]
  rw [er, ← sup_mul S U hc]
  rw [mul_assoc, ← EReal.coe_mul, e]
  generalize hμ : S.sup U = μ
  induction μ with
  | bot => rw [S1_bot S U hτ hμ, S1_bot S U hτ hμ, log_zero, EReal.add_bot, EReal.add_bot]
  | top => rw [sup_top_eq]
  | coe μ =>
    obtain ⟨s, hs, es⟩ := S1_real S U hS hτ hμ
    have hm : (B : EReal) ⊔ (μ : EReal) = ((B ⊔ μ : ℝ) : EReal) := (EReal.coe_strictMono.monotone.map_sup B μ).symm
    rw [hm, S1_move S U hτ hμ ((B ⊔ μ : ℝ) : EReal) (by exact_mod_cast le_sup_right), es, ex_coe, log_mul_E _ _ hs, log_pos_real _ hs]
    norm_cast
    rw [← e]; ring

theorem div_zero_zero : Ideal.div 0 0 = ⊥ := by simp [Ideal.div]

theorem div_pos_real (x : EReal) (s : ℝ) (hs : 0 < s) : Ideal.div x (s : EReal) = x * ((1 / s : ℝ) : EReal) := Ideal.div_coe hs.ne' x

theorem D1_move {τ σ : ℝ} (hτ : 0 < τ) (hσ : 0 < σ) {μ ν : ℝ} (h : S.sup U = (μ : EReal)) (h' : S.sup W = (ν : EReal)) (M N : EReal)
    (hM : (μ : EReal) ≤ M) (hN : (ν : EReal) ≤ N) :
    D1 S U W M N τ σ = E (ex (μ : EReal) M τ) * (D1 S U W (μ : EReal) (ν : EReal) τ σ + S1 S U (μ : EReal) τ * (ex (μ : EReal) M τ - ex (ν : EReal) N σ)) :=
  (diff_rescale S U W hτ hσ (fun v hv => h ▸ le_sup hv) (EReal.coe_ne_bot _) hM (fun v hv => h' ▸ le_sup hv) (EReal.coe_ne_bot _) hN).symm

/-- The streamed divergence is the softmax's. -/
theorem kl_eq (hS : S.Nonempty) {τ c σ d : ℝ} (hτ : 0 < τ) (hc : 0 < c) (e : τ * Real.log 2 = c) (hσ : 0 < σ) (hd : 0 < d) (e' : σ * Real.log 2 = d) (B : ℝ) :
    (Real.log 2 : ℝ) * Ideal.div (D1 S U W ((B : EReal) ⊔ S.sup U) ((B : EReal) ⊔ S.sup W) τ σ) (S1 S U ((B : EReal) ⊔ S.sup U) τ)
        - Ideal.log (S1 S U ((B : EReal) ⊔ S.sup U) τ) + Ideal.log (S1 S W ((B : EReal) ⊔ S.sup W) σ)
      = Ideal.div (∑ v ∈ S, Ideal.exp (U v * (c : EReal) - S.sup fun v => U v * (c : EReal))
            * ((U v * (c : EReal) - S.sup fun v => U v * (c : EReal)) - (W v * (d : EReal) - S.sup fun v => W v * (d : EReal))))
          (∑ v ∈ S, Ideal.exp (U v * (c : EReal) - S.sup fun v => U v * (c : EReal)))
        - Ideal.log (∑ v ∈ S, Ideal.exp (U v * (c : EReal) - S.sup fun v => U v * (c : EReal)))
        + Ideal.log (∑ v ∈ S, Ideal.exp (W v * (d : EReal) - S.sup fun v => W v * (d : EReal))) := by
  have h2 : 0 < Real.log 2 := Real.log_pos (by norm_num)
  have er : (∑ v ∈ S, Ideal.exp (U v * (c : EReal) - S.sup fun v => U v * (c : EReal))) = S1 S U (S.sup U) τ := by
    unfold S1; refine sum_congr rfl fun v _ => ?_; rw [← sup_mul S U hc, shifted hc e, exp_ln2]
  have er' : (∑ v ∈ S, Ideal.exp (W v * (d : EReal) - S.sup fun v => W v * (d : EReal))) = S1 S W (S.sup W) σ := by
    unfold S1; refine sum_congr rfl fun v _ => ?_; rw [← sup_mul S W hd, shifted hd e', exp_ln2]
  have ed : (∑ v ∈ S, Ideal.exp (U v * (c : EReal) - S.sup fun v => U v * (c : EReal))
            * ((U v * (c : EReal) - S.sup fun v => U v * (c : EReal)) - (W v * (d : EReal) - S.sup fun v => W v * (d : EReal))))
      = (Real.log 2 : ℝ) * D1 S U W (S.sup U) (S.sup W) τ σ := by
    unfold D1; rw [mul_sum_fin S _ (by exact_mod_cast h2.le) (EReal.coe_ne_top _)]
    refine sum_congr rfl fun v _ => ?_
    rw [← sup_mul S U hc, ← sup_mul S W hd, shifted hc e, shifted hd e', exp_ln2, ← sub_mul_real _ _ h2]; ac_rfl
  rw [er, er', ed]
  generalize hμ : S.sup U = μ
  generalize hν : S.sup W = ν
  have hb : ∀ x : EReal, x + ⊥ = ⊥ := fun x => EReal.add_bot x
  have h0 : ((Real.log 2 : ℝ) : EReal) * ⊥ = ⊥ := EReal.coe_mul_bot_of_pos h2
  have hbs : ∀ x : EReal, (⊥ : EReal) - x = ⊥ := fun x => by rw [sub_eq_add_neg, EReal.bot_add]
  induction μ with
  | bot =>
    rw [S1_bot S U hτ hμ, S1_bot S U hτ hμ, D1_bot S U W hτ hμ, D1_bot S U W hτ hμ, mul_zero, div_zero_zero, h0, hbs, EReal.bot_add, EReal.bot_add]
  | top =>
    rw [sup_top_eq, S1_top S U hτ, D1_top S U W hτ, D1_top S U W hτ, mul_zero, div_zero_zero, h0, hbs, EReal.bot_add, EReal.bot_add]
  | coe μ =>
    induction ν with
    | bot => rw [S1_bot S W hσ hν, S1_bot S W hσ hν, log_zero, hb, hb]
    | top => rw [sup_top_eq, S1_top S W hσ, log_zero, hb, hb]
    | coe ν =>
      obtain ⟨s, hs, es⟩ := S1_real S U hS hτ hμ
      obtain ⟨s', hs', es'⟩ := S1_real S W hS hσ hν
      have hm : (B : EReal) ⊔ (μ : EReal) = ((B ⊔ μ : ℝ) : EReal) := (EReal.coe_strictMono.monotone.map_sup B μ).symm
      have hm' : (B : EReal) ⊔ (ν : EReal) = ((B ⊔ ν : ℝ) : EReal) := (EReal.coe_strictMono.monotone.map_sup B ν).symm
      have l1 : (μ : EReal) ≤ ((B ⊔ μ : ℝ) : EReal) := by exact_mod_cast le_sup_right
      have l2 : (ν : EReal) ≤ ((B ⊔ ν : ℝ) : EReal) := by exact_mod_cast le_sup_right
      rw [hm, hm', D1_move S U W hτ hσ hμ hν _ _ l1 l2, S1_move S U hτ hμ _ l1, S1_move S W hσ hν _ l2, es, es', ex_coe, ex_coe, log_mul_E _ _ hs, log_mul_E _ _ hs',
        log_pos_real _ hs, log_pos_real _ hs']
      generalize D1 S U W (μ : EReal) (ν : EReal) τ σ = D
      generalize B ⊔ μ = M
      generalize B ⊔ ν = N
      have hp : (0 : ℝ) < (2 : ℝ) ^ ((μ - M) * τ) := Real.rpow_pos_of_pos (by norm_num) _
      rw [E_coe, ← EReal.coe_mul, div_pos_real _ _ (mul_pos hp hs), div_pos_real _ _ hs, ← EReal.coe_sub, ← EReal.coe_mul]
      generalize (2 : ℝ) ^ ((μ - M) * τ) = F at hp
      have hi : 0 < 1 / (F * s) := one_div_pos.mpr (mul_pos hp hs)
      have hi' : 0 < 1 / s := one_div_pos.mpr hs
      induction D with
      | bot =>
        rw [EReal.bot_add, EReal.coe_mul_bot_of_pos hp, bot_mul_pos hi, h0, bot_mul_pos hi', hbs, hbs, EReal.bot_add, EReal.bot_add]
      | top =>
        have ht : ((Real.log 2 : ℝ) : EReal) * ⊤ = ⊤ := EReal.coe_mul_top_of_pos h2
        rw [EReal.top_add_coe, EReal.coe_mul_top_of_pos hp, top_mul_pos hi, ht, top_mul_pos hi', EReal.top_sub_coe, EReal.top_add_coe, EReal.top_sub_coe, EReal.top_add_coe]
      | coe D =>
        norm_cast
        field_simp
        ring

end Cert.Stream
-- ==== Proof.Math.Target.lean ====
module

public import proofs.«01_k».proof.Proof.Math.Quant

@[expose] public section

noncomputable section

namespace Cert.Target

open Idealize.ShloMosaic Finset Quant

/-! The problem's mathematics over the extended reals, one token at a time: the code row of a row of hidden states, the
    logits against the vocabulary, the logarithm of the softmax's sum, and the divergence of two softmaxes. -/

/-- The codes of a row of hidden states. -/
def code {D : ℕ} (h : Fin D → EReal) (d : Fin D) : EReal := clip (Ideal.div (h d) (scaleRef (rowMax h)))

/-- The logits of a row against the vocabulary's codes `w` and scales `r`, at temperature two. -/
def logits {D : ℕ} (h : Fin D → EReal) (w : Fin 151936 → Fin D → EReal) (r : Fin 151936 → EReal) (v : Fin 151936) : EReal :=
  Ideal.div ((∑ d, code h d * w v d) * scaleRef (rowMax h) * r v) (Ideal.ofBits .f32 0x40000000#32)

/-- The logarithm of the softmax's sum, less the vocabulary's logarithm, of logits `z`. -/
def lse (z : Fin 151936 → EReal) : EReal :=
  univ.sup z + Ideal.log (∑ v, Ideal.exp (z v - univ.sup z)) - ((Real.log 151936 : ℝ) : EReal)

/-- The divergence of the softmax of `z` from that of `y`. -/
def kl (z y : Fin 151936 → EReal) : EReal :=
  Ideal.div (∑ v, Ideal.exp (z v - univ.sup z) * ((z v - univ.sup z) - (y v - univ.sup y))) (∑ v, Ideal.exp (z v - univ.sup z))
    - Ideal.log (∑ v, Ideal.exp (z v - univ.sup z)) + Ideal.log (∑ v, Ideal.exp (y v - univ.sup y))

/-- The rows' products against the vocabulary, scaled down to logits: with the token's scale taken out of the sum. -/
theorem logits_eq {D : ℕ} (h : Fin D → EReal) (w : Fin 151936 → Fin D → EReal) (r : Fin 151936 → EReal) (v : Fin 151936) {s : ℝ}
    (hs : scaleRef (rowMax h) = (s : EReal)) : logits h w r v = ((∑ d, w v d * code h d) * r v) * ((s / 2 : ℝ) : EReal) := by
  unfold logits
  have e2 : Ideal.ofBits .f32 0x40000000#32 = ((2 : ℝ) : EReal) := by
    simp [Ideal.ofBits, Ideal.ieee, -EReal.coe_mul]; norm_num
  rw [hs, e2, Ideal.div_coe (by norm_num), show s / 2 = s * (1 / 2) from by ring, EReal.coe_mul, sum_congr rfl fun d _ => mul_comm (code h d) (w v d)]
  ac_rfl

end Cert.Target
-- ==== Proof.KernelIdeal.Total.lean ====
module

public import proofs.«01_k».proof.Proof.KernelIdeal.Rows
public import proofs.«01_k».proof.Proof.Math.Final
public import proofs.«01_k».proof.Proof.Math.Target

@[expose] public section

noncomputable section

namespace Cert.KernelIdeal.Hand

open Idealize.ShloMosaic Finset Stream

/-! The eight sublanes together: when each sublane's statistics stand for its share of the vocabulary rows, the three final
    formulas are the softmax formulas over the whole vocabulary. -/

theorem sum_sublanes (f : ℕ → EReal) (Q : ℕ) : ∑ a : Fin 8, ∑ q ∈ range Q, f (8 * q + a.val) = ∑ v ∈ range (8 * Q), f v := by
  induction Q with
  | zero => simp
  | succ Q ih =>
    simp only [sum_range_succ, sum_add_distrib, ih]
    rw [show 8 * (Q + 1) = 8 * Q + 8 from by omega, sum_range_add]
    congr 1

theorem sup_sublanes (f : ℕ → EReal) (Q : ℕ) : (univ.sup fun a : Fin 8 => (range Q).sup fun q => f (8 * q + a.val)) = (range (8 * Q)).sup f := by
  apply le_antisymm
  · refine Finset.sup_le fun a _ => Finset.sup_le fun q hq => ?_
    exact le_sup (f := f) (by simp only [mem_range] at hq ⊢; have := a.isLt; omega)
  · refine Finset.sup_le fun v hv => ?_
    have hq : v / 8 ∈ range Q := by simp only [mem_range] at hv ⊢; omega
    have e : f v = f (8 * (v / 8) + (⟨v % 8, Nat.mod_lt _ (by norm_num)⟩ : Fin 8).val) := by
      congr 1; simp only; omega
    rw [e]
    exact (le_sup (f := fun q => f (8 * q + (⟨v % 8, Nat.mod_lt _ (by norm_num)⟩ : Fin 8).val)) hq).trans
      (le_sup (f := fun a : Fin 8 => (range Q).sup fun q => f (8 * q + a.val)) (mem_univ _))

theorem sup_range_fin (N : ℕ) (f : ℕ → EReal) : (range N).sup f = univ.sup fun i : Fin N => f i.val := by
  apply le_antisymm
  · exact Finset.sup_le fun v hv => le_sup (f := fun i : Fin N => f i.val) (mem_univ (⟨v, mem_range.mp hv⟩ : Fin N))
  · exact Finset.sup_le fun i _ => le_sup (f := f) (mem_range.mpr i.isLt)

theorem sup_base (B : EReal) (g : Fin 8 → EReal) : (univ.sup fun a => B ⊔ g a) = B ⊔ univ.sup g := by
  apply le_antisymm
  · exact Finset.sup_le fun a _ => sup_le_sup_left (le_sup (mem_univ a)) _
  · refine sup_le (le_sup_left.trans (le_sup (f := fun a => B ⊔ g a) (mem_univ (0 : Fin 8)))) (Finset.sup_le fun a _ => ?_)
    exact le_sup_right.trans (le_sup (f := fun a => B ⊔ g a) (mem_univ a))

variable {B : ℝ} {U W : ℕ → EReal} {τ σ : ℝ} {n : Fin 256} {s : St Ideal}

/-- Every sublane holds the statistics of its own vocabulary rows `8 q + a`. -/
def HoldsAll (B : ℝ) (U W : ℕ → EReal) (τ σ : ℝ) (n : Fin 256) (G : ℕ) (s : St Ideal) : Prop :=
  ∀ a : Fin 8, Holds B (fun q => U (8 * q + a.val)) (fun q => W (8 * q + a.val)) τ σ a n G s

section
variable (h : HoldsAll B U W τ σ n 1187 s)
include h

theorem max_t : (univ.sup fun a => s.mt (ix2 a n)) = (B : EReal) ⊔ (range 151936).sup U := by
  simp only [fun a => (h a).mt]; rw [sup_base, sup_sublanes U (16 * 1187)]
theorem max_s : (univ.sup fun a => s.ms (ix2 a n)) = (B : EReal) ⊔ (range 151936).sup W := by
  simp only [fun a => (h a).ms]; rw [sup_base, sup_sublanes W (16 * 1187)]

theorem le_max_t (a : Fin 8) : s.mt (ix2 a n) ≤ (B : EReal) ⊔ (range 151936).sup U := max_t h ▸ le_sup (f := fun a => s.mt (ix2 a n)) (mem_univ a)
theorem le_max_s (a : Fin 8) : s.ms (ix2 a n) ≤ (B : EReal) ⊔ (range 151936).sup W := max_s h ▸ le_sup (f := fun a => s.ms (ix2 a n)) (mem_univ a)

theorem sum_t (hτ : 0 < τ) : ∑ a, E ((s.mt (ix2 a n) - univ.sup fun a => s.mt (ix2 a n)) * (τ : EReal)) * s.st (ix2 a n)
    = S1 (range 151936) U ((B : EReal) ⊔ (range 151936).sup U) τ := by
  rw [max_t h]; unfold S1; rw [← sum_sublanes _ (16 * 1187)]
  refine sum_congr rfl fun a _ => ?_
  have l := le_max_t h a
  rw [(h a).mt] at l ⊢; rw [(h a).st]
  exact sum_rescale _ (fun q => U (8 * q + a.val)) hτ (fun q hq => (le_sup (f := fun q => U (8 * q + a.val)) hq).trans le_sup_right) (base_ne_bot B _) l

theorem sum_s (hσ : 0 < σ) : ∑ a, E ((s.ms (ix2 a n) - univ.sup fun a => s.ms (ix2 a n)) * (σ : EReal)) * s.ss (ix2 a n)
    = S1 (range 151936) W ((B : EReal) ⊔ (range 151936).sup W) σ := by
  rw [max_s h]; unfold S1; rw [← sum_sublanes _ (16 * 1187)]
  refine sum_congr rfl fun a _ => ?_
  have l := le_max_s h a
  rw [(h a).ms] at l ⊢; rw [(h a).ss]
  exact sum_rescale _ (fun q => W (8 * q + a.val)) hσ (fun q hq => (le_sup (f := fun q => W (8 * q + a.val)) hq).trans le_sup_right) (base_ne_bot B _) l

theorem sum_d (hτ : 0 < τ) (hσ : 0 < σ) : ∑ a, E ((s.mt (ix2 a n) - univ.sup fun a => s.mt (ix2 a n)) * (τ : EReal))
      * (s.dd (ix2 a n) + s.st (ix2 a n) * ((s.mt (ix2 a n) - univ.sup fun a => s.mt (ix2 a n)) * (τ : EReal) - (s.ms (ix2 a n) - univ.sup fun a => s.ms (ix2 a n)) * (σ : EReal)))
    = D1 (range 151936) U W ((B : EReal) ⊔ (range 151936).sup U) ((B : EReal) ⊔ (range 151936).sup W) τ σ := by
  rw [max_t h, max_s h]; unfold D1; rw [← sum_sublanes _ (16 * 1187)]
  refine sum_congr rfl fun a _ => ?_
  have l := le_max_t h a
  have l' := le_max_s h a
  rw [(h a).mt] at l ⊢; rw [(h a).ms] at l' ⊢; rw [(h a).dd, (h a).st]
  exact diff_rescale _ (fun q => U (8 * q + a.val)) (fun q => W (8 * q + a.val)) hτ hσ
    (fun q hq => (le_sup (f := fun q => U (8 * q + a.val)) hq).trans le_sup_right) (base_ne_bot B _) l
    (fun q hq => (le_sup (f := fun q => W (8 * q + a.val)) hq).trans le_sup_right) (base_ne_bot B _) l'

end

theorem lseT_total (h : HoldsAll B U W τ σ n 1187 s) (hτ : 0 < τ) {c : ℝ} (hc : 0 < c) (e : τ * Real.log 2 = c) :
    lseOf (fun a => s.mt (ix2 a n)) (fun a => s.st (ix2 a n)) (fun _ => (τ : EReal)) (τ : EReal) = Target.lse fun v => U v.val * (c : EReal) := by
  unfold lseOf Target.lse
  rw [sum_t h hτ, max_t h, lse_eq _ U ⟨0, by simp⟩ hτ hc e, sup_range_fin, sum_range]

theorem lseS_total (h : HoldsAll B U W τ σ n 1187 s) (hσ : 0 < σ) {d : ℝ} (hd : 0 < d) (e : σ * Real.log 2 = d) :
    lseOf (fun a => s.ms (ix2 a n)) (fun a => s.ss (ix2 a n)) (fun _ => (σ : EReal)) (σ : EReal) = Target.lse fun v => W v.val * (d : EReal) := by
  unfold lseOf Target.lse
  rw [sum_s h hσ, max_s h, lse_eq _ W ⟨0, by simp⟩ hσ hd e, sup_range_fin, sum_range]

theorem kl_total (h : HoldsAll B U W τ σ n 1187 s) (hτ : 0 < τ) {c : ℝ} (hc : 0 < c) (e : τ * Real.log 2 = c) (hσ : 0 < σ) {d : ℝ} (hd : 0 < d) (e' : σ * Real.log 2 = d) :
    klOf (fun a => s.mt (ix2 a n)) (fun a => s.ms (ix2 a n)) (fun a => s.st (ix2 a n)) (fun a => s.ss (ix2 a n)) (fun a => s.dd (ix2 a n)) (fun _ => (τ : EReal)) (fun _ => (σ : EReal))
      = Target.kl (fun v => U v.val * (c : EReal)) (fun v => W v.val * (d : EReal)) := by
  unfold klOf Target.kl
  rw [sum_t h hτ, sum_s h hσ, sum_d h hτ hσ, kl_eq _ U W ⟨0, by simp⟩ hτ hc e hσ hd e', sup_range_fin, sup_range_fin, sum_range, sum_range, sum_range]

end Cert.KernelIdeal.Hand
-- ==== Proof.KernelIdeal.FoldAt.lean ====
module

public import proofs.«01_k».proof.Proof.KernelIdeal.BlocksAt
public import proofs.«01_k».proof.Proof.KernelIdeal.Fold
public import proofs.«01_k».proof.Proof.KernelIdeal.Total
public import Idealize.ShloMosaic.Lib.Pipeline.ValueKit.Tiles

@[expose] public section

set_option maxRecDepth 16384

noncomputable section

namespace Cert.KernelIdeal.Hand

open Idealize.ShloMosaic Idealize.ShloMosaic.TcCoe Finset
open Cert.KernelIdeal.Gen Cert.Stream

/-! A whole block folded in extends what the statistics hold by the block's sixteen groups, and the last block's by three. -/

theorem ldRows_apply {N M K : ℕ} {e : EltTy} (X : Vec Ideal ⟨2, ![N, K]⟩ e) (o : ℕ) (inb) (r : Fin M) (d : Fin K) (h : o + r.val < N) :
    View.ld X (Rect.unit (s := ⟨2, ![N, K]⟩) ![o, 0] ![M, K] inb) (ix2 r d) = X (ix2 ⟨o + r.val, h⟩ d) :=
  View.ld_unit_apply_of X _ _ inb _ _ fun a => by
    match a with
    | ⟨0, _⟩ => rfl
    | ⟨1, _⟩ => simp

section
variable {B : ℝ} {U W : ℕ → EReal} {τ σ : ℝ} {n : Fin 256} {s : St Ideal} {tokT tokS : FVec Ideal S8x256 .f32}

/-- One chunk of 512 rows. -/
theorem HoldsAll.blockChunk {G : ℕ} (h : HoldsAll B U W τ σ n G s) (hτ : 0 < τ) (hσ : 0 < σ)
    (ht : ∀ a, tokT (ix2 a n) = (τ : EReal)) (hs : ∀ a, tokS (ix2 a n) = (σ : EReal))
    (wt : Vec Ideal S512x2048 .fp8e4m3) (ws : Vec Ideal S512x896 .fp8e4m3) (ct : Vec Ideal S256x2048 .fp8e4m3) (cs : Vec Ideal S256x896 .fp8e4m3)
    (rt rs : Vec Ideal S16x128 .f32) (c : ℕ) (hc : c + 3 < 16)
    (hU : ∀ (i : Fin 4) (r : Fin 128), (∑ d : Fin 2048, (wt (ix2 ⟨128 * i.val + r.val, by omega⟩ d) : EReal) * ct (ix2 n d))
      * (rt (ix2 ⟨c + i.val, by omega⟩ r) : EReal) = U (128 * (G + i.val) + r.val))
    (hW : ∀ (i : Fin 4) (r : Fin 128), (∑ d : Fin 896, (ws (ix2 ⟨128 * i.val + r.val, by omega⟩ d) : EReal) * cs (ix2 n d))
      * (rs (ix2 ⟨c + i.val, by omega⟩ r) : EReal) = W (128 * (G + i.val) + r.val)) :
    HoldsAll B U W τ σ n (G + 4) (Hand.blockChunk wt ws ct cs rt rs tokT tokS c hc s) := fun a =>
  (h a).chunk hτ hσ (ht a) (hs a) rfl rfl
    (tGroups_reads _ a n G wt ct rt c hc fun i k => (hU i (row8 k a)).trans (congrArg U (by simp only [row8]; omega)))
    (sGroups_reads _ a n G ws cs rs c hc fun i k => (hW i (row8 k a)).trans (congrArg W (by simp only [row8]; omega)))

variable {x2 : Vec Ideal S2048x2048 .fp8e4m3} {x3 : Vec Ideal S2048x896 .fp8e4m3} {ct : Vec Ideal S256x2048 .fp8e4m3} {cs : Vec Ideal S256x896 .fp8e4m3}
  {x4 x5 : Vec Ideal S16x128 .f32}

/-- A whole block. -/
theorem HoldsAll.fold4 {t : ℕ} (h : HoldsAll B U W τ σ n (16 * t) s) (hτ : 0 < τ) (hσ : 0 < σ)
    (ht : ∀ a, tokT (ix2 a n) = (τ : EReal)) (hs : ∀ a, tokS (ix2 a n) = (σ : EReal))
    (hU : ∀ (i : Fin 16) (r : Fin 128), (∑ d : Fin 2048, (x2 (ix2 ⟨128 * i.val + r.val, by omega⟩ d) : EReal) * ct (ix2 n d))
      * (x4 (ix2 i r) : EReal) = U (2048 * t + (128 * i.val + r.val)))
    (hW : ∀ (i : Fin 16) (r : Fin 128), (∑ d : Fin 896, (x3 (ix2 ⟨128 * i.val + r.val, by omega⟩ d) : EReal) * cs (ix2 n d))
      * (x5 (ix2 i r) : EReal) = W (2048 * t + (128 * i.val + r.val))) :
    HoldsAll B U W τ σ n (16 * (t + 1)) (Hand.fold4 x2 x3 ct cs x4 x5 tokT tokS s) := by
  have key : ∀ (j : ℕ) (hj : j < 4) (inb) (inb') (s : St Ideal), HoldsAll B U W τ σ n (16 * t + 4 * j) s →
      HoldsAll B U W τ σ n (16 * t + 4 * j + 4) (Hand.blockChunk (View.ld x2 (Rect.unit (s := S2048x2048) ![512 * j, 0] S512x2048.size inb))
        (View.ld x3 (Rect.unit (s := S2048x896) ![512 * j, 0] S512x896.size inb')) ct cs x4 x5 tokT tokS (4 * j) (by omega) s) := by
    intro j hj inb inb' s hs'
    refine hs'.blockChunk hτ hσ ht hs _ _ _ _ _ _ _ _ (fun i r => ?_) (fun i r => ?_)
    · have e := hU ⟨4 * j + i.val, by omega⟩ r
      rw [show 2048 * t + (128 * (4 * j + i.val) + r.val) = 128 * (16 * t + 4 * j + i.val) + r.val by omega] at e
      rw [← e]; congr 1
      refine Finset.sum_congr rfl fun d _ => ?_
      rw [show (View.ld x2 (Rect.unit (s := S2048x2048) ![512 * j, 0] S512x2048.size inb)) (ix2 ⟨128 * i.val + r.val, by omega⟩ d) = x2 (ix2 ⟨512 * j + (128 * i.val + r.val), by omega⟩ d)
        from ldRows_apply (N := 2048) (M := 512) (K := 2048) x2 _ inb _ d (by simp only; omega)]
      congr 3; apply Fin.ext; simp only; omega
    · have e := hW ⟨4 * j + i.val, by omega⟩ r
      rw [show 2048 * t + (128 * (4 * j + i.val) + r.val) = 128 * (16 * t + 4 * j + i.val) + r.val by omega] at e
      rw [← e]; congr 1
      refine Finset.sum_congr rfl fun d _ => ?_
      rw [show (View.ld x3 (Rect.unit (s := S2048x896) ![512 * j, 0] S512x896.size inb')) (ix2 ⟨128 * i.val + r.val, by omega⟩ d) = x3 (ix2 ⟨512 * j + (128 * i.val + r.val), by omega⟩ d)
        from ldRows_apply (N := 2048) (M := 512) (K := 896) x3 _ inb' _ d (by simp only; omega)]
      congr 3; apply Fin.ext; simp only; omega
  exact key 3 (by omega) inb_S2048x2048_S512x2048_1536_0 inb_S2048x896_S512x896_1536_0 _ (key 2 (by omega) inb_S2048x2048_S512x2048_1024_0 inb_S2048x896_S512x896_1024_0 _
    (key 1 (by omega) inb_S2048x2048_S512x2048_512_0 inb_S2048x896_S512x896_512_0 _ (key 0 (by omega) inb_S2048x2048_S512x2048_0_0 inb_S2048x896_S512x896_0_0 s h)))

/-- The last block, of 384 rows. -/
theorem HoldsAll.fold3 {t : ℕ} (h : HoldsAll B U W τ σ n (16 * t) s) (hτ : 0 < τ) (hσ : 0 < σ)
    (ht : ∀ a, tokT (ix2 a n) = (τ : EReal)) (hs : ∀ a, tokS (ix2 a n) = (σ : EReal))
    (hU : ∀ (i : Fin 3) (r : Fin 128), (∑ d : Fin 2048, (x2 (ix2 ⟨128 * i.val + r.val, by omega⟩ d) : EReal) * ct (ix2 n d))
      * (x4 (ix2 ⟨i.val, by omega⟩ r) : EReal) = U (2048 * t + (128 * i.val + r.val)))
    (hW : ∀ (i : Fin 3) (r : Fin 128), (∑ d : Fin 896, (x3 (ix2 ⟨128 * i.val + r.val, by omega⟩ d) : EReal) * cs (ix2 n d))
      * (x5 (ix2 ⟨i.val, by omega⟩ r) : EReal) = W (2048 * t + (128 * i.val + r.val))) :
    HoldsAll B U W τ σ n (16 * t + 3) (Hand.fold3 x2 x3 ct cs x4 x5 tokT tokS s) := fun a => by
  refine (h a).chunk hτ hσ (ht a) (hs a) rfl rfl
    (tGroups3_reads _ a n _ _ ct x4 fun i k => Eq.trans ?_ ((hU i (row8 k a)).trans (congrArg U ?_)))
    (sGroups3_reads _ a n _ _ cs x5 fun i k => Eq.trans ?_ ((hW i (row8 k a)).trans (congrArg W ?_)))
  · congr 1
    refine Finset.sum_congr rfl fun d _ => ?_
    rw [show (View.ld x2 (Rect.unit (s := S2048x2048) ![0, 0] S384x2048.size inb_S2048x2048_S384x2048_0_0)) (ix2 ⟨128 * i.val + (row8 k a).val, by omega⟩ d) = x2 (ix2 ⟨0 + (128 * i.val + (row8 k a).val), by omega⟩ d)
      from ldRows_apply (N := 2048) (M := 384) (K := 2048) x2 _ _ _ d (by simp only; omega)]
    congr 3; apply Fin.ext; simp only; omega
  · simp only [row8]; omega
  · congr 1
    refine Finset.sum_congr rfl fun d _ => ?_
    rw [show (View.ld x3 (Rect.unit (s := S2048x896) ![0, 0] S384x896.size inb_S2048x896_S384x896_0_0)) (ix2 ⟨128 * i.val + (row8 k a).val, by omega⟩ d) = x3 (ix2 ⟨0 + (128 * i.val + (row8 k a).val), by omega⟩ d)
      from ldRows_apply (N := 2048) (M := 384) (K := 896) x3 _ _ _ d (by simp only; omega)]
    congr 3; apply Fin.ext; simp only; omega
  · simp only [row8]; omega

end

end Cert.KernelIdeal.Hand
-- ==== Proof.KernelIdeal.Planes.lean ====
module

public import proofs.«01_k».proof.Proof.KernelIdeal.First
public import proofs.«01_k».proof.Proof.KernelIdeal.FoldAt
public import Idealize.ShloMosaic.Lib.Pointwise

@[expose] public section

set_option maxRecDepth 16384

noncomputable section

namespace Cert.KernelIdeal.Hand

open Idealize.ShloMosaic Idealize.ShloMosaic.TcCoe Finset
open Cert.KernelIdeal.Gen Cert.Stream

/-! The planes of the two scratch buffers that the first point fills, read back. -/

theorem tokL_apply0 (x y : FVec Ideal S1x8x256 .f32) (a : Fin 8) (n : Fin 256) : View.canon (tokL x y) (ix3 0 a n) = x (ix3 0 a n) := by
  refine View.canon_eq_of_allAt _ _ _ (View.cover_of_tiled_head _ _ _ rfl _) ?_
  refine View.allAt_cons_unit _ _ _ _ _ ?_ (View.allAt_cons_unit _ _ _ _ _ ?_ (View.allAt_nil _ _)) <;> intro z hz
  · have h0 : (0 : ℕ) = 1 + (z 0).val := hz 0
    omega
  · idx_vars z
    have h1 : a.val = 0 + z1.val := hz 1
    have h2 : n.val = 0 + z2.val := hz 2
    congr 1
    funext i; apply Fin.ext
    match i with
    | ⟨0, _⟩ => exact Fin.val_eq_zero _
    | ⟨1, _⟩ => simpa using h1.symm
    | ⟨2, _⟩ => simpa using h2.symm

theorem tokL_apply1 (x y : FVec Ideal S1x8x256 .f32) (a : Fin 8) (n : Fin 256) : View.canon (tokL x y) (ix3 1 a n) = y (ix3 0 a n) := by
  refine View.canon_eq_of_allAt _ _ _ (View.cover_of_tiled_head _ _ _ rfl _) ?_
  refine View.allAt_cons_unit _ _ _ _ _ ?_ (View.allAt_cons_unit _ _ _ _ _ ?_ (View.allAt_nil _ _)) <;> intro z hz
  · idx_vars z
    have h1 : a.val = 0 + z1.val := hz 1
    have h2 : n.val = 0 + z2.val := hz 2
    congr 1
    funext i; apply Fin.ext
    match i with
    | ⟨0, _⟩ => exact Fin.val_eq_zero _
    | ⟨1, _⟩ => simpa using h1.symm
    | ⟨2, _⟩ => simpa using h2.symm
  · have h0 : (1 : ℕ) = 0 + (z 0).val := hz 0
    have : (z 0).val < 1 := (z 0).isLt
    omega

/-- A plane of a buffer of planes, read at a sublane and a column. -/
theorem plane_ld {N : ℕ} (X : Vec Ideal ⟨3, ![N, 8, 256]⟩ .f32) (p : ℕ) (hp : p < N) (inb) (a : Fin 8) (n : Fin 256) :
    plane (View.ld X (Rect.unit (s := ⟨3, ![N, 8, 256]⟩) ![p, 0, 0] S1x8x256.size inb)) (ix2 a n) = X (ix3 ⟨p, hp⟩ a n) := by
  pointwise [plane]
  congr 1; funext i; apply Fin.ext
  match i with
  | ⟨0, _⟩ => simp [Shape.Idx.norm_def]
  | ⟨1, _⟩ => simp [Shape.Idx.norm_def]
  | ⟨2, _⟩ => simp [Shape.Idx.norm_def]

theorem tok0_apply (X : Vec Ideal S2x8x256 .f32) (a : Fin 8) (n : Fin 256) : tok0 X (ix2 a n) = X (ix3 0 a n) := plane_ld X 0 (by omega) _ a n
theorem tok1_apply (X : Vec Ideal S2x8x256 .f32) (a : Fin 8) (n : Fin 256) : tok1 X (ix2 a n) = X (ix3 1 a n) := plane_ld X 1 (by omega) _ a n

/-- The value the running maxima start from. -/
def B0 : ℝ := -1000000015047466219876688855040

theorem B0_bits : Ideal.ofBits .f32 0xF149F2CA#32 = (B0 : EReal) := by
  unfold B0; simp [Ideal.ofBits, Ideal.ieee]; exact_mod_cast (by norm_num : (13234890 : ℝ) * 2 ^ 76 = 1000000015047466219876688855040)

/-- The pieces written first: two planes of the starting maximum, three of zeros. -/
theorem init_pieces : runA.sl.H13_2 (F := Ideal) = [⟨Rect.unit (s := S5x8x256) ![2, 0, 0] ![3, 8, 256] inb_S5x8x256_S3x8x256_2_0_0, k0_pay2 (F := Ideal)⟩,
    ⟨Rect.unit (s := S5x8x256) ![0, 0, 0] ![2, 8, 256] inb_S5x8x256_S2x8x256_0_0_0, k0_pay1 (F := Ideal)⟩] := rfl

theorem init_max (p : Fin 5) (hp : p.val < 2) (a : Fin 8) (n : Fin 256) : View.canon (runA.sl.H13_2 (F := Ideal)) (ix3 p a n) = (B0 : EReal) := by
  rw [init_pieces]
  refine View.canon_eq_of_allAt _ _ _ ⟨⟨Rect.unit (s := S5x8x256) ![0, 0, 0] ![2, 8, 256] inb_S5x8x256_S2x8x256_0_0_0, k0_pay1 (F := Ideal)⟩, List.mem_cons_of_mem _ List.mem_cons_self, (Rect.mem_set_unit (inb := inb_S5x8x256_S2x8x256_0_0_0)).mpr fun i => ?_⟩ ?_
  · match i with
    | ⟨0, _⟩ => exact ⟨Nat.zero_le _, by simpa using hp⟩
    | ⟨1, _⟩ => exact ⟨Nat.zero_le _, by simp⟩
    | ⟨2, _⟩ => exact ⟨Nat.zero_le _, by simp⟩
  refine View.allAt_cons_unit _ _ _ _ _ ?_ (View.allAt_cons_unit _ _ _ _ _ ?_ (View.allAt_nil _ _)) <;> intro z hz
  · have h0 : p.val = 2 + (z 0).val := hz 0
    omega
  · rw [← B0_bits]; idx_vars z; pointwise [k0_pay1]

theorem init_zero (p : Fin 5) (hp : 2 ≤ p.val) (a : Fin 8) (n : Fin 256) : View.canon (runA.sl.H13_2 (F := Ideal)) (ix3 p a n) = (0 : EReal) := by
  rw [init_pieces]
  refine View.canon_eq_of_allAt _ _ _ ⟨⟨Rect.unit (s := S5x8x256) ![2, 0, 0] ![3, 8, 256] inb_S5x8x256_S3x8x256_2_0_0, k0_pay2 (F := Ideal)⟩, List.mem_cons_self, (Rect.mem_set_unit (inb := inb_S5x8x256_S3x8x256_2_0_0)).mpr fun i => ?_⟩ ?_
  · match i with
    | ⟨0, _⟩ => exact ⟨by simpa using hp, by have := p.isLt; simpa using this⟩
    | ⟨1, _⟩ => exact ⟨Nat.zero_le _, by simp⟩
    | ⟨2, _⟩ => exact ⟨Nat.zero_le _, by simp⟩
  refine View.allAt_cons_unit _ _ _ _ _ ?_ (View.allAt_cons_unit _ _ _ _ _ ?_ (View.allAt_nil _ _)) <;> intro z hz
  · idx_vars z; pointwise [k0_pay2]
  · have h0 : p.val = 0 + (z 0).val := hz 0
    have : (z 0).val < 2 := (z 0).isLt
    omega

/-- The statistics that the first point starts from hold nothing yet. -/
theorem HoldsAll.init (U W : ℕ → EReal) (τ σ : ℝ) (n : Fin 256) : HoldsAll B0 U W τ σ n 0 (stOf (View.canon (runA.sl.H13_2 (F := Ideal)))) := fun a => by
  refine ⟨?_, ?_, ?_, ?_, ?_⟩
  · show plane (View.ld (View.canon (runA.sl.H13_2 (F := Ideal))) (Rect.unit (s := ⟨3, ![5, 8, 256]⟩) ![0, 0, 0] S1x8x256.size inb_S5x8x256_S1x8x256_0_0_0)) (ix2 a n) = _
    rw [plane_ld (N := 5) _ 0 (by omega), init_max _ (by simp)]; simp
  · show plane (View.ld (View.canon (runA.sl.H13_2 (F := Ideal))) (Rect.unit (s := ⟨3, ![5, 8, 256]⟩) ![1, 0, 0] S1x8x256.size inb_S5x8x256_S1x8x256_1_0_0)) (ix2 a n) = _
    rw [plane_ld (N := 5) _ 1 (by omega), init_max _ (by simp)]; simp
  · show plane (View.ld (View.canon (runA.sl.H13_2 (F := Ideal))) (Rect.unit (s := ⟨3, ![5, 8, 256]⟩) ![2, 0, 0] S1x8x256.size inb_S5x8x256_S1x8x256_2_0_0)) (ix2 a n) = _
    rw [plane_ld (N := 5) _ 2 (by omega), init_zero _ (by simp)]; simp
  · show plane (View.ld (View.canon (runA.sl.H13_2 (F := Ideal))) (Rect.unit (s := ⟨3, ![5, 8, 256]⟩) ![3, 0, 0] S1x8x256.size inb_S5x8x256_S1x8x256_3_0_0)) (ix2 a n) = _
    rw [plane_ld (N := 5) _ 3 (by omega), init_zero _ (by simp)]; simp
  · show plane (View.ld (View.canon (runA.sl.H13_2 (F := Ideal))) (Rect.unit (s := ⟨3, ![5, 8, 256]⟩) ![4, 0, 0] S1x8x256.size inb_S5x8x256_S1x8x256_4_0_0)) (ix2 a n) = _
    rw [plane_ld (N := 5) _ 4 (by omega), init_zero _ (by simp)]; simp

end Cert.KernelIdeal.Hand
-- ==== Proof.KernelIdeal.Values.lean ====
module

public import proofs.«01_k».proof.Proof.KernelIdeal.Inputs
public import proofs.«01_k».proof.Proof.KernelIdeal.FirstAt
public import proofs.«01_k».proof.Proof.KernelIdeal.Planes
public import proofs.«01_k».proof.Proof.KernelIdeal.Total
public import proofs.«01_k».proof.Proof.KernelIdeal.Rows

@[expose] public section

noncomputable section

namespace Cert.KernelIdeal.Hand

open Idealize.ShloMosaic Idealize.ShloMosaic.TcCoe Finset
open Cert.KernelIdeal.Gen

/-! What the kernel's runs leave, in terms of the problem's mathematics of the arguments. -/

/-- The token of batch entry `b` and position `i`. -/
def token (b : Fin 2) (i : Fin 128) : Fin 256 := ⟨b.val * 128 + i.val, by omega⟩

section
variable (m : (l : Loc nD τ sig) → Vec Ideal l.ty.shape l.ty.elt) (c : Dev nD)

/-- A token's row of the teacher's hidden states; the student's. -/
def hT (n : Fin 256) (d : Fin 2048) : EReal := m ((c : Thread nD τ).loc main_arg0) (ix3 ⟨n.val / 128, by omega⟩ ⟨n.val % 128, by omega⟩ d)
def hS (n : Fin 256) (d : Fin 896) : EReal := m ((c : Thread nD τ).loc main_arg1) (ix3 ⟨n.val / 128, by omega⟩ ⟨n.val % 128, by omega⟩ d)
/-- The vocabulary's codes and scales, the teacher's and the student's. -/
def wT (v : Fin 151936) (d : Fin 2048) : EReal := m ((c : Thread nD τ).loc main_arg2) (ix2 v d)
def rT (v : Fin 151936) : EReal := m ((c : Thread nD τ).loc main_arg3) (ix1 v)
def wS (v : Fin 151936) (d : Fin 896) : EReal := m ((c : Thread nD τ).loc main_arg4) (ix2 v d)
def rS (v : Fin 151936) : EReal := m ((c : Thread nD τ).loc main_arg5) (ix1 v)
/-- A token's logits. -/
def zT (n : Fin 256) : Fin 151936 → EReal := Target.logits (hT m c n) (wT m c) (rT m c)
def zS (n : Fin 256) : Fin 151936 → EReal := Target.logits (hS m c n) (wS m c) (rS m c)

/-- The hidden states are bounded by the largest finite value of their element type. -/
structure Bounded : Prop where
  t : ∀ n d, max (hT m c n d) (-(hT m c n d)) ≤ (((255 : ℝ) * 2 ^ 120 : ℝ) : EReal)
  s : ∀ n d, max (hS m c n d) (-(hS m c n d)) ≤ (((255 : ℝ) * 2 ^ 120 : ℝ) : EReal)

/-- A token's scale as a real. -/
def sT (n : Fin 256) : ℝ := (Quant.scaleRef (Quant.rowMax (hT m c n))).toReal
def sS (n : Fin 256) : ℝ := (Quant.scaleRef (Quant.rowMax (hS m c n))).toReal
/-- A token's factor from products to powers of two. -/
def fT (n : Fin 256) : ℝ := sT m c n * ((Real.log 2)⁻¹ * (1 / 2))
def fS (n : Fin 256) : ℝ := sS m c n * ((Real.log 2)⁻¹ * (1 / 2))

/-- The products of the token's codes with the vocabulary's rows, times the rows' scales. -/
def U (n : Fin 256) (v : ℕ) : EReal := if h : v < 151936 then (∑ d, wT m c ⟨v, h⟩ d * Target.code (hT m c n) d) * rT m c ⟨v, h⟩ else 0
def W (n : Fin 256) (v : ℕ) : EReal := if h : v < 151936 then (∑ d, wS m c ⟨v, h⟩ d * Target.code (hS m c n) d) * rS m c ⟨v, h⟩ else 0

variable {m c}

theorem Bounded.rowT (hb : Bounded m c) (n : Fin 256) : 0 < sT m c n ∧ Quant.scale (Quant.rowMax (hT m c n)) = (sT m c n : EReal) ∧ Quant.scaleRef (Quant.rowMax (hT m c n)) = (sT m c n : EReal)
    ∧ ∀ x : EReal, x * Quant.inv (Quant.rowMax (hT m c n)) = Ideal.div x (sT m c n : EReal) := by
  obtain ⟨s, h0, h1, h2, h3⟩ := Quant.row ⟨0, by omega⟩ (hT m c n) (hb.t n)
  have e : sT m c n = s := by unfold sT; rw [h2]; rfl
  rw [e]; exact ⟨h0, h1, h2, h3⟩

theorem Bounded.rowS (hb : Bounded m c) (n : Fin 256) : 0 < sS m c n ∧ Quant.scale (Quant.rowMax (hS m c n)) = (sS m c n : EReal) ∧ Quant.scaleRef (Quant.rowMax (hS m c n)) = (sS m c n : EReal)
    ∧ ∀ x : EReal, x * Quant.inv (Quant.rowMax (hS m c n)) = Ideal.div x (sS m c n : EReal) := by
  obtain ⟨s, h0, h1, h2, h3⟩ := Quant.row ⟨0, by omega⟩ (hS m c n) (hb.s n)
  have e : sS m c n = s := by unfold sS; rw [h2]; rfl
  rw [e]; exact ⟨h0, h1, h2, h3⟩

theorem log2_pos : (0 : ℝ) < Real.log 2 := Real.log_pos (by norm_num)

theorem Bounded.fT_pos (hb : Bounded m c) (n : Fin 256) : 0 < fT m c n := mul_pos (hb.rowT n).1 (mul_pos (inv_pos.mpr log2_pos) (by norm_num))
theorem Bounded.fS_pos (hb : Bounded m c) (n : Fin 256) : 0 < fS m c n := mul_pos (hb.rowS n).1 (mul_pos (inv_pos.mpr log2_pos) (by norm_num))
theorem fT_log (n : Fin 256) : fT m c n * Real.log 2 = sT m c n / 2 := by
  have := log2_pos.ne'; unfold fT; field_simp
theorem fS_log (n : Fin 256) : fS m c n * Real.log 2 = sS m c n / 2 := by
  have := log2_pos.ne'; unfold fS; field_simp

theorem Bounded.zT_eq (hb : Bounded m c) (n : Fin 256) : (fun v : Fin 151936 => U m c n v.val * ((sT m c n / 2 : ℝ) : EReal)) = zT m c n := by
  funext v
  unfold zT U
  rw [dif_pos v.isLt, Target.logits_eq _ _ _ v (hb.rowT n).2.2.1]
theorem Bounded.zS_eq (hb : Bounded m c) (n : Fin 256) : (fun v : Fin 151936 => W m c n v.val * ((sS m c n / 2 : ℝ) : EReal)) = zS m c n := by
  funext v
  unfold zS W
  rw [dif_pos v.isLt, Target.logits_eq _ _ _ v (hb.rowS n).2.2.1]

/-- A row of a vocabulary block against the token's codes. -/
theorem stepU (t : Fin cfg0.N) (d2 : Vec Ideal S2048x2048 .fp8e4m3) (d4 : Vec Ideal S16x128 .f32) (ct : Vec Ideal S256x2048 .fp8e4m3) (n : Fin 256)
    (hct : ∀ d, ct (ix2 n d) = Target.code (hT m c n) d) (i : Fin 16) (r : Fin 128) (h : 16 * t.val + i.val < 1187) :
    (∑ d : Fin 2048, (xf2 m c t d2 (ix2 ⟨128 * i.val + r.val, by omega⟩ d) : EReal) * ct (ix2 n d)) * (xf4 m c t d4 (ix2 i r) : EReal)
      = U m c n (2048 * t.val + (128 * i.val + r.val)) := by
  have hv : 2048 * t.val + (128 * i.val + r.val) < 151936 := by omega
  unfold U
  rw [dif_pos hv, in4 m c t d4 i r h]
  congr 1
  · refine Finset.sum_congr rfl fun d _ => ?_
    rw [in2 m c t d2 ⟨128 * i.val + r.val, by omega⟩ d hv, hct]; rfl
  · unfold rT; congr 2; apply Fin.ext; show 128 * (16 * t.val + i.val) + r.val = 2048 * t.val + (128 * i.val + r.val); omega

theorem stepW (t : Fin cfg0.N) (d3 : Vec Ideal S2048x896 .fp8e4m3) (d5 : Vec Ideal S16x128 .f32) (cs : Vec Ideal S256x896 .fp8e4m3) (n : Fin 256)
    (hcs : ∀ d, cs (ix2 n d) = Target.code (hS m c n) d) (i : Fin 16) (r : Fin 128) (h : 16 * t.val + i.val < 1187) :
    (∑ d : Fin 896, (xf3 m c t d3 (ix2 ⟨128 * i.val + r.val, by omega⟩ d) : EReal) * cs (ix2 n d)) * (xf5 m c t d5 (ix2 i r) : EReal)
      = W m c n (2048 * t.val + (128 * i.val + r.val)) := by
  have hv : 2048 * t.val + (128 * i.val + r.val) < 151936 := by omega
  unfold W
  rw [dif_pos hv, in5 m c t d5 i r h]
  congr 1
  · refine Finset.sum_congr rfl fun d _ => ?_
    rw [in3 m c t d3 ⟨128 * i.val + r.val, by omega⟩ d hv, hcs]; rfl
  · unfold rS; congr 2; apply Fin.ext; show 128 * (16 * t.val + i.val) + r.val = 2048 * t.val + (128 * i.val + r.val); omega

variable (m c)

/-- What the statistics and the token factors hold before point `k` (no claim after the last). -/
def Inv (k : ℕ) (xs0 : Vec Ideal S5x8x256 .f32) (xs1 : Vec Ideal S2x8x256 .f32) : Prop :=
  k = 75 ∨ ∀ n : Fin 256, HoldsAll B0 (U m c n) (W m c n) (fT m c n) (fS m c n) n (16 * k) (stOf xs0)
    ∧ ∀ a : Fin 8, tok0 xs1 (ix2 a n) = (fT m c n : EReal) ∧ tok1 xs1 (ix2 a n) = (fS m c n : EReal)

/-- The results: the divergences, the log-sum-exps, the codes and the scales. -/
def R6 (X : Vec Ideal S2x128 .f32) : Prop := ∀ b i, X (ix2 b i) = Target.kl (zT m c (token b i)) (zS m c (token b i))
def R7 (X : Vec Ideal S2x128 .f32) : Prop := ∀ b i, X (ix2 b i) = Target.lse (zT m c (token b i))
def R8 (X : Vec Ideal S2x128 .f32) : Prop := ∀ b i, X (ix2 b i) = Target.lse (zS m c (token b i))
def R9 (X : Vec Ideal S256x2048 .fp8e4m3) : Prop := ∀ n d, X (ix2 n d) = Target.code (hT m c n) d
def R10 (X : Vec Ideal S2x128 .f32) : Prop := ∀ b i, X (ix2 b i) = Quant.scaleRef (Quant.rowMax (hT m c (token b i)))
def R11 (X : Vec Ideal S256x896 .fp8e4m3) : Prop := ∀ n d, X (ix2 n d) = Target.code (hS m c n) d
def R12 (X : Vec Ideal S2x128 .f32) : Prop := ∀ b i, X (ix2 b i) = Quant.scaleRef (Quant.rowMax (hS m c (token b i)))

theorem row0 (t : Fin cfg0.N) (n : Fin 256) : (fun d => iblk m c 0 t (ix2 n d)) = hT m c n := funext fun d => in0 m c t n d
theorem row1 (t : Fin cfg0.N) (n : Fin 256) : (fun d => iblk m c 1 t (ix2 n d)) = hS m c n := funext fun d => in1 m c t n d

variable {m c}

theorem Bounded.codesT (hb : Bounded m c) (t : Fin cfg0.N) : R9 m c (k0_pay16 (F := Ideal) (iblk m c 0 t)) := fun n d => by
  rw [codesT_apply (iblk m c 0 t) n d, row0, (hb.rowT n).2.2.2, Target.code, (hb.rowT n).2.2.1]
  exact congrArg (fun x => Quant.clip (Ideal.div x _)) (in0 m c t n d)

theorem Bounded.codesS (hb : Bounded m c) (t : Fin cfg0.N) : R11 m c (k0_pay25 (F := Ideal) (k0_pay21 (iblk m c 1 t)) (k0_pay22 (iblk m c 1 t)) k0_pay23) := fun n d => by
  rw [codesS_apply (iblk m c 1 t) n d, row1, (hb.rowS n).2.2.2, Target.code, (hb.rowS n).2.2.1]
  exact congrArg (fun x => Quant.clip (Ideal.div x _)) (in1 m c t n d)

theorem Bounded.scalesT (hb : Bounded m c) (t : Fin cfg0.N) : R10 m c (View.canon (rows2L (k0_pay17 (F := Ideal) (k0_pay15 (iblk m c 0 t))))) := fun b i => by
  rw [rows2_apply, rowScaleT_apply, scaleT_apply (iblk m c 0 t), row0]
  exact (hb.rowT (token b i)).2.1.trans (hb.rowT (token b i)).2.2.1.symm

theorem Bounded.scalesS (hb : Bounded m c) (t : Fin cfg0.N) : R12 m c (View.canon (rows2L (k0_pay26 (F := Ideal) (k0_pay22 (iblk m c 1 t)) k0_pay23))) := fun b i => by
  rw [rows2_apply, rowScaleS_apply (iblk m c 1 t), row1]
  exact (hb.rowS (token b i)).2.1.trans (hb.rowS (token b i)).2.2.1.symm

theorem Bounded.tokT (hb : Bounded m c) (t : Fin cfg0.N) (y : FVec Ideal S1x8x256 .f32) (a : Fin 8) (n : Fin 256) :
    tok0 (View.canon (tokL (k0_pay20 (k0_pay15 (iblk m c 0 t))) y)) (ix2 a n) = (fT m c n : EReal) := by
  rw [tok0_apply, tokL_apply0, tokT_apply, scaleT_apply (iblk m c 0 t), row0, (hb.rowT n).2.1]; exact (EReal.coe_mul _ _).symm

theorem Bounded.tokS (hb : Bounded m c) (t : Fin cfg0.N) (x : FVec Ideal S1x8x256 .f32) (a : Fin 8) (n : Fin 256) :
    tok1 (View.canon (tokL x (k0_pay29 (F := Ideal) (k0_pay22 (iblk m c 1 t)) k0_pay23))) (ix2 a n) = (fS m c n : EReal) := by
  rw [tok1_apply, tokL_apply1, tokS_apply (iblk m c 1 t), row1, (hb.rowS n).2.1]; exact (EReal.coe_mul _ _).symm

end

end Cert.KernelIdeal.Hand
-- ==== Proof.KernelIdeal.Instance.lean ====
module

public import proofs.«01_k».proof.Proof.KernelIdeal.Values

@[expose] public section

noncomputable section

namespace Cert.KernelIdeal.Hand

open Idealize.ShloMosaic Idealize.ShloMosaic.TcCoe Finset
open Cert.KernelIdeal.Gen

/-! The specification of the region at the ideal instance: the three runs of the body keep the invariant and leave the results. -/

section
variable {m : (l : Loc nD τ sig) → Vec Ideal l.ty.shape l.ty.elt} {c : Dev nD}

theorem plane_apply (v : Vec Ideal S1x8x256 .f32) (a : Fin 8) (n : Fin 256) : plane v (ix2 a n) = v (ix3 0 a n) := by
  pointwise [plane]

theorem first_ld (X : Vec Ideal S2x8x256 .f32) (p : ℕ) (hp : p < 2) (inb) (n : Fin 256) :
    (View.ld X (Rect.unit (s := S2x8x256) ![p, 0, 0] S1x1x256.size inb)) (ix3 0 0 n) = X (ix3 ⟨p, hp⟩ 0 n) := by
  refine View.ld_unit_apply_of X _ _ _ _ _ fun a => ?_
  match a with
  | ⟨0, _⟩ => rfl
  | ⟨1, _⟩ => rfl
  | ⟨2, _⟩ => show n.val = 0 + n.val; omega

theorem klRow_eq (X : Vec Ideal S5x8x256 .f32) (Y : Vec Ideal S2x8x256 .f32) (n : Fin 256) :
    klRow (View.ld X (Rect.unit (s := S5x8x256) ![0, 0, 0] S1x8x256.size inb_S5x8x256_S1x8x256_0_0_0)) (View.ld X (Rect.unit (s := S5x8x256) ![1, 0, 0] S1x8x256.size inb_S5x8x256_S1x8x256_1_0_0)) (View.ld X (Rect.unit (s := S5x8x256) ![2, 0, 0] S1x8x256.size inb_S5x8x256_S1x8x256_2_0_0)) (View.ld X (Rect.unit (s := S5x8x256) ![3, 0, 0] S1x8x256.size inb_S5x8x256_S1x8x256_3_0_0)) (View.ld X (Rect.unit (s := S5x8x256) ![4, 0, 0] S1x8x256.size inb_S5x8x256_S1x8x256_4_0_0)) (View.ld Y (Rect.unit (s := S2x8x256) ![0, 0, 0] S1x8x256.size inb_S2x8x256_S1x8x256_0_0_0)) (View.ld Y (Rect.unit (s := S2x8x256) ![1, 0, 0] S1x8x256.size inb_S2x8x256_S1x8x256_1_0_0)) (ix2 0 n)
      = klOf (fun a => (stOf X).mt (ix2 a n)) (fun a => (stOf X).ms (ix2 a n)) (fun a => (stOf X).st (ix2 a n)) (fun a => (stOf X).ss (ix2 a n)) (fun a => (stOf X).dd (ix2 a n))
        (fun a => tok0 Y (ix2 a n)) (fun a => tok1 Y (ix2 a n)) := by
  rw [klRow_apply]
  simp only [← plane_apply]
  rfl

theorem lseTRow_eq (X : Vec Ideal S5x8x256 .f32) (Y : Vec Ideal S2x8x256 .f32) (n : Fin 256) :
    lseTRow (View.ld X (Rect.unit (s := S5x8x256) ![0, 0, 0] S1x8x256.size inb_S5x8x256_S1x8x256_0_0_0)) (View.ld X (Rect.unit (s := S5x8x256) ![2, 0, 0] S1x8x256.size inb_S5x8x256_S1x8x256_2_0_0)) (View.ld Y (Rect.unit (s := S2x8x256) ![0, 0, 0] S1x8x256.size inb_S2x8x256_S1x8x256_0_0_0)) (View.ld Y (Rect.unit (s := S2x8x256) ![0, 0, 0] S1x1x256.size inb_S2x8x256_S1x1x256_0_0_0)) (ix2 0 n)
      = lseOf (fun a => (stOf X).mt (ix2 a n)) (fun a => (stOf X).st (ix2 a n)) (fun a => tok0 Y (ix2 a n)) (tok0 Y (ix2 0 n)) := by
  rw [lseTRow_apply, first_ld Y 0 (by omega), tok0_apply Y 0 n]
  simp only [← plane_apply]
  rfl

theorem lseSRow_eq (X : Vec Ideal S5x8x256 .f32) (Y : Vec Ideal S2x8x256 .f32) (n : Fin 256) :
    lseSRow (View.ld X (Rect.unit (s := S5x8x256) ![1, 0, 0] S1x8x256.size inb_S5x8x256_S1x8x256_1_0_0)) (View.ld X (Rect.unit (s := S5x8x256) ![3, 0, 0] S1x8x256.size inb_S5x8x256_S1x8x256_3_0_0)) (View.ld Y (Rect.unit (s := S2x8x256) ![1, 0, 0] S1x8x256.size inb_S2x8x256_S1x8x256_1_0_0)) (View.ld Y (Rect.unit (s := S2x8x256) ![1, 0, 0] S1x1x256.size inb_S2x8x256_S1x1x256_1_0_0)) (ix2 0 n)
      = lseOf (fun a => (stOf X).ms (ix2 a n)) (fun a => (stOf X).ss (ix2 a n)) (fun a => tok1 Y (ix2 a n)) (tok1 Y (ix2 0 n)) := by
  rw [lseSRow_apply, first_ld Y 1 (by omega), tok1_apply Y 0 n]
  simp only [← plane_apply]
  rfl

/-- One vocabulary block keeps the invariant. -/
theorem Bounded.step (hb : Bounded m c) (t : Fin cfg0.N) (h : t.val < 74) (d2 : Vec Ideal S2048x2048 .fp8e4m3) (d3 : Vec Ideal S2048x896 .fp8e4m3) (d4 : Vec Ideal S16x128 .f32) (d5 : Vec Ideal S16x128 .f32)
    (ct : Vec Ideal S256x2048 .fp8e4m3) (cs : Vec Ideal S256x896 .fp8e4m3) (h9 : R9 m c ct) (h11 : R11 m c cs) (s : St Ideal) (tokT tokS : FVec Ideal S8x256 .f32) (n : Fin 256)
    (hs : HoldsAll B0 (U m c n) (W m c n) (fT m c n) (fS m c n) n (16 * t.val) s)
    (ht : ∀ a : Fin 8, tokT (ix2 a n) = (fT m c n : EReal) ∧ tokS (ix2 a n) = (fS m c n : EReal)) :
    HoldsAll B0 (U m c n) (W m c n) (fT m c n) (fS m c n) n (16 * (t.val + 1))
      (fold4 (xf2 m c t d2) (xf3 m c t d3) ct cs (xf4 m c t d4) (xf5 m c t d5) tokT tokS s) :=
  hs.fold4 (hb.fT_pos n) (hb.fS_pos n) (fun a => (ht a).1) (fun a => (ht a).2)
    (fun i r => stepU t d2 d4 ct n (h9 n) i r (by omega)) (fun i r => stepW t d3 d5 cs n (h11 n) i r (by omega))

/-- The last vocabulary block, of three groups of rows, completes the statistics. -/
theorem Bounded.last (hb : Bounded m c) (t : Fin cfg0.N) (h : t.val = 74) (d2 : Vec Ideal S2048x2048 .fp8e4m3) (d3 : Vec Ideal S2048x896 .fp8e4m3) (d4 : Vec Ideal S16x128 .f32) (d5 : Vec Ideal S16x128 .f32)
    (ct : Vec Ideal S256x2048 .fp8e4m3) (cs : Vec Ideal S256x896 .fp8e4m3) (h9 : R9 m c ct) (h11 : R11 m c cs) (s : St Ideal) (tokT tokS : FVec Ideal S8x256 .f32) (n : Fin 256)
    (hs : HoldsAll B0 (U m c n) (W m c n) (fT m c n) (fS m c n) n (16 * t.val) s)
    (ht : ∀ a : Fin 8, tokT (ix2 a n) = (fT m c n : EReal) ∧ tokS (ix2 a n) = (fS m c n : EReal)) :
    HoldsAll B0 (U m c n) (W m c n) (fT m c n) (fS m c n) n 1187
      (fold3 (xf2 m c t d2) (xf3 m c t d3) ct cs (xf4 m c t d4) (xf5 m c t d5) tokT tokS s) := by
  have key := hs.fold3 (hb.fT_pos n) (hb.fS_pos n) (fun a => (ht a).1) (fun a => (ht a).2)
    (x2 := xf2 m c t d2) (x3 := xf3 m c t d3) (ct := ct) (cs := cs) (x4 := xf4 m c t d4) (x5 := xf5 m c t d5)
    (fun i r => stepU t d2 d4 ct n (h9 n) ⟨i.val, by omega⟩ r (by show 16 * t.val + i.val < 1187; omega))
    (fun i r => stepW t d3 d5 cs n (h11 n) ⟨i.val, by omega⟩ r (by show 16 * t.val + i.val < 1187; omega))
  rw [show 16 * t.val + 3 = 1187 by omega] at key
  exact key

/-- The region's specification on a device whose hidden states are bounded. -/
def Bounded.spec (hb : Bounded m c) : Spec m c where
  inv := Inv m c
  R6 := R6 m c
  R7 := R7 m c
  R8 := R8 m c
  R9 := R9 m c
  R10 := R10 m c
  R11 := R11 m c
  R12 := R12 m c
  hA := fun t h d2 d3 d4 d5 => by
    have e9 := oA_9_eq c t h (iblk m c 0 t) (iblk m c 1 t) (xf2 m c t d2) (xf3 m c t d3) (xf4 m c t d4) (xf5 m c t d5)
    have e10 := oA_10_eq c t h (iblk m c 0 t) (iblk m c 1 t) (xf2 m c t d2) (xf3 m c t d3) (xf4 m c t d4) (xf5 m c t d5)
    have e11 := oA_11_eq c t h (iblk m c 0 t) (iblk m c 1 t) (xf2 m c t d2) (xf3 m c t d3) (xf4 m c t d4) (xf5 m c t d5)
    have e12 := oA_12_eq c t h (iblk m c 0 t) (iblk m c 1 t) (xf2 m c t d2) (xf3 m c t d3) (xf4 m c t d4) (xf5 m c t d5)
    have e14 := oA_14_eq c t h (iblk m c 0 t) (iblk m c 1 t) (xf2 m c t d2) (xf3 m c t d3) (xf4 m c t d4) (xf5 m c t d5)
    have h9 : R9 m c (oA_9 c t h (iblk m c 0 t) (iblk m c 1 t) (xf2 m c t d2) (xf3 m c t d3) (xf4 m c t d4) (xf5 m c t d5)) := by rw [e9]; exact hb.codesT t
    have h11 : R11 m c (oA_11 c t h (iblk m c 0 t) (iblk m c 1 t) (xf2 m c t d2) (xf3 m c t d3) (xf4 m c t d4) (xf5 m c t d5)) := by rw [e11]; exact hb.codesS t
    have ht : ∀ (n : Fin 256) (a : Fin 8), tok0 (oA_14 c t h (iblk m c 0 t) (iblk m c 1 t) (xf2 m c t d2) (xf3 m c t d3) (xf4 m c t d4) (xf5 m c t d5)) (ix2 a n) = (fT m c n : EReal)
        ∧ tok1 (oA_14 c t h (iblk m c 0 t) (iblk m c 1 t) (xf2 m c t d2) (xf3 m c t d3) (xf4 m c t d4) (xf5 m c t d5)) (ix2 a n) = (fS m c n : EReal) := fun n a => by
      rw [e14]; exact ⟨hb.tokT t _ a n, hb.tokS t _ a n⟩
    refine ⟨h9, by rw [e10]; exact hb.scalesT t, h11, by rw [e12]; exact hb.scalesS t, Or.inr fun n => ⟨?_, ht n⟩⟩
    rw [oA_stats]
    have key := hb.step t (by omega) d2 d3 d4 d5 _ _ h9 h11 _ _ _ n (by rw [h]; exact HoldsAll.init _ _ _ _ n) (ht n)
    rw [h] at key; exact key
  hB := fun t h d2 d3 d4 d5 xo9 xo11 xs0 xs1 h9 h11 hi => Or.inr fun n => by
    rcases hi with hi | hi
    · omega
    · refine ⟨?_, (hi n).2⟩
      rw [oB_stats]
      exact hb.step t (by omega) d2 d3 d4 d5 _ _ h9 h11 _ _ _ n (hi n).1 (hi n).2
  hC := fun t h d2 d3 d4 d5 xo9 xo11 xs0 xs1 h9 h11 hi => by
    rcases hi with hi | hi
    · omega
    · have key : ∀ n, HoldsAll B0 (U m c n) (W m c n) (fT m c n) (fS m c n) n 1187
          (stOf (oC_13 c t h (iblk m c 0 t) (iblk m c 1 t) (xf2 m c t d2) (xf3 m c t d3) (xf4 m c t d4) (xf5 m c t d5) xo9 xo11 xs0 xs1)) := fun n => by
        rw [stOf_oC_13]; exact hb.last t h d2 d3 d4 d5 _ _ h9 h11 _ _ _ n (hi n).1 (hi n).2
      have cT : ∀ n, 0 < sT m c n / 2 := fun n => half_pos (hb.rowT n).1
      have cS : ∀ n, 0 < sS m c n / 2 := fun n => half_pos (hb.rowS n).1
      refine ⟨fun b i => ?_, fun b i => ?_, fun b i => ?_⟩
      · rw [oC_6_eq c t h _ _ _ _ _ _ _ _ _ _ _ rfl, rows2_apply, klRow_eq]
        show klOf _ _ _ _ _ (fun a => tok0 xs1 (ix2 a (token b i))) (fun a => tok1 xs1 (ix2 a (token b i))) = _
        rw [funext fun a => ((hi (token b i)).2 a).1, funext fun a => ((hi (token b i)).2 a).2]
        exact (kl_total (key (token b i)) (hb.fT_pos _) (cT _) (fT_log _) (hb.fS_pos _) (cS _) (fS_log _)).trans (by rw [hb.zT_eq, hb.zS_eq])
      · rw [oC_7_eq c t h _ _ _ _ _ _ _ _ _ _ _ rfl, rows2_apply, lseTRow_eq]
        show lseOf _ _ (fun a => tok0 xs1 (ix2 a (token b i))) (tok0 xs1 (ix2 0 (token b i))) = _
        rw [funext fun a => ((hi (token b i)).2 a).1, ((hi (token b i)).2 0).1]
        exact (lseT_total (key (token b i)) (hb.fT_pos _) (cT _) (fT_log _)).trans (by rw [hb.zT_eq])
      · rw [oC_8_eq c t h _ _ _ _ _ _ _ _ _ _ _ rfl, rows2_apply, lseSRow_eq]
        show lseOf _ _ (fun a => tok1 xs1 (ix2 a (token b i))) (tok1 xs1 (ix2 0 (token b i))) = _
        rw [funext fun a => ((hi (token b i)).2 a).2, ((hi (token b i)).2 0).2]
        exact (lseS_total (key (token b i)) (hb.fS_pos _) (cS _) (fS_log _)).trans (by rw [hb.zS_eq])
  hD := fun t h d2 d3 d4 d5 xo9 xo11 xs0 xs1 => Or.inl (by omega)

end

end Cert.KernelIdeal.Hand
-- ==== Proof.KernelIdeal.Final.lean ====
module

public import proofs.«01_k».proof.Proof.KernelIdeal.Instance

@[expose] public section

noncomputable section

namespace Cert.KernelIdeal.Hand

open Idealize.ShloMosaic Idealize.ShloMosaic.TcCoe
open Idealize.SL Idealize.SL.Sem
open Cert.KernelIdeal.Gen

/-! What the result arrays hold after the run: each window's one block is its whole array, written back after the last point. -/

variable {F : FTy → Type} [FloatOps F] [Named F]
variable {m : (l : Loc nD τ sig) → Vec F l.ty.shape l.ty.elt} {c : Dev nD}

/-- The last grid point. -/
def tL : Fin cfg0.N := ⟨74, by decide⟩

theorem idx6 : ∀ t : Fin cfg0.N, win0_6.index t (0 : Fin 2) = 0 ∧ win0_6.index t (1 : Fin 2) = 0 := (by decide +kernel : ∀ t : Fin grid0.N, _)

theorem emb6 (t : Fin cfg0.N) (j : S2x128.Idx) : ((cfg0.win 6).blk t).view.emb j = j := by
  obtain ⟨e0, e1⟩ := idx6 t
  funext a; apply Fin.ext
  match a with
  | ⟨0, _⟩ => show win0_6.index t (0 : Fin 2) * 2 + 1 * (j 0).val = (j 0).val; omega
  | ⟨1, _⟩ => show win0_6.index t (1 : Fin 2) * 128 + 1 * (j 1).val = (j 1).val; omega

/-- The array of window 6 satisfies what its block is left with. -/
theorem Spec.final6 (S : Spec m c) (G : Vec F S2x128 .f32) (h : S.dat.ArrAt 6 cfg0.N G) : S.R6 G := by
  rw [show cfg0.N = tL.val + 1 from N_0, S.dat.ArrAt_succ 6 tL, if_pos ((flush0_6 tL).mpr rfl)] at h
  obtain ⟨G₀, X, -, ⟨Y, -, hX⟩, e⟩ := h
  have hG : G = X := by
    funext j
    rw [e]
    conv_lhs => rw [← emb6 tL j]
    rw [View.write_emb_of_mem _ _ (Finset.mem_univ _)]
    rfl
  rw [hG]
  exact hX rfl

theorem idx7 : ∀ t : Fin cfg0.N, win0_7.index t (0 : Fin 2) = 0 ∧ win0_7.index t (1 : Fin 2) = 0 := (by decide +kernel : ∀ t : Fin grid0.N, _)

theorem emb7 (t : Fin cfg0.N) (j : S2x128.Idx) : ((cfg0.win 7).blk t).view.emb j = j := by
  obtain ⟨e0, e1⟩ := idx7 t
  funext a; apply Fin.ext
  match a with
  | ⟨0, _⟩ => show win0_7.index t (0 : Fin 2) * 2 + 1 * (j 0).val = (j 0).val; omega
  | ⟨1, _⟩ => show win0_7.index t (1 : Fin 2) * 128 + 1 * (j 1).val = (j 1).val; omega

/-- The array of window 7 satisfies what its block is left with. -/
theorem Spec.final7 (S : Spec m c) (G : Vec F S2x128 .f32) (h : S.dat.ArrAt 7 cfg0.N G) : S.R7 G := by
  rw [show cfg0.N = tL.val + 1 from N_0, S.dat.ArrAt_succ 7 tL, if_pos ((flush0_7 tL).mpr rfl)] at h
  obtain ⟨G₀, X, -, ⟨Y, -, hX⟩, e⟩ := h
  have hG : G = X := by
    funext j
    rw [e]
    conv_lhs => rw [← emb7 tL j]
    rw [View.write_emb_of_mem _ _ (Finset.mem_univ _)]
    rfl
  rw [hG]
  exact hX rfl

theorem idx8 : ∀ t : Fin cfg0.N, win0_8.index t (0 : Fin 2) = 0 ∧ win0_8.index t (1 : Fin 2) = 0 := (by decide +kernel : ∀ t : Fin grid0.N, _)

theorem emb8 (t : Fin cfg0.N) (j : S2x128.Idx) : ((cfg0.win 8).blk t).view.emb j = j := by
  obtain ⟨e0, e1⟩ := idx8 t
  funext a; apply Fin.ext
  match a with
  | ⟨0, _⟩ => show win0_8.index t (0 : Fin 2) * 2 + 1 * (j 0).val = (j 0).val; omega
  | ⟨1, _⟩ => show win0_8.index t (1 : Fin 2) * 128 + 1 * (j 1).val = (j 1).val; omega

/-- The array of window 8 satisfies what its block is left with. -/
theorem Spec.final8 (S : Spec m c) (G : Vec F S2x128 .f32) (h : S.dat.ArrAt 8 cfg0.N G) : S.R8 G := by
  rw [show cfg0.N = tL.val + 1 from N_0, S.dat.ArrAt_succ 8 tL, if_pos ((flush0_8 tL).mpr rfl)] at h
  obtain ⟨G₀, X, -, ⟨Y, -, hX⟩, e⟩ := h
  have hG : G = X := by
    funext j
    rw [e]
    conv_lhs => rw [← emb8 tL j]
    rw [View.write_emb_of_mem _ _ (Finset.mem_univ _)]
    rfl
  rw [hG]
  exact hX rfl

theorem idx9 : ∀ t : Fin cfg0.N, win0_9.index t (0 : Fin 2) = 0 ∧ win0_9.index t (1 : Fin 2) = 0 := (by decide +kernel : ∀ t : Fin grid0.N, _)

theorem emb9 (t : Fin cfg0.N) (j : S256x2048.Idx) : ((cfg0.win 9).blk t).view.emb j = j := by
  obtain ⟨e0, e1⟩ := idx9 t
  funext a; apply Fin.ext
  match a with
  | ⟨0, _⟩ => show win0_9.index t (0 : Fin 2) * 256 + 1 * (j 0).val = (j 0).val; omega
  | ⟨1, _⟩ => show win0_9.index t (1 : Fin 2) * 2048 + 1 * (j 1).val = (j 1).val; omega

/-- The array of window 9 satisfies what its block is left with. -/
theorem Spec.final9 (S : Spec m c) (G : Vec F S256x2048 .fp8e4m3) (h : S.dat.ArrAt 9 cfg0.N G) : S.R9 G := by
  rw [show cfg0.N = tL.val + 1 from N_0, S.dat.ArrAt_succ 9 tL, if_pos ((flush0_9 tL).mpr rfl)] at h
  obtain ⟨G₀, X, -, ⟨Y, -, hX⟩, e⟩ := h
  have hG : G = X := by
    funext j
    rw [e]
    conv_lhs => rw [← emb9 tL j]
    rw [View.write_emb_of_mem _ _ (Finset.mem_univ _)]
    rfl
  rw [hG]
  exact hX

theorem idx10 : ∀ t : Fin cfg0.N, win0_10.index t (0 : Fin 2) = 0 ∧ win0_10.index t (1 : Fin 2) = 0 := (by decide +kernel : ∀ t : Fin grid0.N, _)

theorem emb10 (t : Fin cfg0.N) (j : S2x128.Idx) : ((cfg0.win 10).blk t).view.emb j = j := by
  obtain ⟨e0, e1⟩ := idx10 t
  funext a; apply Fin.ext
  match a with
  | ⟨0, _⟩ => show win0_10.index t (0 : Fin 2) * 2 + 1 * (j 0).val = (j 0).val; omega
  | ⟨1, _⟩ => show win0_10.index t (1 : Fin 2) * 128 + 1 * (j 1).val = (j 1).val; omega

/-- The array of window 10 satisfies what its block is left with. -/
theorem Spec.final10 (S : Spec m c) (G : Vec F S2x128 .f32) (h : S.dat.ArrAt 10 cfg0.N G) : S.R10 G := by
  rw [show cfg0.N = tL.val + 1 from N_0, S.dat.ArrAt_succ 10 tL, if_pos ((flush0_10 tL).mpr rfl)] at h
  obtain ⟨G₀, X, -, ⟨Y, -, hX⟩, e⟩ := h
  have hG : G = X := by
    funext j
    rw [e]
    conv_lhs => rw [← emb10 tL j]
    rw [View.write_emb_of_mem _ _ (Finset.mem_univ _)]
    rfl
  rw [hG]
  exact hX

theorem idx11 : ∀ t : Fin cfg0.N, win0_11.index t (0 : Fin 2) = 0 ∧ win0_11.index t (1 : Fin 2) = 0 := (by decide +kernel : ∀ t : Fin grid0.N, _)

theorem emb11 (t : Fin cfg0.N) (j : S256x896.Idx) : ((cfg0.win 11).blk t).view.emb j = j := by
  obtain ⟨e0, e1⟩ := idx11 t
  funext a; apply Fin.ext
  match a with
  | ⟨0, _⟩ => show win0_11.index t (0 : Fin 2) * 256 + 1 * (j 0).val = (j 0).val; omega
  | ⟨1, _⟩ => show win0_11.index t (1 : Fin 2) * 896 + 1 * (j 1).val = (j 1).val; omega

/-- The array of window 11 satisfies what its block is left with. -/
theorem Spec.final11 (S : Spec m c) (G : Vec F S256x896 .fp8e4m3) (h : S.dat.ArrAt 11 cfg0.N G) : S.R11 G := by
  rw [show cfg0.N = tL.val + 1 from N_0, S.dat.ArrAt_succ 11 tL, if_pos ((flush0_11 tL).mpr rfl)] at h
  obtain ⟨G₀, X, -, ⟨Y, -, hX⟩, e⟩ := h
  have hG : G = X := by
    funext j
    rw [e]
    conv_lhs => rw [← emb11 tL j]
    rw [View.write_emb_of_mem _ _ (Finset.mem_univ _)]
    rfl
  rw [hG]
  exact hX

theorem idx12 : ∀ t : Fin cfg0.N, win0_12.index t (0 : Fin 2) = 0 ∧ win0_12.index t (1 : Fin 2) = 0 := (by decide +kernel : ∀ t : Fin grid0.N, _)

theorem emb12 (t : Fin cfg0.N) (j : S2x128.Idx) : ((cfg0.win 12).blk t).view.emb j = j := by
  obtain ⟨e0, e1⟩ := idx12 t
  funext a; apply Fin.ext
  match a with
  | ⟨0, _⟩ => show win0_12.index t (0 : Fin 2) * 2 + 1 * (j 0).val = (j 0).val; omega
  | ⟨1, _⟩ => show win0_12.index t (1 : Fin 2) * 128 + 1 * (j 1).val = (j 1).val; omega

/-- The array of window 12 satisfies what its block is left with. -/
theorem Spec.final12 (S : Spec m c) (G : Vec F S2x128 .f32) (h : S.dat.ArrAt 12 cfg0.N G) : S.R12 G := by
  rw [show cfg0.N = tL.val + 1 from N_0, S.dat.ArrAt_succ 12 tL, if_pos ((flush0_12 tL).mpr rfl)] at h
  obtain ⟨G₀, X, -, ⟨Y, -, hX⟩, e⟩ := h
  have hG : G = X := by
    funext j
    rw [e]
    conv_lhs => rw [← emb12 tL j]
    rw [View.write_emb_of_mem _ _ (Finset.mem_univ _)]
    rfl
  rw [hG]
  exact hX

end Cert.KernelIdeal.Hand
-- ==== Proof.ReferenceIdeal.Run.lean ====
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! The reference has one grid point, and every block is its whole array: what its run leaves in each result, as one function of
    the arguments. -/

/-! ## Blockwise: what each point writes back, and the final array block by block -/

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t) (iblk m c 5 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S2x128.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S2x128.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S2x128.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S256x2048.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the body's result for that window (`Gen.out0_10`: its stores
    as pieces over the input windows' blocks), read through the window's block. -/
theorem flushed10 (c : Dev nD) (t : Fin cfg0.N) :
    (dats m 0 c).flushed 10 t = (cfg0.win 10).cut (grid0.coords t) (out0_10 (iblk m c 0 t) (iblk m c 1 t) (iblk m c 2 t) (iblk m c 3 t) (iblk m c 4 t) (iblk m c 5 t)) := by
  show (cfg0.win 10).cut (grid0.coords t) ((dats m 0 c).after 10 t) = _
  rw [after0_10]

/-- The index map sends distinct grid points to distinct block indices (decided over the 1 point). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S2x128.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- WHAT POINT `t` WRITES BACK to output window 11's array: the body's result for that window (`Gen.out0_11`: its stores
    as pieces over the input windows' blocks), read through the window's block. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t)) := by
  show (cfg0.win 11).cut (grid0.coords t) ((dats m 0 c).after 11 t) = _
  rw [after0_11]

/-- The index map sends distinct grid points to distinct block indices (decided over the 1 point). -/
theorem idx_inj11 : ∀ t t' : Fin cfg0.N, win0_11.index t = win0_11.index t' → t = t' :=
  (by decide +kernel : ∀ t t' : Fin grid0.N, win0_11.index t = win0_11.index t' → t = t')

/-- So two flushing points' blocks share no array index (Lib/Pipeline/Cells.lean `Window.disjoint_blk`). -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- BLOCK `t` OF THE FINAL ARRAY, read back through the window, is what point `t` wrote back (`flushed11`), for every
    point that writes back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- An index that no flushing point's block covers keeps output window 11's array contents at region entry. -/
theorem entry11 (c : Dev nD) (i : S256x896.Idx) (h : ∀ t : Fin cfg0.N, (cfg0.win 11).flush t = true → i ∉ ((cfg0.win 11).blk t).view.set) :
    (dats m 0 c).arrAt 11 cfg0.N i = V m c (Pipeline.arrRef spec0 11) i := by
  rw [(dats m 0 c).arrAt_apply_of_forall_not_mem 11 cfg0.N i (fun t _ hf => h t hf), A_eq]

/-- WHAT POINT `t` WRITES BACK to output window 12's array: the body's result for that window (`Gen.out0_12`: its stores
    as pieces over the input windows' blocks), read through the window's block. -/
theorem flushed12 (c : Dev nD) (t : Fin cfg0.N) :
    (dats m 0 c).flushed 12 t = (cfg0.win 12).cut (grid0.coords t) (out0_12 (iblk m c 0 t) (iblk m c 1 t) (iblk m c 2 t) (iblk m c 3 t) (iblk m c 4 t) (iblk m c 5 t)) := by
  show (cfg0.win 12).cut (grid0.coords t) ((dats m 0 c).after 12 t) = _
  rw [after0_12]

/-- The index map sends distinct grid points to distinct block indices (decided over the 1 point). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S2x128.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_3) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_4) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_5) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v0_6) = (dats m 0 c).arrAt 12 cfg0.N :=
  (h c).1 12

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_v0_3) = (dats m 0 c).arrAt 9 cfg0.N
      ∧ r.2.mem ((c : Thread nD τ).loc main_v0_4) = (dats m 0 c).arrAt 10 cfg0.N
      ∧ r.2.mem ((c : Thread nD τ).loc main_v0_5) = (dats m 0 c).arrAt 11 cfg0.N
      ∧ r.2.mem ((c : Thread nD τ).loc main_v0_6) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      post9 m r h c,
      post10 m r h c,
      post11 m r h c,
      post12 m r h c,
      kept_main_arg0 m r h c,
      kept_main_arg1 m r h c,
      kept_main_arg2 m r h c,
      kept_main_arg3 m r h c,
      kept_main_arg4 m r h c,
      kept_main_arg5 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S2x128x2048.Idx) : ((cfg0.win 0).blk t).view.emb j = j := by
  obtain ⟨e0, e1, e2⟩ := idx_zero0 t
  funext a; apply Fin.ext
  match a with
  | ⟨0, _⟩ => show win0_0.index t (0 : Fin 3) * 2 + 1 * (j 0).val = (j 0).val; omega
  | ⟨1, _⟩ => show win0_0.index t (1 : Fin 3) * 128 + 1 * (j 1).val = (j 1).val; omega
  | ⟨2, _⟩ => show win0_0.index t (2 : Fin 3) * 2048 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S2x128x896.Idx) : ((cfg0.win 1).blk t).view.emb j = j := by
  obtain ⟨e0, e1, e2⟩ := idx_zero1 t
  funext a; apply Fin.ext
  match a with
  | ⟨0, _⟩ => show win0_1.index t (0 : Fin 3) * 2 + 1 * (j 0).val = (j 0).val; omega
  | ⟨1, _⟩ => show win0_1.index t (1 : Fin 3) * 128 + 1 * (j 1).val = (j 1).val; omega
  | ⟨2, _⟩ => show win0_1.index t (2 : Fin 3) * 896 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S151936x2048.Idx) : ((cfg0.win 2).blk t).view.emb j = j := by
  obtain ⟨e0, e1⟩ := idx_zero2 t
  funext a; apply Fin.ext
  match a with
  | ⟨0, _⟩ => show win0_2.index t (0 : Fin 2) * 151936 + 1 * (j 0).val = (j 0).val; omega
  | ⟨1, _⟩ => show win0_2.index t (1 : Fin 2) * 2048 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0] : Fin 1 → Nat) = fun _ => 0 := funext fun a => by fin_cases a <;> rfl

/-- Window 3's block index at the one point is zero on every axis. -/
theorem idx_zero3 : ∀ t : Fin cfg0.N, win0_3.index t (0 : Fin 1) = 0 :=
  (by decide +kernel : ∀ t : Fin grid0.N, _)

/-- An index of window 3's block is the same index of its array. -/
theorem emb3 (t : Fin cfg0.N) (j : S151936.Idx) : ((cfg0.win 3).blk t).view.emb j = j := by
  have e0 := idx_zero3 t
  funext a; apply Fin.ext
  match a with
  | ⟨0, _⟩ => show win0_3.index t (0 : Fin 1) * 151936 + 1 * (j 0).val = (j 0).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S151936x896.Idx) : ((cfg0.win 4).blk t).view.emb j = j := by
  obtain ⟨e0, e1⟩ := idx_zero4 t
  funext a; apply Fin.ext
  match a with
  | ⟨0, _⟩ => show win0_4.index t (0 : Fin 2) * 151936 + 1 * (j 0).val = (j 0).val; omega
  | ⟨1, _⟩ => show win0_4.index t (1 : Fin 2) * 896 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S151936.Idx) : ((cfg0.win 5).blk t).view.emb j = j := by
  have e0 := idx_zero5 t
  funext a; apply Fin.ext
  match a with
  | ⟨0, _⟩ => show win0_5.index t (0 : Fin 1) * 151936 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S2x128.Idx) : ((cfg0.win 6).blk t).view.emb j = j := by
  obtain ⟨e0, e1⟩ := idx_zero6 t
  funext a; apply Fin.ext
  match a with
  | ⟨0, _⟩ => show win0_6.index t (0 : Fin 2) * 2 + 1 * (j 0).val = (j 0).val; omega
  | ⟨1, _⟩ => show win0_6.index t (1 : Fin 2) * 128 + 1 * (j 1).val = (j 1).val; omega

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S2x128.Idx) : ((cfg0.win 7).blk t).view.emb j = j := by
  obtain ⟨e0, e1⟩ := idx_zero7 t
  funext a; apply Fin.ext
  match a with
  | ⟨0, _⟩ => show win0_7.index t (0 : Fin 2) * 2 + 1 * (j 0).val = (j 0).val; omega
  | ⟨1, _⟩ => show win0_7.index t (1 : Fin 2) * 128 + 1 * (j 1).val = (j 1).val; omega

theorem hz8 : (![0, 0] : Fin 2 → Nat) = fun _ => 0 := funext fun a => by fin_cases a <;> rfl

/-- Window 8's block index at the one point is zero on every axis. -/
theorem idx_zero8 : ∀ t : Fin cfg0.N, win0_8.index t (0 : Fin 2) = 0 ∧ win0_8.index t (1 : Fin 2) = 0 :=
  (by decide +kernel : ∀ t : Fin grid0.N, _)

/-- An index of window 8's block is the same index of its array. -/
theorem emb8 (t : Fin cfg0.N) (j : S2x128.Idx) : ((cfg0.win 8).blk t).view.emb j = j := by
  obtain ⟨e0, e1⟩ := idx_zero8 t
  funext a; apply Fin.ext
  match a with
  | ⟨0, _⟩ => show win0_8.index t (0 : Fin 2) * 2 + 1 * (j 0).val = (j 0).val; omega
  | ⟨1, _⟩ => show win0_8.index t (1 : Fin 2) * 128 + 1 * (j 1).val = (j 1).val; omega

theorem hz9 : (![0, 0] : Fin 2 → Nat) = fun _ => 0 := funext fun a => by fin_cases a <;> rfl

/-- Window 9's block index at the one point is zero on every axis. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S256x2048.Idx) : ((cfg0.win 9).blk t).view.emb j = j := by
  obtain ⟨e0, e1⟩ := idx_zero9 t
  funext a; apply Fin.ext
  match a with
  | ⟨0, _⟩ => show win0_9.index t (0 : Fin 2) * 256 + 1 * (j 0).val = (j 0).val; omega
  | ⟨1, _⟩ => show win0_9.index t (1 : Fin 2) * 2048 + 1 * (j 1).val = (j 1).val; omega

theorem hz10 : (![0, 0] : Fin 2 → Nat) = fun _ => 0 := funext fun a => by fin_cases a <;> rfl

/-- Window 10's block index at the one point is zero on every axis. -/
theorem idx_zero10 : ∀ t : Fin cfg0.N, win0_10.index t (0 : Fin 2) = 0 ∧ win0_10.index t (1 : Fin 2) = 0 :=
  (by decide +kernel : ∀ t : Fin grid0.N, _)

/-- An index of window 10's block is the same index of its array. -/
theorem emb10 (t : Fin cfg0.N) (j : S2x128.Idx) : ((cfg0.win 10).blk t).view.emb j = j := by
  obtain ⟨e0, e1⟩ := idx_zero10 t
  funext a; apply Fin.ext
  match a with
  | ⟨0, _⟩ => show win0_10.index t (0 : Fin 2) * 2 + 1 * (j 0).val = (j 0).val; omega
  | ⟨1, _⟩ => show win0_10.index t (1 : Fin 2) * 128 + 1 * (j 1).val = (j 1).val; omega

theorem hz11 : (![0, 0] : Fin 2 → Nat) = fun _ => 0 := funext fun a => by fin_cases a <;> rfl

/-- Window 11's block index at the one point is zero on every axis. -/
theorem idx_zero11 : ∀ t : Fin cfg0.N, win0_11.index t (0 : Fin 2) = 0 ∧ win0_11.index t (1 : Fin 2) = 0 :=
  (by decide +kernel : ∀ t : Fin grid0.N, _)

/-- An index of window 11's block is the same index of its array. -/
theorem emb11 (t : Fin cfg0.N) (j : S256x896.Idx) : ((cfg0.win 11).blk t).view.emb j = j := by
  obtain ⟨e0, e1⟩ := idx_zero11 t
  funext a; apply Fin.ext
  match a with
  | ⟨0, _⟩ => show win0_11.index t (0 : Fin 2) * 256 + 1 * (j 0).val = (j 0).val; omega
  | ⟨1, _⟩ => show win0_11.index t (1 : Fin 2) * 896 + 1 * (j 1).val = (j 1).val; omega

theorem hz12 : (![0, 0] : Fin 2 → Nat) = fun _ => 0 := funext fun a => by fin_cases a <;> rfl

/-- Window 12's block index at the one point is zero on every axis. -/
theorem idx_zero12 : ∀ t : Fin cfg0.N, win0_12.index t (0 : Fin 2) = 0 ∧ win0_12.index t (1 : Fin 2) = 0 :=
  (by decide +kernel : ∀ t : Fin grid0.N, _)

/-- An index of window 12's block is the same index of its array. -/
theorem emb12 (t : Fin cfg0.N) (j : S2x128.Idx) : ((cfg0.win 12).blk t).view.emb j = j := by
  obtain ⟨e0, e1⟩ := idx_zero12 t
  funext a; apply Fin.ext
  match a with
  | ⟨0, _⟩ => show win0_12.index t (0 : Fin 2) * 2 + 1 * (j 0).val = (j 0).val; omega
  | ⟨1, _⟩ => show win0_12.index t (1 : Fin 2) * 128 + 1 * (j 1).val = (j 1).val; omega

/-! ### Output window 6: the array after the run -/

/-- What the window's array ends holding: `out0_6` applied to the argument arrays in place of the input blocks (a value that the
    frame states apart, `kK_payN a…`, keeps its loads inside its own definition). -/
abbrev G6 (a0 : Vec F S2x128x2048 .bf16) (a1 : Vec F S2x128x896 .bf16) (a2 : Vec F S151936x2048 .fp8e4m3) (a3 : Vec F S151936 .f32) (a4 : Vec F S151936x896 .fp8e4m3) (a5 : Vec F S151936 .f32) : Vec F S2x128 .f32 :=
  k0_pay20 (k0_pay30 a0 a1 a2 a3 a4 a5) (k0_pay13 (k0_pay25 a0 a1 a2 a3 a4 a5) (k0_pay26 a0 a1 a2 a3 a4 a5) a2 a3) (k0_pay14 (k0_pay25 a0 a1 a2 a3 a4 a5) (k0_pay26 a0 a1 a2 a3 a4 a5) a2 a3) (k0_pay31 a0 a1 a2 a3 a4 a5)

/-- A load of the whole of a block reads the block, and the one store through the whole rectangle leaves its payload. -/
theorem out6_eq (a0 : Vec F S2x128x2048 .bf16) (a1 : Vec F S2x128x896 .bf16) (a2 : Vec F S151936x2048 .fp8e4m3) (a3 : Vec F S151936 .f32) (a4 : Vec F S151936x896 .fp8e4m3) (a5 : Vec F S151936 .f32) : out0_6 (F := F) a0 a1 a2 a3 a4 a5 = G6 a0 a1 a2 a3 a4 a5 := by
  unfold out0_6
  rw [View.canon_unit_zero hz6, View.ld_unit_zero (S := S151936x2048) hz2 _ a2, View.ld_unit_zero (S := S151936) hz3 _ a3]

/-- Cutting the point's block out of `X` and reading `X` through the block's view give the same. -/
theorem cut6_eq (t : Fin cfg0.N) (X : Vec F S2x128 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4) (V m c main_arg5)) := by
  show (cfg0.win 6).cut (grid0.coords t) ((dats m 0 c).after 6 t) = _
  rw [after0_6, out6_eq, iblk0_eq, iblk1_eq, iblk2_eq, iblk3_eq, iblk4_eq, iblk5_eq]
  exact cut6_eq t _

/-- Every index of the array is in the point's block. -/
theorem covered6 (i : S2x128.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (G6 (V m c main_arg0) (V m c main_arg1) (V m c main_arg2) (V m c main_arg3) (V m c main_arg4) (V m c main_arg5)) (fun t _ => flushed6_eq m c t) covered6).trans (by rw [V_main_arg0, V_main_arg1, V_main_arg2, V_main_arg3, V_main_arg4, V_main_arg5])

/-! ### Output window 7: the array after the run -/

/-- What the window's array ends holding: `out0_7` applied to the argument arrays in place of the input blocks (a value that the
    frame states apart, `kK_payN a…`, keeps its loads inside its own definition). -/
abbrev G7 (a0 : Vec F S2x128x2048 .bf16) (a1 : Vec F S2x128x896 .bf16) (a2 : Vec F S151936x2048 .fp8e4m3) (a3 : Vec F S151936 .f32) (a4 : Vec F S151936x896 .fp8e4m3) (a5 : Vec F S151936 .f32) : Vec F S2x128 .f32 :=
  k0_pay21 (k0_pay12 (k0_pay25 a0 a1 a2 a3 a4 a5) (k0_pay26 a0 a1 a2 a3 a4 a5) a2 a3) (k0_pay31 a0 a1 a2 a3 a4 a5)

/-- A load of the whole of a block reads the block, and the one store through the whole rectangle leaves its payload. -/
theorem out7_eq (a0 : Vec F S2x128x2048 .bf16) (a1 : Vec F S2x128x896 .bf16) (a2 : Vec F S151936x2048 .fp8e4m3) (a3 : Vec F S151936 .f32) (a4 : Vec F S151936x896 .fp8e4m3) (a5 : Vec F S151936 .f32) : out0_7 (F := F) a0 a1 a2 a3 a4 a5 = G7 a0 a1 a2 a3 a4 a5 := by
  unfold out0_7
  rw [View.canon_unit_zero hz7, View.ld_unit_zero (S := S151936x2048) hz2 _ a2, View.ld_unit_zero (S := S151936) hz3 _ a3]

/-- Cutting the point's block out of `X` and reading `X` through the block's view give the same. -/
theorem cut7_eq (t : Fin cfg0.N) (X : Vec F S2x128 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5)) := by
  show (cfg0.win 7).cut (grid0.coords t) ((dats m 0 c).after 7 t) = _
  rw [after0_7, out7_eq, iblk0_eq, iblk1_eq, iblk2_eq, iblk3_eq, iblk4_eq, iblk5_eq]
  exact cut7_eq t _

/-- Every index of the array is in the point's block. -/
theorem covered7 (i : S2x128.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (G7 (V m c main_arg0) (V m c main_arg1) (V m c main_arg2) (V m c main_arg3) (V m c main_arg4) (V m c main_arg5)) (fun t _ => flushed7_eq m c t) covered7).trans (by rw [V_main_arg0, V_main_arg1, V_main_arg2, V_main_arg3, V_main_arg4, V_main_arg5])

/-! ### Output window 8: the array after the run -/

/-- What the window's array ends holding: `out0_8` applied to the argument arrays in place of the input blocks (a value that the
    frame states apart, `kK_payN a…`, keeps its loads inside its own definition). -/
abbrev G8 (a0 : Vec F S2x128x2048 .bf16) (a1 : Vec F S2x128x896 .bf16) (a2 : Vec F S151936x2048 .fp8e4m3) (a3 : Vec F S151936 .f32) (a4 : Vec F S151936x896 .fp8e4m3) (a5 : Vec F S151936 .f32) : Vec F S2x128 .f32 :=
  k0_pay22 (k0_pay30 a0 a1 a2 a3 a4 a5)

/-- The one store through the whole rectangle leaves its payload. -/
theorem out8_eq (a0 : Vec F S2x128x2048 .bf16) (a1 : Vec F S2x128x896 .bf16) (a2 : Vec F S151936x2048 .fp8e4m3) (a3 : Vec F S151936 .f32) (a4 : Vec F S151936x896 .fp8e4m3) (a5 : Vec F S151936 .f32) : out0_8 (F := F) a0 a1 a2 a3 a4 a5 = G8 a0 a1 a2 a3 a4 a5 := by
  unfold out0_8
  rw [View.canon_unit_zero hz8]

/-- Cutting the point's block out of `X` and reading `X` through the block's view give the same. -/
theorem cut8_eq (t : Fin cfg0.N) (X : Vec F S2x128 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5)) := by
  show (cfg0.win 8).cut (grid0.coords t) ((dats m 0 c).after 8 t) = _
  rw [after0_8, out8_eq, iblk0_eq, iblk1_eq, iblk2_eq, iblk3_eq, iblk4_eq, iblk5_eq]
  exact cut8_eq t _

/-- Every index of the array is in the point's block. -/
theorem covered8 (i : S2x128.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 8 (G8 (V m c main_arg0) (V m c main_arg1) (V m c main_arg2) (V m c main_arg3) (V m c main_arg4) (V m c main_arg5)) (fun t _ => flushed8_eq m c t) covered8).trans (by rw [V_main_arg0, V_main_arg1, V_main_arg2, V_main_arg3, V_main_arg4, V_main_arg5])

/-! ### Output window 9: the array after the run -/

/-- What the window's array ends holding: `out0_9` applied to the argument arrays in place of the input blocks (a value that the
    frame states apart, `kK_payN a…`, keeps its loads inside its own definition). -/
abbrev G9 (a0 : Vec F S2x128x2048 .bf16) (a1 : Vec F S2x128x896 .bf16) (a2 : Vec F S151936x2048 .fp8e4m3) (a3 : Vec F S151936 .f32) (a4 : Vec F S151936x896 .fp8e4m3) (a5 : Vec F S151936 .f32) : Vec F S256x2048 .fp8e4m3 :=
  k0_pay26 a0 a1 a2 a3 a4 a5

/-- The one store through the whole rectangle leaves its payload. -/
theorem out9_eq (a0 : Vec F S2x128x2048 .bf16) (a1 : Vec F S2x128x896 .bf16) (a2 : Vec F S151936x2048 .fp8e4m3) (a3 : Vec F S151936 .f32) (a4 : Vec F S151936x896 .fp8e4m3) (a5 : Vec F S151936 .f32) : out0_9 (F := F) a0 a1 a2 a3 a4 a5 = G9 a0 a1 a2 a3 a4 a5 := by
  unfold out0_9
  rw [View.canon_unit_zero hz9]

/-- Cutting the point's block out of `X` and reading `X` through the block's view give the same. -/
theorem cut9_eq (t : Fin cfg0.N) (X : Vec F S256x2048 .fp8e4m3) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5)) := by
  show (cfg0.win 9).cut (grid0.coords t) ((dats m 0 c).after 9 t) = _
  rw [after0_9, out9_eq, iblk0_eq, iblk1_eq, iblk2_eq, iblk3_eq, iblk4_eq, iblk5_eq]
  exact cut9_eq t _

/-- Every index of the array is in the point's block. -/
theorem covered9 (i : S256x2048.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 9 (G9 (V m c main_arg0) (V m c main_arg1) (V m c main_arg2) (V m c main_arg3) (V m c main_arg4) (V m c main_arg5)) (fun t _ => flushed9_eq m c t) covered9).trans (by rw [V_main_arg0, V_main_arg1, V_main_arg2, V_main_arg3, V_main_arg4, V_main_arg5])

/-! ### Output window 10: the array after the run -/

/-- What the window's array ends holding: `out0_10` applied to the argument arrays in place of the input blocks (a value that the
    frame states apart, `kK_payN a…`, keeps its loads inside its own definition). -/
abbrev G10 (a0 : Vec F S2x128x2048 .bf16) (a1 : Vec F S2x128x896 .bf16) (a2 : Vec F S151936x2048 .fp8e4m3) (a3 : Vec F S151936 .f32) (a4 : Vec F S151936x896 .fp8e4m3) (a5 : Vec F S151936 .f32) : Vec F S2x128 .f32 :=
  k0_pay23 (k0_pay25 a0 a1 a2 a3 a4 a5)

/-- The one store through the whole rectangle leaves its payload. -/
theorem out10_eq (a0 : Vec F S2x128x2048 .bf16) (a1 : Vec F S2x128x896 .bf16) (a2 : Vec F S151936x2048 .fp8e4m3) (a3 : Vec F S151936 .f32) (a4 : Vec F S151936x896 .fp8e4m3) (a5 : Vec F S151936 .f32) : out0_10 (F := F) a0 a1 a2 a3 a4 a5 = G10 a0 a1 a2 a3 a4 a5 := by
  unfold out0_10
  rw [View.canon_unit_zero hz10]

/-- Cutting the point's block out of `X` and reading `X` through the block's view give the same. -/
theorem cut10_eq (t : Fin cfg0.N) (X : Vec F S2x128 .f32) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5)) := by
  show (cfg0.win 10).cut (grid0.coords t) ((dats m 0 c).after 10 t) = _
  rw [after0_10, out10_eq, iblk0_eq, iblk1_eq, iblk2_eq, iblk3_eq, iblk4_eq, iblk5_eq]
  exact cut10_eq t _

/-- Every index of the array is in the point's block. -/
theorem covered10 (i : S2x128.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 10 (G10 (V m c main_arg0) (V m c main_arg1) (V m c main_arg2) (V m c main_arg3) (V m c main_arg4) (V m c main_arg5)) (fun t _ => flushed10_eq m c t) covered10).trans (by rw [V_main_arg0, V_main_arg1, V_main_arg2, V_main_arg3, V_main_arg4, V_main_arg5])

/-! ### Output window 11: the array after the run -/

/-- What the window's array ends holding: `out0_11` applied to the argument arrays in place of the input blocks (a value that the
    frame states apart, `kK_payN a…`, keeps its loads inside its own definition). -/
abbrev G11 (a0 : Vec F S2x128x2048 .bf16) (a1 : Vec F S2x128x896 .bf16) (a2 : Vec F S151936x2048 .fp8e4m3) (a3 : Vec F S151936 .f32) (a4 : Vec F S151936x896 .fp8e4m3) (a5 : Vec F S151936 .f32) : Vec F S256x896 .fp8e4m3 :=
  k0_pay9 (k0_pay27 a0 a1 a2 a3 a4 a5) (k0_pay28 a0 a1 a2 a3 a4 a5) (k0_pay29 a0 a1 a2 a3 a4 a5)

/-- The one store through the whole rectangle leaves its payload. -/
theorem out11_eq (a0 : Vec F S2x128x2048 .bf16) (a1 : Vec F S2x128x896 .bf16) (a2 : Vec F S151936x2048 .fp8e4m3) (a3 : Vec F S151936 .f32) (a4 : Vec F S151936x896 .fp8e4m3) (a5 : Vec F S151936 .f32) : out0_11 (F := F) a0 a1 a2 a3 a4 a5 = G11 a0 a1 a2 a3 a4 a5 := by
  unfold out0_11
  rw [View.canon_unit_zero hz11]

/-- Cutting the point's block out of `X` and reading `X` through the block's view give the same. -/
theorem cut11_eq (t : Fin cfg0.N) (X : Vec F S256x896 .fp8e4m3) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3) (V m c main_arg4) (V m c main_arg5)) := by
  show (cfg0.win 11).cut (grid0.coords t) ((dats m 0 c).after 11 t) = _
  rw [after0_11, out11_eq, iblk0_eq, iblk1_eq, iblk2_eq, iblk3_eq, iblk4_eq, iblk5_eq]
  exact cut11_eq t _

/-- Every index of the array is in the point's block. -/
theorem covered11 (i : S256x896.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 11 (G11 (V m c main_arg0) (V m c main_arg1) (V m c main_arg2) (V m c main_arg3) (V m c main_arg4) (V m c main_arg5)) (fun t _ => flushed11_eq m c t) covered11).trans (by rw [V_main_arg0, V_main_arg1, V_main_arg2, V_main_arg3, V_main_arg4, V_main_arg5])

/-! ### Output window 12: the array after the run -/

/-- What the window's array ends holding: `out0_12` applied to the argument arrays in place of the input blocks (a value that the
    frame states apart, `kK_payN a…`, keeps its loads inside its own definition). -/
abbrev G12 (a0 : Vec F S2x128x2048 .bf16) (a1 : Vec F S2x128x896 .bf16) (a2 : Vec F S151936x2048 .fp8e4m3) (a3 : Vec F S151936 .f32) (a4 : Vec F S151936x896 .fp8e4m3) (a5 : Vec F S151936 .f32) : Vec F S2x128 .f32 :=
  k0_pay24 (k0_pay8 (k0_pay28 a0 a1 a2 a3 a4 a5) (k0_pay29 a0 a1 a2 a3 a4 a5))

/-- The one store through the whole rectangle leaves its payload. -/
theorem out12_eq (a0 : Vec F S2x128x2048 .bf16) (a1 : Vec F S2x128x896 .bf16) (a2 : Vec F S151936x2048 .fp8e4m3) (a3 : Vec F S151936 .f32) (a4 : Vec F S151936x896 .fp8e4m3) (a5 : Vec F S151936 .f32) : out0_12 (F := F) a0 a1 a2 a3 a4 a5 = G12 a0 a1 a2 a3 a4 a5 := by
  unfold out0_12
  rw [View.canon_unit_zero hz12]

/-- Cutting the point's block out of `X` and reading `X` through the block's view give the same. -/
theorem cut12_eq (t : Fin cfg0.N) (X : Vec F S2x128 .f32) :
    (cfg0.win 12).cut (grid0.coords t) X = ((cfg0.win 12).blk t).view.read (Elt F) X := by
  funext j
  show X j = X (((cfg0.win 12).blk t).view.emb j)
  rw [emb12]

/-- WHAT THE POINT WRITES BACK is its block of `G12` of the argument arrays as the region finds them. -/
theorem flushed12_eq (c : Dev nD) (t : Fin cfg0.N) :
    (dats m 0 c).flushed 12 t = ((cfg0.win 12).blk t).view.read (Elt F) (G12 (V m c main_arg0) (V m c main_arg1) (V m c main_arg2) (V m c main_arg3) (V m c main_arg4) (V m c main_arg5)) := by
  show (cfg0.win 12).cut (grid0.coords t) ((dats m 0 c).after 12 t) = _
  rw [after0_12, out12_eq, iblk0_eq, iblk1_eq, iblk2_eq, iblk3_eq, iblk4_eq, iblk5_eq]
  exact cut12_eq t _

/-- Every index of the array is in the point's block. -/
theorem covered12 (i : S2x128.Idx) :
    ∃ t : Fin cfg0.N, (cfg0.win 12).flush t = true ∧ i ∈ ((cfg0.win 12).blk t).view.set :=
  ⟨(⟨0, by decide⟩ : Fin cfg0.N), flush0_12 _, by have h := ((cfg0.win 12).blk (⟨0, by decide⟩ : Fin cfg0.N)).view.emb_mem_set i; rwa [emb12] at h⟩

/-- THE ARRAY after the run: `G12` of the argument arrays as launched. -/
theorem final12 (c : Dev nD) : (dats m 0 c).arrAt 12 cfg0.N = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 12 (G12 (V m c main_arg0) (V m c main_arg1) (V m c main_arg2) (V m c main_arg3) (V m c main_arg4) (V m c main_arg5)) (fun t _ => flushed12_eq m c t) covered12).trans (by rw [V_main_arg0, V_main_arg1, V_main_arg2, V_main_arg3, V_main_arg4, V_main_arg5])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_3) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_4) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_5) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_6) = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      (post8 m r h c).trans (final8 m c),
      (post9 m r h c).trans (final9 m c),
      (post10 m r h c).trans (final10 m c),
      (post11 m r h c).trans (final11 m c),
      (post12 m r h c).trans (final12 m c),
      kept_main_arg0 m r h c,
      kept_main_arg1 m r h c,
      kept_main_arg2 m r h c,
      kept_main_arg3 m r h c,
      kept_main_arg4 m r h c,
      kept_main_arg5 m r h c⟩)
    (run_main m ρ)

end Cert.ReferenceIdeal.Value

end
-- ==== Proof.ReferenceIdeal.Scales.lean ====
module

public import proofs.«01_k».proof.Proof.ReferenceIdeal.Run
public import proofs.«01_k».proof.Proof.Math.Target
public import Idealize.ShloMosaic.Lib.Pointwise

@[expose] public section

set_option maxRecDepth 16384

noncomputable section

namespace Cert.ReferenceIdeal.Hand

open Idealize.ShloMosaic Idealize.ShloMosaic.TcCoe Finset
open Cert.ReferenceIdeal.Gen Cert.Quant

/-! The reference's scales and codes read at an index. -/

theorem ofBits_ninf : Ideal.ofBits .f32 0xFF800000#32 = ⊥ := by simp [Ideal.ofBits, Ideal.ieee]

/-- A fold of `max` from `⊥` is the supremum. -/
theorem fold_max_bot {ι : Type} (S : Finset ι) (f : ι → EReal) : S.fold max ⊥ f = S.sup f := by
  classical
  induction S using Finset.induction_on with
  | empty => simp
  | insert a s ha ih => rw [Finset.fold_insert ha, Finset.sup_insert, ih]

theorem log2e_named : (Named.named (F := Ideal) (φ := .f32) κ "log2e" 0x3FB8AA3B#32 : EReal) = ((Real.log 2)⁻¹ : ℝ) := IdealRules.named_const.ideal_named_scalar _ _ _ _ rfl
theorem ln2_named : (Named.named (F := Ideal) (φ := .f32) κ "ln2" 0x3F317218#32 : EReal) = (Real.log 2 : ℝ) := IdealRules.named_const.ideal_named_scalar _ _ _ _ rfl
theorem logv_named : (Named.named (F := Ideal) (φ := .f32) κ "log_v" 0x413EE641#32 : EReal) = (Real.log 151936 : ℝ) := IdealRules.named_const.ideal_named_scalar _ _ _ _ rfl

/-- A token's row of the teacher's hidden states. -/
def rowT (v : Vec Ideal S2x128x2048 .bf16) (n : Fin 256) (d : Fin 2048) : EReal := v (ix3 ⟨n.val / 128, by omega⟩ ⟨n.val % 128, by omega⟩ d)
/-- A token's row of the student's hidden states. -/
def rowS (v : Vec Ideal S2x128x896 .bf16) (n : Fin 256) (d : Fin 896) : EReal := v (ix3 ⟨n.val / 128, by omega⟩ ⟨n.val % 128, by omega⟩ d)

/-- The scale from the row's maximum. -/
def scaleOf (v4 : FVec Ideal S256 .f32) : FVec Ideal S256x1 .f32 :=
  have v5 : FVec Ideal S256x1 .f32 := shapeCast S256x1 v4 shapeCasts_S256_S256x1
  have v7 : FVec Ideal S256x1 .f32 := mulf v5 (broadcast S256x1 (Scalar.ofBits .f32 0x3B124925#32))
  have v12 : FVec Ideal S256x1 .f32 := mulf (log v7) (broadcast S256x1 (Named.named κ "log2e" 0x3FB8AA3B#32))
  have v15 : FVec Ideal S256x1 .f32 := addf (floor v12) (broadcast S256x1 (Scalar.ofBits .f32 0x3F800000#32))
  have v17 : FVec Ideal S256x1 .f32 := select (cmpf .olt v7 (broadcast S256x1 (Scalar.ofBits .f32 0x00800000#32))) (broadcast S256x1 (Scalar.ofBits .f32 0x00000000#32)) v15
  exp (mulf v17 (broadcast S256x1 (Named.named κ "ln2" 0x3F317218#32)))

theorem scaleOf_apply (v4 : FVec Ideal S256 .f32) (n : Fin 256) : scaleOf v4 (ix2 n 0) = scaleRef ((v4 (ix1 n) : EReal) * Ideal.ofBits .f32 0x3B124925#32) := by
  pointwise [scaleOf]
  rw [tiny_eq, log2e_named, ln2_named]; unfold scaleRef; congr

theorem maxT (v0 : Vec Ideal S2x128x2048 .bf16) (n : Fin 256) :
    (multiReduction .maximumf [1] S256 (absf (k0_pay1 v0)) 0xFF800000#32 reduces_S256x2048_S256 (.inl rfl) rfl : FVec Ideal S256 .f32) (ix1 n)
      = univ.sup fun d => max (rowT v0 n d) (-(rowT v0 n d)) := by
  pointwise [k0_pay1]
  rw [ofBits_ninf, fold_max_bot]; rfl

theorem maxS (v0 : Vec Ideal S2x128x896 .bf16) (n : Fin 256) :
    (multiReduction .maximumf [1] S256 (absf (k0_pay4 v0)) 0xFF800000#32 reduces_S256x896_S256 (.inl rfl) rfl : FVec Ideal S256 .f32) (ix1 n)
      = univ.sup fun d => max (rowS v0 n d) (-(rowS v0 n d)) := by
  pointwise [k0_pay4]
  rw [ofBits_ninf, fold_max_bot]; rfl

theorem scaleT_eq (v0 : Vec Ideal S2x128x2048 .bf16) : k0_pay2 v0 = scaleOf (multiReduction .maximumf [1] S256 (absf (k0_pay1 v0)) 0xFF800000#32 reduces_S256x2048_S256 (.inl rfl) rfl) := rfl
theorem scaleS_eq (v0 : Vec Ideal S2x128x896 .bf16) : k0_pay8 (k0_pay6 v0) (k0_pay7 v0) = scaleOf (multiReduction .maximumf [1] S256 (absf (k0_pay4 v0)) 0xFF800000#32 reduces_S256x896_S256 (.inl rfl) rfl) := rfl

theorem scaleT_apply (v0 : Vec Ideal S2x128x2048 .bf16) (n : Fin 256) : k0_pay2 v0 (ix2 n 0) = scaleRef (rowMax (rowT v0 n)) := by
  rw [scaleT_eq, scaleOf_apply, maxT]; rfl

theorem scaleS_apply (v0 : Vec Ideal S2x128x896 .bf16) (n : Fin 256) : k0_pay8 (k0_pay6 v0) (k0_pay7 v0) (ix2 n 0) = scaleRef (rowMax (rowS v0 n)) := by
  rw [scaleS_eq, scaleOf_apply, maxS]; rfl

/-- The codes from the values and the scales. -/
def codesOfT (x : FVec Ideal S256x2048 .f32) (s : FVec Ideal S256x1 .f32) : FVec Ideal S256x2048 .fp8e4m3 :=
  truncf .fp8e4m3 (minimumf (broadcast S256x2048 (Scalar.ofBits .f32 0x43E00000#32)) (maximumf (broadcast S256x2048 (Scalar.ofBits .f32 0xC3E00000#32))
    (divf x (broadcastTo S256x2048 s broadcasts_S256x1_S256x2048)))) bitsLt_fp8e4m3_f32
def codesOfS (x : FVec Ideal S256x896 .f32) (s : FVec Ideal S256x1 .f32) : FVec Ideal S256x896 .fp8e4m3 :=
  truncf .fp8e4m3 (minimumf (broadcast S256x896 (Scalar.ofBits .f32 0x43E00000#32)) (maximumf (broadcast S256x896 (Scalar.ofBits .f32 0xC3E00000#32))
    (divf x (broadcastTo S256x896 s broadcasts_S256x1_S256x896)))) bitsLt_fp8e4m3_f32

theorem codesOfT_apply (x : FVec Ideal S256x2048 .f32) (s : FVec Ideal S256x1 .f32) (n : Fin 256) (d : Fin 2048) :
    codesOfT x s (ix2 n d) = clip (Ideal.div (x (ix2 n d)) (s (ix2 n 0))) := by
  pointwise [codesOfT]
  rfl
theorem codesOfS_apply (x : FVec Ideal S256x896 .f32) (s : FVec Ideal S256x1 .f32) (n : Fin 256) (d : Fin 896) :
    codesOfS x s (ix2 n d) = clip (Ideal.div (x (ix2 n d)) (s (ix2 n 0))) := by
  pointwise [codesOfS]
  rfl

theorem pay3_eq (v0 : Vec Ideal S2x128x2048 .bf16) : k0_pay3 v0 = codesOfT (k0_pay1 v0) (k0_pay2 v0) := rfl
theorem pay9_eq (x : FVec Ideal S256x896 .f32) (p : IVec S256x1 1) (q : FVec Ideal S256x1 .f32) : k0_pay9 x p q = codesOfS x (k0_pay8 p q) := rfl

theorem rowT_apply (v0 : Vec Ideal S2x128x2048 .bf16) (n : Fin 256) (d : Fin 2048) : k0_pay1 v0 (ix2 n d) = rowT v0 n d := by
  pointwise [k0_pay1]; rfl
theorem rowS_apply (v0 : Vec Ideal S2x128x896 .bf16) (n : Fin 256) (d : Fin 896) : k0_pay4 v0 (ix2 n d) = rowS v0 n d := by
  pointwise [k0_pay4]; rfl

theorem codesT_apply (v0 : Vec Ideal S2x128x2048 .bf16) (n : Fin 256) (d : Fin 2048) : k0_pay3 v0 (ix2 n d) = Target.code (rowT v0 n) d := by
  rw [pay3_eq, codesOfT_apply, scaleT_apply, rowT_apply, Target.code]

theorem codesS_apply (v0 : Vec Ideal S2x128x896 .bf16) (n : Fin 256) (d : Fin 896) :
    k0_pay9 (k0_pay4 v0) (k0_pay6 v0) (k0_pay7 v0) (ix2 n d) = Target.code (rowS v0 n) d := by
  rw [pay9_eq, codesOfS_apply, scaleS_apply, rowS_apply, Target.code]

end Cert.ReferenceIdeal.Hand
-- ==== Proof.ReferenceIdeal.Logits.lean ====
module

public import proofs.«01_k».proof.Proof.ReferenceIdeal.Scales

@[expose] public section

set_option maxRecDepth 16384

noncomputable section

namespace Cert.ReferenceIdeal.Hand

open Idealize.ShloMosaic Idealize.ShloMosaic.TcCoe Finset
open Cert.ReferenceIdeal.Gen Cert.Quant

/-! The reference's logits read at an index. -/

/-- The student's logits from the codes and the scales. -/
def logitsOfS (x : FVec Ideal S256x896 .fp8e4m3) (s : FVec Ideal S256x1 .f32) (w : Vec Ideal S151936x896 .fp8e4m3) (r : Vec Ideal S151936 .f32) : FVec Ideal S256x151936 .f32 :=
  divf (mulf (mulf (matmul (φ₂ := .fp8e4m3) dot_S256x896_S151936x896_S256x151936_1_1_0_0_n_n none x w (constant S256x151936 .f32 0x00000000#32))
    (broadcastTo S256x151936 s broadcasts_S256x1_S256x151936))
    (broadcastTo S256x151936 (shapeCast S1x151936 r shapeCasts_S151936_S1x151936) broadcasts_S1x151936_S256x151936))
    (broadcast S256x151936 (Scalar.ofBits .f32 0x40000000#32))

theorem logitsOfT_apply (s : FVec Ideal S256x1 .f32) (x : FVec Ideal S256x2048 .fp8e4m3) (w : Vec Ideal S151936x2048 .fp8e4m3) (r : Vec Ideal S151936 .f32) (n : Fin 256) (v : Fin 151936) :
    k0_pay10 s x w r (ix2 n v) = Ideal.div ((∑ d, (x (ix2 n d) : EReal) * w (ix2 v d)) * s (ix2 n 0) * r (ix1 v)) (Ideal.ofBits .f32 0x40000000#32) := by
  pointwise [k0_pay10]
theorem logitsOfS_apply (s : FVec Ideal S256x1 .f32) (x : FVec Ideal S256x896 .fp8e4m3) (w : Vec Ideal S151936x896 .fp8e4m3) (r : Vec Ideal S151936 .f32) (n : Fin 256) (v : Fin 151936) :
    logitsOfS x s w r (ix2 n v) = Ideal.div ((∑ d, (x (ix2 n d) : EReal) * w (ix2 v d)) * s (ix2 n 0) * r (ix1 v)) (Ideal.ofBits .f32 0x40000000#32) := by
  pointwise [logitsOfS]

theorem pay11_eq (x : FVec Ideal S256x896 .f32) (p : IVec S256x1 1) (q : FVec Ideal S256x1 .f32) (w : Vec Ideal S151936x896 .fp8e4m3) (r : Vec Ideal S151936 .f32) :
    k0_pay11 x p q w r = logitsOfS (k0_pay9 x p q) (k0_pay8 p q) w r := rfl

theorem logitsT_apply (v0 : Vec Ideal S2x128x2048 .bf16) (w : Vec Ideal S151936x2048 .fp8e4m3) (r : Vec Ideal S151936 .f32) (n : Fin 256) (v : Fin 151936) :
    k0_pay10 (k0_pay2 v0) (k0_pay3 v0) w r (ix2 n v) = Target.logits (rowT v0 n) (fun v d => w (ix2 v d)) (fun v => r (ix1 v)) v := by
  rw [logitsOfT_apply, scaleT_apply, Finset.sum_congr rfl fun d _ => by rw [codesT_apply v0 n d]]
  rw [Target.logits]

theorem logitsS_apply (v0 : Vec Ideal S2x128x896 .bf16) (w : Vec Ideal S151936x896 .fp8e4m3) (r : Vec Ideal S151936 .f32) (n : Fin 256) (v : Fin 151936) :
    k0_pay11 (k0_pay4 v0) (k0_pay6 v0) (k0_pay7 v0) w r (ix2 n v) = Target.logits (rowS v0 n) (fun v d => w (ix2 v d)) (fun v => r (ix1 v)) v := by
  rw [pay11_eq, logitsOfS_apply, scaleS_apply, Finset.sum_congr rfl fun d _ => by rw [codesS_apply v0 n d]]
  rw [Target.logits]

end Cert.ReferenceIdeal.Hand
-- ==== Proof.ReferenceIdeal.Sums.lean ====
module

public import proofs.«01_k».proof.Proof.ReferenceIdeal.Scales

@[expose] public section

set_option maxRecDepth 16384

noncomputable section

namespace Cert.ReferenceIdeal.Hand

open Idealize.ShloMosaic Idealize.ShloMosaic.TcCoe Finset
open Cert.ReferenceIdeal.Gen Cert.Quant

/-! The reference's maxima, sums of exponentials, log-sum-exps and divergence read at an index. -/

section
variable (v20 : FVec Ideal S256x1 .f32) (v27 : FVec Ideal S256x2048 .fp8e4m3) (w : Vec Ideal S151936x2048 .fp8e4m3) (r : Vec Ideal S151936 .f32)
  (y : FVec Ideal S256x151936 .f32) (b : Fin 2) (i : Fin 128)

/-- The token of batch entry `b` and position `i`. -/
def token (b : Fin 2) (i : Fin 128) : Fin 256 := ⟨b.val * 128 + i.val, by omega⟩

theorem maxT_apply (n : Fin 256) : k0_pay12 v20 v27 w r (ix2 n 0) = univ.sup fun v => (k0_pay10 v20 v27 w r (ix2 n v) : EReal) := by
  pointwise [k0_pay12]
  rw [ofBits_ninf, fold_max_bot]

theorem shiftT_apply (n : Fin 256) (v : Fin 151936) : k0_pay13 v20 v27 w r (ix2 n v) = (k0_pay10 v20 v27 w r (ix2 n v) : EReal) - univ.sup fun v => (k0_pay10 v20 v27 w r (ix2 n v) : EReal) := by
  pointwise [k0_pay13]
  rw [maxT_apply]

theorem expT_apply (n : Fin 256) (v : Fin 151936) : k0_pay14 v20 v27 w r (ix2 n v) = Ideal.exp (k0_pay13 v20 v27 w r (ix2 n v)) := by
  pointwise [k0_pay14]

theorem sumT_apply (n : Fin 256) : k0_pay15 v20 v27 w r (ix2 n 0) = ∑ v, (k0_pay14 v20 v27 w r (ix2 n v) : EReal) := by
  pointwise [k0_pay15]

/-- The log-sum-exp of maxima and sums. -/
theorem lseOf_apply (p q : FVec Ideal S256x1 .f32) : k0_pay21 p q (ix2 b i) = (p (ix2 (token b i) 0) : EReal) + Ideal.log (q (ix2 (token b i) 0)) - (Real.log 151936 : ℝ) := by
  pointwise [k0_pay21, k0_pay18]
  rw [logv_named]; rfl

theorem lseT_apply : k0_pay21 (k0_pay12 v20 v27 w r) (k0_pay15 v20 v27 w r) (ix2 b i) = Target.lse fun v => k0_pay10 v20 v27 w r (ix2 (token b i) v) := by
  rw [lseOf_apply, maxT_apply, sumT_apply, Finset.sum_congr rfl fun v _ => by rw [expT_apply, shiftT_apply]]
  rw [Target.lse]

theorem maxS_apply (n : Fin 256) : k0_pay16 y (ix2 n 0) = univ.sup fun v => (y (ix2 n v) : EReal) := by
  pointwise [k0_pay16]
  rw [ofBits_ninf, fold_max_bot]

/-- The steps of the student's log-sum-exp, each of any arguments. -/
def shiftBy (y : FVec Ideal S256x151936 .f32) (p : FVec Ideal S256x1 .f32) : FVec Ideal S256x151936 .f32 :=
  subf y (broadcastTo S256x151936 p broadcasts_S256x1_S256x151936)
def logSum (x : FVec Ideal S256x151936 .f32) : FVec Ideal S256x1 .f32 :=
  log (shapeCast S256x1 (multiReduction .add [1] S256 (exp x) 0x00000000#32 reduces_S256x151936_S256 (.inl rfl) rfl) shapeCasts_S256_S256x1)
def relOf (p q : FVec Ideal S256x1 .f32) : FVec Ideal S2x128 .f32 :=
  shapeCast S2x128 (subf (addf p q) (broadcast S256x1 (Named.named κ "log_v" 0x413EE641#32))) shapeCasts_S256x1_S2x128

theorem shiftBy_apply (p : FVec Ideal S256x1 .f32) (n : Fin 256) (v : Fin 151936) : shiftBy y p (ix2 n v) = (y (ix2 n v) : EReal) - p (ix2 n 0) := by
  pointwise [shiftBy]
theorem logSum_apply (n : Fin 256) : logSum y (ix2 n 0) = Ideal.log (∑ v, Ideal.exp (y (ix2 n v))) := by
  pointwise [logSum]
theorem relOf_apply (p q : FVec Ideal S256x1 .f32) : relOf p q (ix2 b i) = (p (ix2 (token b i) 0) : EReal) + q (ix2 (token b i) 0) - (Real.log 151936 : ℝ) := by
  pointwise [relOf]
  rw [logv_named]; rfl

theorem pay17_eq : k0_pay17 y = shiftBy y (k0_pay16 y) := by unfold k0_pay17 shiftBy; rfl
theorem pay19_eq : k0_pay19 y = logSum (k0_pay17 y) := by unfold k0_pay19 logSum; rfl
theorem pay22_eq : k0_pay22 y = relOf (k0_pay16 y) (k0_pay19 y) := by unfold k0_pay22 relOf; rfl

theorem shiftS_apply (n : Fin 256) (v : Fin 151936) : k0_pay17 y (ix2 n v) = (y (ix2 n v) : EReal) - univ.sup fun v => (y (ix2 n v) : EReal) := by
  rw [pay17_eq, shiftBy_apply, maxS_apply]

theorem logS_apply (n : Fin 256) : k0_pay19 y (ix2 n 0) = Ideal.log (∑ v, Ideal.exp ((y (ix2 n v) : EReal) - univ.sup fun v => (y (ix2 n v) : EReal))) := by
  rw [pay19_eq, logSum_apply, Finset.sum_congr rfl fun v _ => by rw [shiftS_apply]]

theorem lseS_apply : k0_pay22 y (ix2 b i) = Target.lse fun v => y (ix2 (token b i) v) := by
  rw [pay22_eq, relOf_apply, maxS_apply, logS_apply]
  rw [Target.lse]

theorem klOf_apply (y a e : FVec Ideal S256x151936 .f32) (q : FVec Ideal S256x1 .f32) : k0_pay20 y a e q (ix2 b i)
    = Ideal.div (∑ v, (e (ix2 (token b i) v) : EReal) * ((a (ix2 (token b i) v) : EReal) - k0_pay17 y (ix2 (token b i) v))) (q (ix2 (token b i) 0))
      - Ideal.log (q (ix2 (token b i) 0)) + k0_pay19 y (ix2 (token b i) 0) := by
  pointwise [k0_pay20, k0_pay18]
  rfl

theorem kl_apply : k0_pay20 y (k0_pay13 v20 v27 w r) (k0_pay14 v20 v27 w r) (k0_pay15 v20 v27 w r) (ix2 b i)
    = Target.kl (fun v => k0_pay10 v20 v27 w r (ix2 (token b i) v)) (fun v => y (ix2 (token b i) v)) := by
  rw [klOf_apply, sumT_apply, logS_apply]
  simp only [expT_apply, shiftT_apply, shiftS_apply]
  rw [Target.kl]

end

end Cert.ReferenceIdeal.Hand
-- ==== Proof.ReferenceIdeal.At.lean ====
module

public import proofs.«01_k».proof.Proof.ReferenceIdeal.Logits
public import proofs.«01_k».proof.Proof.ReferenceIdeal.Sums

@[expose] public section

set_option maxRecDepth 16384

noncomputable section

namespace Cert.ReferenceIdeal.Hand

open Idealize.ShloMosaic Idealize.ShloMosaic.TcCoe Finset
open Cert.ReferenceIdeal.Gen Cert.Quant

/-! The reference's results read at an index: each is the problem's mathematics of the token's row of hidden states. -/

theorem castT_apply (s : FVec Ideal S256x1 .f32) (b : Fin 2) (i : Fin 128) : k0_pay23 s (ix2 b i) = s (ix2 (token b i) 0) := by
  pointwise [k0_pay23]; rfl
theorem castS_apply (s : FVec Ideal S256x1 .f32) (b : Fin 2) (i : Fin 128) : k0_pay24 s (ix2 b i) = s (ix2 (token b i) 0) := by
  pointwise [k0_pay24]; rfl

section
variable (a0 : Vec Ideal S2x128x2048 .bf16) (a1 : Vec Ideal S2x128x896 .bf16) (a2 : Vec Ideal S151936x2048 .fp8e4m3) (a3 : Vec Ideal S151936 .f32)
  (a4 : Vec Ideal S151936x896 .fp8e4m3) (a5 : Vec Ideal S151936 .f32)

theorem pay25_eq : k0_pay25 a0 a1 a2 a3 a4 a5 = k0_pay2 a0 := by unfold k0_pay25; rw [View.ld_unit_zero (S := S2x128x2048) Value.hz0 _ a0]
theorem pay26_eq : k0_pay26 a0 a1 a2 a3 a4 a5 = k0_pay3 a0 := by unfold k0_pay26; rw [View.ld_unit_zero (S := S2x128x2048) Value.hz0 _ a0]
theorem pay27_eq : k0_pay27 a0 a1 a2 a3 a4 a5 = k0_pay4 a1 := by unfold k0_pay27; rw [View.ld_unit_zero (S := S2x128x896) Value.hz1 _ a1]
theorem pay28_eq : k0_pay28 a0 a1 a2 a3 a4 a5 = k0_pay6 a1 := by unfold k0_pay28; rw [View.ld_unit_zero (S := S2x128x896) Value.hz1 _ a1]
theorem pay29_eq : k0_pay29 a0 a1 a2 a3 a4 a5 = k0_pay7 a1 := by unfold k0_pay29; rw [View.ld_unit_zero (S := S2x128x896) Value.hz1 _ a1]
theorem pay30_eq : k0_pay30 a0 a1 a2 a3 a4 a5 = k0_pay11 (k0_pay4 a1) (k0_pay6 a1) (k0_pay7 a1) a4 a5 := by
  unfold k0_pay30; rw [pay27_eq, pay28_eq, pay29_eq, View.ld_unit_zero (S := S151936x896) Value.hz4 _ a4, View.ld_unit_zero (S := S151936) Value.hz5 _ a5]
theorem pay31_eq : k0_pay31 a0 a1 a2 a3 a4 a5 = k0_pay15 (k0_pay2 a0) (k0_pay3 a0) a2 a3 := by
  unfold k0_pay31; rw [pay25_eq, pay26_eq, View.ld_unit_zero (S := S151936x2048) Value.hz2 _ a2, View.ld_unit_zero (S := S151936) Value.hz3 _ a3]

/-- The teacher's logits of a token. -/
def zT (n : Fin 256) : Fin 151936 → EReal := Target.logits (rowT a0 n) (fun v d => a2 (ix2 v d)) (fun v => a3 (ix1 v))
/-- The student's logits of a token. -/
def zS (n : Fin 256) : Fin 151936 → EReal := Target.logits (rowS a1 n) (fun v d => a4 (ix2 v d)) (fun v => a5 (ix1 v))

theorem G6_apply (b : Fin 2) (i : Fin 128) : Value.G6 a0 a1 a2 a3 a4 a5 (ix2 b i) = Target.kl (zT a0 a2 a3 (token b i)) (zS a1 a4 a5 (token b i)) := by
  show k0_pay20 (k0_pay30 a0 a1 a2 a3 a4 a5) (k0_pay13 (k0_pay25 a0 a1 a2 a3 a4 a5) (k0_pay26 a0 a1 a2 a3 a4 a5) a2 a3)
    (k0_pay14 (k0_pay25 a0 a1 a2 a3 a4 a5) (k0_pay26 a0 a1 a2 a3 a4 a5) a2 a3) (k0_pay31 a0 a1 a2 a3 a4 a5) (ix2 b i) = _
  rw [pay30_eq, pay31_eq, pay25_eq, pay26_eq, kl_apply, funext (logitsT_apply a0 a2 a3 (token b i)), funext (logitsS_apply a1 a4 a5 (token b i))]; rfl
theorem G7_apply (b : Fin 2) (i : Fin 128) : Value.G7 a0 a1 a2 a3 a4 a5 (ix2 b i) = Target.lse (zT a0 a2 a3 (token b i)) := by
  show k0_pay21 (k0_pay12 (k0_pay25 a0 a1 a2 a3 a4 a5) (k0_pay26 a0 a1 a2 a3 a4 a5) a2 a3) (k0_pay31 a0 a1 a2 a3 a4 a5) (ix2 b i) = _
  rw [pay31_eq, pay25_eq, pay26_eq, lseT_apply, funext (logitsT_apply a0 a2 a3 (token b i))]; rfl
theorem G8_apply (b : Fin 2) (i : Fin 128) : Value.G8 a0 a1 a2 a3 a4 a5 (ix2 b i) = Target.lse (zS a1 a4 a5 (token b i)) := by
  show k0_pay22 (k0_pay30 a0 a1 a2 a3 a4 a5) (ix2 b i) = _
  rw [pay30_eq, lseS_apply, funext (logitsS_apply a1 a4 a5 (token b i))]; rfl
theorem G9_apply (n : Fin 256) (d : Fin 2048) : Value.G9 a0 a1 a2 a3 a4 a5 (ix2 n d) = Target.code (rowT a0 n) d := by
  show k0_pay26 a0 a1 a2 a3 a4 a5 (ix2 n d) = _
  rw [pay26_eq, codesT_apply]
theorem G10_apply (b : Fin 2) (i : Fin 128) : Value.G10 a0 a1 a2 a3 a4 a5 (ix2 b i) = scaleRef (rowMax (rowT a0 (token b i))) := by
  show k0_pay23 (k0_pay25 a0 a1 a2 a3 a4 a5) (ix2 b i) = _
  rw [pay25_eq, ← scaleT_apply, castT_apply]
theorem G11_apply (n : Fin 256) (d : Fin 896) : Value.G11 a0 a1 a2 a3 a4 a5 (ix2 n d) = Target.code (rowS a1 n) d := by
  show k0_pay9 (k0_pay27 a0 a1 a2 a3 a4 a5) (k0_pay28 a0 a1 a2 a3 a4 a5) (k0_pay29 a0 a1 a2 a3 a4 a5) (ix2 n d) = _
  rw [pay27_eq, pay28_eq, pay29_eq, codesS_apply]
theorem G12_apply (b : Fin 2) (i : Fin 128) : Value.G12 a0 a1 a2 a3 a4 a5 (ix2 b i) = scaleRef (rowMax (rowS a1 (token b i))) := by
  show k0_pay24 (k0_pay8 (k0_pay28 a0 a1 a2 a3 a4 a5) (k0_pay29 a0 a1 a2 a3 a4 a5)) (ix2 b i) = _
  rw [pay28_eq, pay29_eq, ← scaleS_apply, castS_apply]

end

end Cert.ReferenceIdeal.Hand
-- ==== Proof.Equation.lean ====
module

public import proofs.«01_k».proof.Defs
public import proofs.«01_k».proof.Proof.Precondition
public import proofs.«01_k».proof.Proof.Gen.Pre_hidden_finite
public import proofs.«01_k».proof.Proof.KernelIdeal.Final
public import proofs.«01_k».proof.Proof.KernelIdeal.Instance
public import proofs.«01_k».proof.Proof.ReferenceIdeal.At
public import proofs.«01_k».proof.Proof.ReferenceIdeal.Run

@[expose] public section

noncomputable section

namespace Cert.Equation

open Idealize.ShloMosaic Idealize.ShloMosaic.TcCoe Idealize.SL.Sem
open Cert.KernelIdeal Cert.KernelIdeal.Hand

/-! The equation: on bounded hidden states the kernel leaves in its seven results what the reference computes of the same arguments. -/

variable (m : (l : Loc nD τ sig) → Vec Ideal l.ty.shape l.ty.elt) (c : Dev nD)

/-- The precondition bounds the hidden states. -/
theorem bounded (h : Cert.Pre_KernelIdeal_hidden_finite m) : Bounded m c := by
  obtain ⟨ht, hs⟩ := Cert.Pre_hidden_finite.bounded _ _ _ _ _ _ (h c)
  exact ⟨fun n d => ht _, fun n d => hs _⟩

/-- What the reference computes of the kernel's arguments. -/
def v0 := Cert.ReferenceIdeal.Value.G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
def v1 := Cert.ReferenceIdeal.Value.G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
def v2 := Cert.ReferenceIdeal.Value.G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
def v3 := Cert.ReferenceIdeal.Value.G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
def v4 := Cert.ReferenceIdeal.Value.G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
def v5 := Cert.ReferenceIdeal.Value.G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
def v6 := Cert.ReferenceIdeal.Value.G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-! An array of which the kernel's specification holds is the reference's. -/

theorem eq0 (X : Vec Ideal S2x128 .f32) (h : R6 m c X) : X = v0 m c := by
  funext z; idx_vars z
  unfold v0; rw [Cert.ReferenceIdeal.Hand.G6_apply]; exact h z0 z1
theorem eq1 (X : Vec Ideal S2x128 .f32) (h : R7 m c X) : X = v1 m c := by
  funext z; idx_vars z
  unfold v1; rw [Cert.ReferenceIdeal.Hand.G7_apply]; exact h z0 z1
theorem eq2 (X : Vec Ideal S2x128 .f32) (h : R8 m c X) : X = v2 m c := by
  funext z; idx_vars z
  unfold v2; rw [Cert.ReferenceIdeal.Hand.G8_apply]; exact h z0 z1
theorem eq3 (X : Vec Ideal S256x2048 .fp8e4m3) (h : R9 m c X) : X = v3 m c := by
  funext z; idx_vars z
  unfold v3; rw [Cert.ReferenceIdeal.Hand.G9_apply]; exact h z0 z1
theorem eq4 (X : Vec Ideal S2x128 .f32) (h : R10 m c X) : X = v4 m c := by
  funext z; idx_vars z
  unfold v4; rw [Cert.ReferenceIdeal.Hand.G10_apply]; exact h z0 z1
theorem eq5 (X : Vec Ideal S256x896 .fp8e4m3) (h : R11 m c X) : X = v5 m c := by
  funext z; idx_vars z
  unfold v5; rw [Cert.ReferenceIdeal.Hand.G11_apply]; exact h z0 z1
theorem eq6 (X : Vec Ideal S2x128 .f32) (h : R12 m c X) : X = v6 m c := by
  funext z; idx_vars z
  unfold v6; rw [Cert.ReferenceIdeal.Hand.G12_apply]; exact h z0 z1

/-- Kernel and reference compute the same seven arrays over the extended reals. -/
theorem algebraic : Cert.algebraic_KernelIdeal_ReferenceIdeal_pre_hidden_finite := by
  intro m g m' g' hpre ha
  have hb : ∀ c, Bounded m c := fun c => bounded m c hpre
  refine ⟨v0 m, v1 m, v2 m, v3 m, v4 m, v5 m, v6 m, ?_, ?_⟩
  · refine (θ_run Cert.KernelIdeal.defs _ _).mono ?_ (run_spec g (fun c => (hb c).spec))
    rintro r ⟨h, -⟩ c
    exact ⟨eq0 m c _ ((hb c).spec.final6 _ ((h c).1 6)),
      eq1 m c _ ((hb c).spec.final7 _ ((h c).1 7)),
      eq2 m c _ ((hb c).spec.final8 _ ((h c).1 8)),
      eq3 m c _ ((hb c).spec.final9 _ ((h c).1 9)),
      eq4 m c _ ((hb c).spec.final10 _ ((h c).1 10)),
      eq5 m c _ ((hb c).spec.final11 _ ((h c).1 11)),
      eq6 m c _ ((hb c).spec.final12 _ ((h c).1 12)),
      args_of_post (fun c => (hb c).spec) r h c⟩
  · refine (θ_run Cert.ReferenceIdeal.defs _ _).mono ?_ (Cert.ReferenceIdeal.Value.run m' g')
    intro r h c
    have hc := h c
    obtain ⟨e0, e1, e2, e3, e4, e5⟩ := ha c
    rw [e0, e1, e2, e3, e4, e5] at hc
    rw [e0, e1, e2, e3, e4, e5]
    exact hc

end Cert.Equation

end
-- ==== Proof.lean ====
module

public import proofs.«01_k».proof.Defs
public import proofs.«01_k».proof.Proof.Kernel.Body
public import proofs.«01_k».proof.Proof.KernelIdeal.Body
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Reference
public import proofs.«01_k».proof.Proof.Gen.Reference.Frame
public import proofs.«01_k».proof.Proof.Gen.Pre_hidden_finite
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel's named constants are what their words stand for. -/
theorem preserves_kernel : Cert.preserves_Kernel_KernelIdeal :=
  ⟨IdealRules.named_const.statement Cert.KernelIdeal.κ "half_log2e" .f32 0x3F38AA3B#32 _ rfl,
    IdealRules.named_const.statement Cert.KernelIdeal.κ "ln2" .f32 0x3F317218#32 _ rfl,
    IdealRules.named_const.statement Cert.KernelIdeal.κ "log_v" .f32 0x413EE641#32 _ rfl⟩

/-- The reference's named constants are what their words stand for. -/
theorem preserves_reference : Cert.preserves_Reference_ReferenceIdeal :=
  ⟨IdealRules.named_const.statement Cert.ReferenceIdeal.κ "log2e" .f32 0x3FB8AA3B#32 _ rfl,
    IdealRules.named_const.statement Cert.ReferenceIdeal.κ "ln2" .f32 0x3F317218#32 _ rfl,
    IdealRules.named_const.statement Cert.ReferenceIdeal.κ "log_v" .f32 0x413EE641#32 _ rfl⟩

/-- The whole claim. -/
theorem claim : Cert.Claim := ⟨Cert.Kernel.Gen.facts, Cert.KernelIdeal.Gen.facts, Cert.ReferenceIdeal.Gen.facts, Cert.Reference.Gen.facts, Cert.Pre_hidden_finite.Gen.facts,
  fun m ρ _ => Cert.Kernel.Hand.frame m ρ, fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ, fun m ρ _ => Cert.Reference.Gen.frame m ρ,
  preserves_kernel, preserves_reference, Cert.Equation.algebraic⟩

end Cert.Proof

end
